-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MoeUp [hPre_tables_up : Cert.Pre_tables_up.Facts] (m : (ℓ : Loc Cert.MoeUp.nD Cert.MoeUp.τ Cert.MoeUp.sig) → Buf (Elt Bits) ℓ) : Prop :=
  ∀ c : Dev Cert.MoeUp.nD,
    (Cert.Pre_tables_up.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_tables_up : Cert.Pre_tables_up.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_tables_up.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_RefUpIdeal (m : (ℓ : Loc Cert.RefUpIdeal.nD Cert.RefUpIdeal.τ Cert.RefUpIdeal.sig) → Buf (Elt Ideal) ℓ) : Prop :=
  True

def Pre_RefUpIdeal_tables_up [hPre_tables_up : Cert.Pre_tables_up.Facts] (m : (ℓ : Loc Cert.RefUpIdeal.nD Cert.RefUpIdeal.τ Cert.RefUpIdeal.sig) → Buf (Elt Ideal) ℓ) : Prop :=
  ∀ c : Dev Cert.RefUpIdeal.nD,
    (Cert.Pre_tables_up.fn (F := Ideal) (m ((c.tc : Thread Cert.RefUpIdeal.nD Cert.RefUpIdeal.τ).loc Cert.RefUpIdeal.main_arg0)) (m ((c.tc : Thread Cert.RefUpIdeal.nD Cert.RefUpIdeal.τ).loc Cert.RefUpIdeal.main_arg1)) (m ((c.tc : Thread Cert.RefUpIdeal.nD Cert.RefUpIdeal.τ).loc Cert.RefUpIdeal.main_arg2)) (m ((c.tc : Thread Cert.RefUpIdeal.nD Cert.RefUpIdeal.τ).loc Cert.RefUpIdeal.main_arg3)) (m ((c.tc : Thread Cert.RefUpIdeal.nD Cert.RefUpIdeal.τ).loc Cert.RefUpIdeal.main_arg4))) = (fun _ => 1#1)

def Pre_MoeDown [hPre_tables_down : Cert.Pre_tables_down.Facts] (m : (ℓ : Loc Cert.MoeDown.nD Cert.MoeDown.τ Cert.MoeDown.sig) → Buf (Elt Bits) ℓ) : Prop :=
  ∀ c : Dev Cert.MoeDown.nD,
    (Cert.Pre_tables_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_tables_down : Cert.Pre_tables_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_tables_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_RefDownIdeal (m : (ℓ : Loc Cert.RefDownIdeal.nD Cert.RefDownIdeal.τ Cert.RefDownIdeal.sig) → Buf (Elt Ideal) ℓ) : Prop :=
  True

def Pre_RefDownIdeal_tables_down [hPre_tables_down : Cert.Pre_tables_down.Facts] (m : (ℓ : Loc Cert.RefDownIdeal.nD Cert.RefDownIdeal.τ Cert.RefDownIdeal.sig) → Buf (Elt Ideal) ℓ) : Prop :=
  ∀ c : Dev Cert.RefDownIdeal.nD,
    (Cert.Pre_tables_down.fn (F := Ideal) (m ((c.tc : Thread Cert.RefDownIdeal.nD Cert.RefDownIdeal.τ).loc Cert.RefDownIdeal.main_arg0)) (m ((c.tc : Thread Cert.RefDownIdeal.nD Cert.RefDownIdeal.τ).loc Cert.RefDownIdeal.main_arg1)) (m ((c.tc : Thread Cert.RefDownIdeal.nD Cert.RefDownIdeal.τ).loc Cert.RefDownIdeal.main_arg2)) (m ((c.tc : Thread Cert.RefDownIdeal.nD Cert.RefDownIdeal.τ).loc Cert.RefDownIdeal.main_arg3))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_RefEvenIdeal (m : (ℓ : Loc Cert.RefEvenIdeal.nD Cert.RefEvenIdeal.τ Cert.RefEvenIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_RefSsdIdeal (m : (ℓ : Loc Cert.RefSsdIdeal.nD Cert.RefSsdIdeal.τ Cert.RefSsdIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MoeUp [hMoeUp : Cert.MoeUp.Facts] [hPre_tables_up : Cert.Pre_tables_up.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_tables_up : Cert.Pre_tables_up.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4))
      ∧ r.2.sem = fun _ => 0)

def quiescent_RefUpIdeal_pre_tables_up [hRefUpIdeal : Cert.RefUpIdeal.Facts] [hPre_tables_up : Cert.Pre_tables_up.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal_tables_up m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3)
      ∧ r.2.mem ((c.tc : Thread Cert.RefUpIdeal.nD Cert.RefUpIdeal.τ).loc Cert.RefUpIdeal.main_arg4) = m ((c.tc : Thread Cert.RefUpIdeal.nD Cert.RefUpIdeal.τ).loc Cert.RefUpIdeal.main_arg4))
      ∧ r.2.sem = fun _ => 0)

def quiescent_MoeDown [hMoeDown : Cert.MoeDown.Facts] [hPre_tables_down : Cert.Pre_tables_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_tables_down : Cert.Pre_tables_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_RefDownIdeal_pre_tables_down [hRefDownIdeal : Cert.RefDownIdeal.Facts] [hPre_tables_down : Cert.Pre_tables_down.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal_tables_down m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_RefEvenIdeal [hRefEvenIdeal : Cert.RefEvenIdeal.Facts] : Prop :=
  ∀ (m : (ℓ : Loc Cert.RefEvenIdeal.nD Cert.RefEvenIdeal.τ Cert.RefEvenIdeal.sig) → Buf (Elt Ideal) ℓ) (g : Dev Cert.RefEvenIdeal.nD → PrngReg), Pre_RefEvenIdeal m →
    θ_run (Cert.RefEvenIdeal.defs (F := Ideal)) (onTc (τ := Cert.RefEvenIdeal.τ) (Cert.RefEvenIdeal.main (F := Ideal))) ⟨m, fun _ => 0, g⟩ (fun r => (∀ c : Dev Cert.RefEvenIdeal.nD,
      r.2.mem ((c.tc : Thread Cert.RefEvenIdeal.nD Cert.RefEvenIdeal.τ).loc Cert.RefEvenIdeal.main_arg0) = m ((c.tc : Thread Cert.RefEvenIdeal.nD Cert.RefEvenIdeal.τ).loc Cert.RefEvenIdeal.main_arg0)
      ∧ r.2.mem ((c.tc : Thread Cert.RefEvenIdeal.nD Cert.RefEvenIdeal.τ).loc Cert.RefEvenIdeal.main_arg1) = m ((c.tc : Thread Cert.RefEvenIdeal.nD Cert.RefEvenIdeal.τ).loc Cert.RefEvenIdeal.main_arg1)
      ∧ r.2.mem ((c.tc : Thread Cert.RefEvenIdeal.nD Cert.RefEvenIdeal.τ).loc Cert.RefEvenIdeal.main_arg2) = m ((c.tc : Thread Cert.RefEvenIdeal.nD Cert.RefEvenIdeal.τ).loc Cert.RefEvenIdeal.main_arg2)
      ∧ r.2.mem ((c.tc : Thread Cert.RefEvenIdeal.nD Cert.RefEvenIdeal.τ).loc Cert.RefEvenIdeal.main_arg3) = m ((c.tc : Thread Cert.RefEvenIdeal.nD Cert.RefEvenIdeal.τ).loc Cert.RefEvenIdeal.main_arg3))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ r.2.sem = fun _ => 0)

def quiescent_RefSsdIdeal [hRefSsdIdeal : Cert.RefSsdIdeal.Facts] : Prop :=
  ∀ (m : (ℓ : Loc Cert.RefSsdIdeal.nD Cert.RefSsdIdeal.τ Cert.RefSsdIdeal.sig) → Buf (Elt Ideal) ℓ) (g : Dev Cert.RefSsdIdeal.nD → PrngReg), Pre_RefSsdIdeal m →
    θ_run (Cert.RefSsdIdeal.defs (F := Ideal)) (onTc (τ := Cert.RefSsdIdeal.τ) (Cert.RefSsdIdeal.main (F := Ideal))) ⟨m, fun _ => 0, g⟩ (fun r => (∀ c : Dev Cert.RefSsdIdeal.nD,
      r.2.mem ((c.tc : Thread Cert.RefSsdIdeal.nD Cert.RefSsdIdeal.τ).loc Cert.RefSsdIdeal.main_arg0) = m ((c.tc : Thread Cert.RefSsdIdeal.nD Cert.RefSsdIdeal.τ).loc Cert.RefSsdIdeal.main_arg0)
      ∧ r.2.mem ((c.tc : Thread Cert.RefSsdIdeal.nD Cert.RefSsdIdeal.τ).loc Cert.RefSsdIdeal.main_arg1) = m ((c.tc : Thread Cert.RefSsdIdeal.nD Cert.RefSsdIdeal.τ).loc Cert.RefSsdIdeal.main_arg1)
      ∧ r.2.mem ((c.tc : Thread Cert.RefSsdIdeal.nD Cert.RefSsdIdeal.τ).loc Cert.RefSsdIdeal.main_arg2) = m ((c.tc : Thread Cert.RefSsdIdeal.nD Cert.RefSsdIdeal.τ).loc Cert.RefSsdIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MoeUp_MoeUpIdeal : Prop :=
  True

def algebraic_MoeUpIdeal_RefUpIdeal [hMoeUpIdeal : Cert.MoeUpIdeal.Facts] [hRefUpIdeal : Cert.RefUpIdeal.Facts] [hPre_tables_up : Cert.Pre_tables_up.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_MoeUpIdeal m →
    (∀ c : Dev Cert.MoeUpIdeal.nD,
      m' ((c.tc : Thread Cert.RefUpIdeal.nD Cert.RefUpIdeal.τ).loc Cert.RefUpIdeal.main_arg0) = m ((c.tc : Thread Cert.MoeUpIdeal.nD Cert.MoeUpIdeal.τ).loc Cert.MoeUpIdeal.main_arg0)
      ∧ m' ((c.tc : Thread Cert.RefUpIdeal.nD Cert.RefUpIdeal.τ).loc Cert.RefUpIdeal.main_arg1) = m ((c.tc : Thread Cert.MoeUpIdeal.nD Cert.MoeUpIdeal.τ).loc Cert.MoeUpIdeal.main_arg1)
      ∧ m' ((c.tc : Thread Cert.RefUpIdeal.nD Cert.RefUpIdeal.τ).loc Cert.RefUpIdeal.main_arg2) = m ((c.tc : Thread Cert.MoeUpIdeal.nD Cert.MoeUpIdeal.τ).loc Cert.MoeUpIdeal.main_arg2)
      ∧ m' ((c.tc : Thread Cert.RefUpIdeal.nD Cert.RefUpIdeal.τ).loc Cert.RefUpIdeal.main_arg3) = m ((c.tc : Thread Cert.MoeUpIdeal.nD Cert.MoeUpIdeal.τ).loc Cert.MoeUpIdeal.main_arg3)
      ∧ m' ((c.tc : Thread Cert.RefUpIdeal.nD Cert.RefUpIdeal.τ).loc Cert.RefUpIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v97) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3)
          ∧ r.2.mem ((c.tc : Thread Cert.RefUpIdeal.nD Cert.RefUpIdeal.τ).loc Cert.RefUpIdeal.main_arg4) = m' ((c.tc : Thread Cert.RefUpIdeal.nD Cert.RefUpIdeal.τ).loc Cert.RefUpIdeal.main_arg4))

def preserves_MoeDown_MoeDownIdeal : Prop :=
  True

def algebraic_MoeDownIdeal_RefDownIdeal [hMoeDownIdeal : Cert.MoeDownIdeal.Facts] [hRefDownIdeal : Cert.RefDownIdeal.Facts] [hPre_tables_down : Cert.Pre_tables_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_MoeDownIdeal m →
    (∀ c : Dev Cert.MoeDownIdeal.nD,
      m' ((c.tc : Thread Cert.RefDownIdeal.nD Cert.RefDownIdeal.τ).loc Cert.RefDownIdeal.main_arg0) = m ((c.tc : Thread Cert.MoeDownIdeal.nD Cert.MoeDownIdeal.τ).loc Cert.MoeDownIdeal.main_arg0)
      ∧ m' ((c.tc : Thread Cert.RefDownIdeal.nD Cert.RefDownIdeal.τ).loc Cert.RefDownIdeal.main_arg1) = m ((c.tc : Thread Cert.MoeDownIdeal.nD Cert.MoeDownIdeal.τ).loc Cert.MoeDownIdeal.main_arg1)
      ∧ m' ((c.tc : Thread Cert.RefDownIdeal.nD Cert.RefDownIdeal.τ).loc Cert.RefDownIdeal.main_arg2) = m ((c.tc : Thread Cert.MoeDownIdeal.nD Cert.MoeDownIdeal.τ).loc Cert.MoeDownIdeal.main_arg2)
      ∧ m' ((c.tc : Thread Cert.RefDownIdeal.nD Cert.RefDownIdeal.τ).loc Cert.RefDownIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v56) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v5) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v12) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2))

def preserves_EvenOut_EvenOutIdeal : Prop :=
  True

def algebraic_EvenOutIdeal_RefEvenIdeal [hEvenOutIdeal : Cert.EvenOutIdeal.Facts] [hRefEvenIdeal : Cert.RefEvenIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.RefEvenIdeal.nD Cert.RefEvenIdeal.τ Cert.RefEvenIdeal.sig) → Buf (Elt Ideal) ℓ) (g' : Dev Cert.RefEvenIdeal.nD → PrngReg), Pre_EvenOutIdeal m →
    (∀ c : Dev Cert.EvenOutIdeal.nD,
      m' ((c.tc : Thread Cert.RefEvenIdeal.nD Cert.RefEvenIdeal.τ).loc Cert.RefEvenIdeal.main_arg0) = m ((c.tc : Thread Cert.EvenOutIdeal.nD Cert.EvenOutIdeal.τ).loc Cert.EvenOutIdeal.main_arg0)
      ∧ m' ((c.tc : Thread Cert.RefEvenIdeal.nD Cert.RefEvenIdeal.τ).loc Cert.RefEvenIdeal.main_arg1) = m ((c.tc : Thread Cert.EvenOutIdeal.nD Cert.EvenOutIdeal.τ).loc Cert.EvenOutIdeal.main_arg1)
      ∧ m' ((c.tc : Thread Cert.RefEvenIdeal.nD Cert.RefEvenIdeal.τ).loc Cert.RefEvenIdeal.main_arg2) = m ((c.tc : Thread Cert.EvenOutIdeal.nD Cert.EvenOutIdeal.τ).loc Cert.EvenOutIdeal.main_arg2)
      ∧ m' ((c.tc : Thread Cert.RefEvenIdeal.nD Cert.RefEvenIdeal.τ).loc Cert.RefEvenIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.RefEvenIdeal.defs (F := Ideal)) (onTc (τ := Cert.RefEvenIdeal.τ) (Cert.RefEvenIdeal.main (F := Ideal))) ⟨m', fun _ => 0, g'⟩ (fun r => ∀ c : Dev Cert.RefEvenIdeal.nD,
          r.2.mem ((c.tc : Thread Cert.RefEvenIdeal.nD Cert.RefEvenIdeal.τ).loc Cert.RefEvenIdeal.main_v13) = v0 c
          ∧ r.2.mem ((c.tc : Thread Cert.RefEvenIdeal.nD Cert.RefEvenIdeal.τ).loc Cert.RefEvenIdeal.main_arg0) = m' ((c.tc : Thread Cert.RefEvenIdeal.nD Cert.RefEvenIdeal.τ).loc Cert.RefEvenIdeal.main_arg0)
          ∧ r.2.mem ((c.tc : Thread Cert.RefEvenIdeal.nD Cert.RefEvenIdeal.τ).loc Cert.RefEvenIdeal.main_arg1) = m' ((c.tc : Thread Cert.RefEvenIdeal.nD Cert.RefEvenIdeal.τ).loc Cert.RefEvenIdeal.main_arg1)
          ∧ r.2.mem ((c.tc : Thread Cert.RefEvenIdeal.nD Cert.RefEvenIdeal.τ).loc Cert.RefEvenIdeal.main_arg2) = m' ((c.tc : Thread Cert.RefEvenIdeal.nD Cert.RefEvenIdeal.τ).loc Cert.RefEvenIdeal.main_arg2)
          ∧ r.2.mem ((c.tc : Thread Cert.RefEvenIdeal.nD Cert.RefEvenIdeal.τ).loc Cert.RefEvenIdeal.main_arg3) = m' ((c.tc : Thread Cert.RefEvenIdeal.nD Cert.RefEvenIdeal.τ).loc Cert.RefEvenIdeal.main_arg3))

def preserves_SsdOut_SsdOutIdeal : Prop :=
  True

def algebraic_SsdOutIdeal_RefSsdIdeal [hSsdOutIdeal : Cert.SsdOutIdeal.Facts] [hRefSsdIdeal : Cert.RefSsdIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.RefSsdIdeal.nD Cert.RefSsdIdeal.τ Cert.RefSsdIdeal.sig) → Buf (Elt Ideal) ℓ) (g' : Dev Cert.RefSsdIdeal.nD → PrngReg), Pre_SsdOutIdeal m →
    (∀ c : Dev Cert.SsdOutIdeal.nD,
      m' ((c.tc : Thread Cert.RefSsdIdeal.nD Cert.RefSsdIdeal.τ).loc Cert.RefSsdIdeal.main_arg0) = m ((c.tc : Thread Cert.SsdOutIdeal.nD Cert.SsdOutIdeal.τ).loc Cert.SsdOutIdeal.main_arg0)
      ∧ m' ((c.tc : Thread Cert.RefSsdIdeal.nD Cert.RefSsdIdeal.τ).loc Cert.RefSsdIdeal.main_arg1) = m ((c.tc : Thread Cert.SsdOutIdeal.nD Cert.SsdOutIdeal.τ).loc Cert.SsdOutIdeal.main_arg1)
      ∧ m' ((c.tc : Thread Cert.RefSsdIdeal.nD Cert.RefSsdIdeal.τ).loc Cert.RefSsdIdeal.main_arg2) = m ((c.tc : Thread Cert.SsdOutIdeal.nD Cert.SsdOutIdeal.τ).loc Cert.SsdOutIdeal.main_arg2)) →
    ∃ (v0 : (c : Dev Cert.SsdOutIdeal.nD) → Buf (Elt Ideal) ((c.tc : Thread Cert.SsdOutIdeal.nD Cert.SsdOutIdeal.τ).loc Cert.SsdOutIdeal.main_v1)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v1) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2))
      ∧ θ_run (Cert.RefSsdIdeal.defs (F := Ideal)) (onTc (τ := Cert.RefSsdIdeal.τ) (Cert.RefSsdIdeal.main (F := Ideal))) ⟨m', fun _ => 0, g'⟩ (fun r => ∀ c : Dev Cert.RefSsdIdeal.nD,
          r.2.mem ((c.tc : Thread Cert.RefSsdIdeal.nD Cert.RefSsdIdeal.τ).loc Cert.RefSsdIdeal.main_v12) = v0 c
          ∧ r.2.mem ((c.tc : Thread Cert.RefSsdIdeal.nD Cert.RefSsdIdeal.τ).loc Cert.RefSsdIdeal.main_arg0) = m' ((c.tc : Thread Cert.RefSsdIdeal.nD Cert.RefSsdIdeal.τ).loc Cert.RefSsdIdeal.main_arg0)
          ∧ r.2.mem ((c.tc : Thread Cert.RefSsdIdeal.nD Cert.RefSsdIdeal.τ).loc Cert.RefSsdIdeal.main_arg1) = m' ((c.tc : Thread Cert.RefSsdIdeal.nD Cert.RefSsdIdeal.τ).loc Cert.RefSsdIdeal.main_arg1)
          ∧ r.2.mem ((c.tc : Thread Cert.RefSsdIdeal.nD Cert.RefSsdIdeal.τ).loc Cert.RefSsdIdeal.main_arg2) = m' ((c.tc : Thread Cert.RefSsdIdeal.nD Cert.RefSsdIdeal.τ).loc Cert.RefSsdIdeal.main_arg2))

def Claim : Prop :=
  ∃ (hKernel : Cert.Kernel.Facts) (hKernelIdeal : Cert.KernelIdeal.Facts) (hReferenceIdeal : Cert.ReferenceIdeal.Facts) (hMoeUp : Cert.MoeUp.Facts) (hMoeUpIdeal : Cert.MoeUpIdeal.Facts) (hRefUpIdeal : Cert.RefUpIdeal.Facts) (hMoeDown : Cert.MoeDown.Facts) (hMoeDownIdeal : Cert.MoeDownIdeal.Facts) (hRefDownIdeal : Cert.RefDownIdeal.Facts) (hGlu : Cert.Glu.Facts) (hGluIdeal : Cert.GluIdeal.Facts) (hRefGluIdeal : Cert.RefGluIdeal.Facts) (hOut : Cert.Out.Facts) (hOutIdeal : Cert.OutIdeal.Facts) (hRefOutIdeal : Cert.RefOutIdeal.Facts) (hEvenOut : Cert.EvenOut.Facts) (hEvenOutIdeal : Cert.EvenOutIdeal.Facts) (hRefEvenIdeal : Cert.RefEvenIdeal.Facts) (hSsdOut : Cert.SsdOut.Facts) (hSsdOutIdeal : Cert.SsdOutIdeal.Facts) (hRefSsdIdeal : Cert.RefSsdIdeal.Facts) (hPre_tables_up : Cert.Pre_tables_up.Facts) (hPre_tables_down : Cert.Pre_tables_down.Facts),
    quiescent_Kernel (hKernel := hKernel)
    ∧ quiescent_KernelIdeal (hKernelIdeal := hKernelIdeal)
    ∧ quiescent_ReferenceIdeal (hReferenceIdeal := hReferenceIdeal)
    ∧ quiescent_MoeUp (hMoeUp := hMoeUp) (hPre_tables_up := hPre_tables_up)
    ∧ quiescent_MoeUpIdeal (hMoeUpIdeal := hMoeUpIdeal) (hPre_tables_up := hPre_tables_up)
    ∧ quiescent_RefUpIdeal (hRefUpIdeal := hRefUpIdeal)
    ∧ quiescent_RefUpIdeal_pre_tables_up (hRefUpIdeal := hRefUpIdeal) (hPre_tables_up := hPre_tables_up)
    ∧ quiescent_MoeDown (hMoeDown := hMoeDown) (hPre_tables_down := hPre_tables_down)
    ∧ quiescent_MoeDownIdeal (hMoeDownIdeal := hMoeDownIdeal) (hPre_tables_down := hPre_tables_down)
    ∧ quiescent_RefDownIdeal (hRefDownIdeal := hRefDownIdeal)
    ∧ quiescent_RefDownIdeal_pre_tables_down (hRefDownIdeal := hRefDownIdeal) (hPre_tables_down := hPre_tables_down)
    ∧ quiescent_Glu (hGlu := hGlu)
    ∧ quiescent_GluIdeal (hGluIdeal := hGluIdeal)
    ∧ quiescent_RefGluIdeal (hRefGluIdeal := hRefGluIdeal)
    ∧ quiescent_Out (hOut := hOut)
    ∧ quiescent_OutIdeal (hOutIdeal := hOutIdeal)
    ∧ quiescent_RefOutIdeal (hRefOutIdeal := hRefOutIdeal)
    ∧ quiescent_EvenOut (hEvenOut := hEvenOut)
    ∧ quiescent_EvenOutIdeal (hEvenOutIdeal := hEvenOutIdeal)
    ∧ quiescent_RefEvenIdeal (hRefEvenIdeal := hRefEvenIdeal)
    ∧ quiescent_SsdOut (hSsdOut := hSsdOut)
    ∧ quiescent_SsdOutIdeal (hSsdOutIdeal := hSsdOutIdeal)
    ∧ quiescent_RefSsdIdeal (hRefSsdIdeal := hRefSsdIdeal)
    ∧ preserves_Kernel_KernelIdeal
    ∧ algebraic_KernelIdeal_ReferenceIdeal (hKernelIdeal := hKernelIdeal) (hReferenceIdeal := hReferenceIdeal)
    ∧ preserves_MoeUp_MoeUpIdeal
    ∧ algebraic_MoeUpIdeal_RefUpIdeal (hMoeUpIdeal := hMoeUpIdeal) (hRefUpIdeal := hRefUpIdeal) (hPre_tables_up := hPre_tables_up)
    ∧ preserves_MoeDown_MoeDownIdeal
    ∧ algebraic_MoeDownIdeal_RefDownIdeal (hMoeDownIdeal := hMoeDownIdeal) (hRefDownIdeal := hRefDownIdeal) (hPre_tables_down := hPre_tables_down)
    ∧ preserves_Glu_GluIdeal
    ∧ algebraic_GluIdeal_RefGluIdeal (hGluIdeal := hGluIdeal) (hRefGluIdeal := hRefGluIdeal)
    ∧ preserves_Out_OutIdeal
    ∧ algebraic_OutIdeal_RefOutIdeal (hOutIdeal := hOutIdeal) (hRefOutIdeal := hRefOutIdeal)
    ∧ preserves_EvenOut_EvenOutIdeal
    ∧ algebraic_EvenOutIdeal_RefEvenIdeal (hEvenOutIdeal := hEvenOutIdeal) (hRefEvenIdeal := hRefEvenIdeal)
    ∧ preserves_SsdOut_SsdOutIdeal
    ∧ algebraic_SsdOutIdeal_RefSsdIdeal (hSsdOutIdeal := hSsdOutIdeal) (hRefSsdIdeal := hRefSsdIdeal)
-- ==== Pre_tables_down.lean ====
abbrev S41 : Shape := ⟨1, ![41]⟩
abbrev S1 : Shape := ⟨1, ![1]⟩
abbrev S20992x5632 : Shape := ⟨2, ![20992, 5632]⟩
abbrev S8x5632x2048 : Shape := ⟨3, ![8, 5632, 2048]⟩
abbrev S_ : Shape := ⟨0, ![]⟩

class Facts : Prop where
  bcast_S_S41 : S_.BroadcastsInDim S41 (![] : Fin 0 → Fin S41.rank)
  bcast_S_S1 : S_.BroadcastsInDim S1 (![] : Fin 0 → Fin S1.rank)
  bcast_S1_S41_0 : S1.BroadcastsInDim S41 (![0] : Fin 1 → Fin S41.rank)

variable [Facts]

def fn {F : FTy → Type} [FloatOps F] (main_arg0 : IVec S41 32) (main_arg1 : IVec S1 32) (main_arg2 : FVec F S20992x5632 .bf16) (main_arg3 : FVec F S8x5632x2048 .f32) : IVec S41 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 8#32
  let main_v2 : IVec S41 32 := broadcastInDim S41 ![] bcast_S_S41 main_c_0
  let main_v3 : IVec S41 1 := cmpi .slt main_arg0 main_v2
  let main_v4 : IVec S41 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S41 1 := broadcastInDim S41 ![0] bcast_S1_S41_0 main_v6
  let main_v8 : IVec S41 1 := andi main_v4 main_v7
  main_v8
-- ==== Pre_tables_up.lean ====
abbrev S41 : Shape := ⟨1, ![41]⟩
abbrev S1 : Shape := ⟨1, ![1]⟩
abbrev S20992x2048 : Shape := ⟨2, ![20992, 2048]⟩
abbrev S8x2048x5632 : Shape := ⟨3, ![8, 2048, 5632]⟩
abbrev S_ : Shape := ⟨0, ![]⟩

class Facts : Prop where
  bcast_S_S41 : S_.BroadcastsInDim S41 (![] : Fin 0 → Fin S41.rank)
  bcast_S_S1 : S_.BroadcastsInDim S1 (![] : Fin 0 → Fin S1.rank)
  bcast_S1_S41_0 : S1.BroadcastsInDim S41 (![0] : Fin 1 → Fin S41.rank)

variable [Facts]

def fn {F : FTy → Type} [FloatOps F] (main_arg0 : IVec S41 32) (main_arg1 : IVec S1 32) (main_arg2 : FVec F S20992x2048 .bf16) (main_arg3 : FVec F S8x2048x5632 .f32) (main_arg4 : FVec F S8x2048x5632 .f32) : IVec S41 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 8#32
  let main_v2 : IVec S41 32 := broadcastInDim S41 ![] bcast_S_S41 main_c_0
  let main_v3 : IVec S41 1 := cmpi .slt main_arg0 main_v2
  let main_v4 : IVec S41 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S41 1 := broadcastInDim S41 ![0] bcast_S1_S41_0 main_v6
  let main_v8 : IVec S41 1 := andi main_v4 main_v7
  main_v8
-- ==== Kernel.lean ====
abbrev S2x4160x6528 : Shape := ⟨3, ![2, 4160, 6528]⟩
abbrev S4 : Shape := ⟨1, ![4]⟩
abbrev S1024 : Shape := ⟨1, ![1024]⟩
abbrev S_ : Shape := ⟨0, ![]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S2x4160x1024 : Shape := ⟨3, ![2, 4160, 1024]⟩
abbrev S2x64x512 : Shape := ⟨3, ![2, 64, 512]⟩
abbrev S2x64x1024 : Shape := ⟨3, ![2, 64, 1024]⟩
abbrev S2x64x128 : Shape := ⟨3, ![2, 64, 128]⟩
abbrev S2x4x128x256 : Shape := ⟨4, ![2, 4, 128, 256]⟩
abbrev S2x8x128 : Shape := ⟨3, ![2, 8, 128]⟩
abbrev S64x1 : Shape := ⟨2, ![64, 1]⟩
abbrev S64x64 : Shape := ⟨2, ![64, 64]⟩
abbrev S1x64x128 : Shape := ⟨3, ![1, 64, 128]⟩
abbrev S64x128 : Shape := ⟨2, ![64, 128]⟩
abbrev S128x64 : Shape := ⟨2, ![128, 64]⟩
abbrev S1x64x256 : Shape := ⟨3, ![1, 64, 256]⟩
abbrev S64x256 : Shape := ⟨2, ![64, 256]⟩
abbrev S1x64 : Shape := ⟨2, ![1, 64]⟩
abbrev S1x1 : Shape := ⟨2, ![1, 1]⟩
abbrev S1x1x1 : Shape := ⟨3, ![1, 1, 1]⟩
abbrev S1x1x128x256 : Shape := ⟨4, ![1, 1, 128, 256]⟩
abbrev S128x256 : Shape := ⟨2, ![128, 256]⟩
abbrev S1x1x128 : Shape := ⟨3, ![1, 1, 128]⟩
abbrev S64 : Shape := ⟨1, ![64]⟩
abbrev S1x256 : Shape := ⟨2, ![1, 256]⟩
abbrev S128 : Shape := ⟨1, ![128]⟩

abbrev nBuf : Space → Nat
  | .hbm => 20
  | .vmem => 17
  | .smem => 0
  | _ => 0

abbrev bufTy : (tb : Table) → Fin (tcTables nBuf tb) → BufTy
  | .hbm, ⟨0, _⟩ => ⟨S2x4160x6528, .f32⟩
  | .hbm, ⟨1, _⟩ => ⟨S4, .f32⟩
  | .hbm, ⟨2, _⟩ => ⟨S4, .f32⟩
  | .hbm, ⟨3, _⟩ => ⟨S1024, .f32⟩
  | .hbm, ⟨4, _⟩ => ⟨S_, .f32⟩
  | .hbm, ⟨5, _⟩ => ⟨S1x128, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2, .i32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S1x1024, .f32⟩
  | .hbm, ⟨19, _⟩ => ⟨S2x4160x1024, .bf16⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x128, .f32⟩
  | .local _ .vmem, ⟨9, _⟩ => ⟨S2x64x128, .f32⟩
  | .local _ .vmem, ⟨10, _⟩ => ⟨S1x128, .f32⟩
  | .local _ .vmem, ⟨11, _⟩ => ⟨S1x1024, .f32⟩
  | .local _ .vmem, ⟨12, _⟩ => ⟨S2x64x1024, .bf16⟩
  | .local _ .vmem, ⟨13, _⟩ => ⟨S2x64x1024, .bf16⟩
  | .local _ .vmem, ⟨14, _⟩ => ⟨S2x4x128x256, .f32⟩
  | .local _ .vmem, ⟨15, _⟩ => ⟨S2x8x128, .f32⟩
  | .local _ .vmem, ⟨16, _⟩ => ⟨S2x8x128, .f32⟩
  | _, _ => ⟨S2x4160x6528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_4 (i : grid0.Coords) : Fin 3 → Nat :=
  let arg0 : BitVec 32 := BitVec.ofNat 32 (i 0).val
  let c0_i32 : BitVec 32 := 0#32
  let c24_i32 : BitVec 32 := 24#32
  let c0_i32_0 : BitVec 32 := 0#32
  ![c0_i32.toNat, arg0.toNat, c24_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x4160x6528 : Shape := ⟨3, ![2, 4160, 6528]⟩
abbrev S4 : Shape := ⟨1, ![4]⟩
abbrev S1024 : Shape := ⟨1, ![1024]⟩
abbrev S4160 : Shape := ⟨1, ![4160]⟩
abbrev S_ : Shape := ⟨0, ![]⟩
abbrev S2x4160x512 : Shape := ⟨3, ![2, 4160, 512]⟩
abbrev S2x4160x4x128 : Shape := ⟨4, ![2, 4160, 4, 128]⟩
abbrev S2x4x4160x128 : Shape := ⟨4, ![2, 4, 4160, 128]⟩
abbrev S2x4160x1024 : Shape := ⟨3, ![2, 4160, 1024]⟩
abbrev S2x4160x4x256 : Shape := ⟨4, ![2, 4160, 4, 256]⟩
abbrev S2x4x4160x256 : Shape := ⟨4, ![2, 4, 4160, 256]⟩
abbrev S2x4160x4 : Shape := ⟨3, ![2, 4160, 4]⟩
abbrev S1x1x4 : Shape := ⟨3, ![1, 1, 4]⟩
abbrev S4160x1 : Shape := ⟨2, ![4160, 1]⟩
abbrev S2x4x4160 : Shape := ⟨3, ![2, 4, 4160]⟩
abbrev S2x4x65x64x128 : Shape := ⟨5, ![2, 4, 65, 64, 128]⟩
abbrev S2x4x65x64x256 : Shape := ⟨5, ![2, 4, 65, 64, 256]⟩
abbrev S2x4x65x64 : Shape := ⟨4, ![2, 4, 65, 64]⟩
abbrev S2x4x128x256 : Shape := ⟨4, ![2, 4, 128, 256]⟩
abbrev S2x4x128 : Shape := ⟨3, ![2, 4, 128]⟩
abbrev S2x4 : Shape := ⟨2, ![2, 4]⟩
abbrev S65x2x4x64x128 : Shape := ⟨5, ![65, 2, 4, 64, 128]⟩
abbrev S65x2x4x64x256 : Shape := ⟨5, ![65, 2, 4, 64, 256]⟩
abbrev S65x2x4x64 : Shape := ⟨4, ![65, 2, 4, 64]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S1x2x4x64 : Shape := ⟨4, ![1, 2, 4, 64]⟩
abbrev S2x4x64 : Shape := ⟨3, ![2, 4, 64]⟩
abbrev S64x64 : Shape := ⟨2, ![64, 64]⟩
abbrev S2x4x64x1 : Shape := ⟨4, ![2, 4, 64, 1]⟩
abbrev S2x4x1x64 : Shape := ⟨4, ![2, 4, 1, 64]⟩
abbrev S2x4x64x64 : Shape := ⟨4, ![2, 4, 64, 64]⟩
abbrev S2x4x1 : Shape := ⟨3, ![2, 4, 1]⟩
abbrev S2x4x1x1 : Shape := ⟨4, ![2, 4, 1, 1]⟩
abbrev S2x4160x4x1 : Shape := ⟨4, ![2, 4160, 4, 1]⟩
abbrev S1x1x1024 : Shape := ⟨3, ![1, 1, 1024]⟩

abbrev nBuf : Space → Nat
  | .hbm => 259
  | .vmem => 0
  | .smem => 0
  | _ => 0

abbrev hbmTy0_0 (i : Nat) : BufTy := match i % 128 with
  | 0 => ⟨S2x4160x6528, .f32⟩
  | 1 => ⟨S4, .f32⟩
  | 2 => ⟨S4, .f32⟩
  | 3 => ⟨S1024, .f32⟩
  | 4 => ⟨S4160, .i32⟩
  | 5 => ⟨S_, .i32⟩
  | 6 => ⟨S4160, .i32⟩
  | 7 => ⟨S4160, .i1⟩
  | 8 => ⟨S2x4160x512, .f32⟩
  | 9 => ⟨S2x4160x4x128, .f32⟩
  | 10 => ⟨S2x4x4160x128, .f32⟩
  | 11 => ⟨S_, .f32⟩
  | 12 => ⟨S2x4x4160x128, .f32⟩
  | 13 => ⟨S2x4x4160x128, .f32⟩
  | 14 => ⟨S2x4160x512, .f32⟩
  | 15 => ⟨S2x4160x4x128, .f32⟩
  | 16 => ⟨S2x4x4160x128, .f32⟩
  | 17 => ⟨S2x4160x1024, .f32⟩
  | 18 => ⟨S2x4160x4x256, .f32⟩
  | 19 => ⟨S2x4x4160x256, .f32⟩
  | 20 => ⟨S2x4160x4, .f32⟩
  | 21 => ⟨S1x1x4, .f32⟩
  | 22 => ⟨S2x4160x4, .f32⟩
  | 23 => ⟨S2x4160x4, .f32⟩
  | 24 => ⟨S_, .f32⟩
  | 25 => ⟨S2x4160x4, .f32⟩
  | 26 => ⟨S2x4160x4, .f32⟩
  | 27 => ⟨S2x4160x4, .f32⟩
  | 28 => ⟨S_, .f32⟩
  | 29 => ⟨S2x4160x4, .f32⟩
  | 30 => ⟨S2x4160x4, .f32⟩
  | 31 => ⟨S2x4160x4, .f32⟩
  | 32 => ⟨S1x1x4, .f32⟩
  | 33 => ⟨S2x4160x4, .f32⟩
  | 34 => ⟨S2x4160x4, .f32⟩
  | 35 => ⟨S_, .f32⟩
  | 36 => ⟨S2x4160x4, .f32⟩
  | 37 => ⟨S2x4160x4, .f32⟩
  | 38 => ⟨S2x4160x4, .f32⟩
  | 39 => ⟨S_, .f32⟩
  | 40 => ⟨S2x4160x4, .f32⟩
  | 41 => ⟨S2x4160x4, .f32⟩
  | 42 => ⟨S2x4160x4, .f32⟩
  | 43 => ⟨S_, .f32⟩
  | 44 => ⟨S2x4160x4, .f32⟩
  | 45 => ⟨S2x4160x4, .f32⟩
  | 46 => ⟨S2x4160x4, .f32⟩
  | 47 => ⟨S2x4160x4, .f32⟩
  | 48 => ⟨S2x4160x4, .i1⟩
  | 49 => ⟨S2x4160x4, .f32⟩
  | 50 => ⟨S2x4160x4, .f32⟩
  | 51 => ⟨S2x4160x4, .f32⟩
  | 52 => ⟨S2x4160x4, .f32⟩
  | 53 => ⟨S2x4160x4, .f32⟩
  | 54 => ⟨S2x4160x4, .f32⟩
  | 55 => ⟨S2x4160x4, .f32⟩
  | 56 => ⟨S2x4160x4, .f32⟩
  | 57 => ⟨S2x4160x4, .f32⟩
  | 58 => ⟨S4160x1, .i1⟩
  | 59 => ⟨S_, .f32⟩
  | 60 => ⟨S_, .f32⟩
  | 61 => ⟨S2x4160x4, .i1⟩
  | 62 => ⟨S2x4160x4, .f32⟩
  | 63 => ⟨S2x4160x4, .f32⟩
  | 64 => ⟨S4160x1, .i1⟩
  | 65 => ⟨S_, .f32⟩
  | 66 => ⟨S_, .f32⟩
  | 67 => ⟨S2x4160x4, .i1⟩
  | 68 => ⟨S2x4160x4, .f32⟩
  | 69 => ⟨S2x4160x4, .f32⟩
  | 70 => ⟨S2x4x4160, .f32⟩
  | 71 => ⟨S2x4x4160, .f32⟩
  | 72 => ⟨S2x4x65x64x128, .f32⟩
  | 73 => ⟨S2x4x65x64x128, .f32⟩
  | 74 => ⟨S2x4x65x64x256, .f32⟩
  | 75 => ⟨S2x4x65x64, .f32⟩
  | 76 => ⟨S2x4x65x64, .f32⟩
  | 77 => ⟨S_, .f32⟩
  | 78 => ⟨S_, .f32⟩
  | 79 => ⟨S2x4x65x64, .f32⟩
  | 80 => ⟨S_, .f32⟩
  | 81 => ⟨S2x4x128x256, .f32⟩
  | 82 => ⟨S_, .f32⟩
  | 83 => ⟨S2x4x128, .f32⟩
  | 84 => ⟨S_, .f32⟩
  | 85 => ⟨S2x4, .f32⟩
  | 86 => ⟨S65x2x4x64x128, .f32⟩
  | 87 => ⟨S65x2x4x64x128, .f32⟩
  | 88 => ⟨S65x2x4x64x256, .f32⟩
  | 89 => ⟨S65x2x4x64, .f32⟩
  | 90 => ⟨S65x2x4x64, .f32⟩
  | 91 => ⟨S_, .f32⟩
  | 92 => ⟨S65x2x4x64x256, .f32⟩
  | 93 => ⟨S_, .i32⟩
  | 94 => ⟨S65x2x4x64x128, .f32⟩
  | 95 => ⟨S65x2x4x64x128, .f32⟩
  | 96 => ⟨S65x2x4x64x256, .f32⟩
  | 97 => ⟨S65x2x4x64, .f32⟩
  | 98 => ⟨S65x2x4x64, .f32⟩
  | 99 => ⟨S_, .i32⟩
  | 100 => ⟨S2x4x128x256, .f32⟩
  | 101 => ⟨S2x4x128, .f32⟩
  | 102 => ⟨S2x4, .f32⟩
  | 103 => ⟨S65x2x4x64x256, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x2x4x64x128, .f32⟩
  | 111 => ⟨S2x4x64x128, .f32⟩
  | 112 => ⟨S_, .i32⟩
  | 113 => ⟨S_, .i32⟩
  | 114 => ⟨S_, .i32⟩
  | 115 => ⟨S_, .i32⟩
  | 116 => ⟨S1x2x4x64x128, .f32⟩
  | 117 => ⟨S2x4x64x128, .f32⟩
  | 118 => ⟨S_, .i32⟩
  | 119 => ⟨S_, .i32⟩
  | 120 => ⟨S_, .i32⟩
  | 121 => ⟨S_, .i32⟩
  | 122 => ⟨S1x2x4x64x256, .f32⟩
  | 123 => ⟨S2x4x64x256, .f32⟩
  | 124 => ⟨S_, .i32⟩
  | 125 => ⟨S_, .i32⟩
  | 126 => ⟨S_, .i32⟩
  | 127 => ⟨S1x2x4x64, .f32⟩
  | _ => ⟨S2x4160x6528, .f32⟩

abbrev hbmTy0_1 (i : Nat) : BufTy := match i % 128 with
  | 0 => ⟨S2x4x64, .f32⟩
  | 1 => ⟨S_, .i32⟩
  | 2 => ⟨S_, .i32⟩
  | 3 => ⟨S_, .i32⟩
  | 4 => ⟨S1x2x4x64, .f32⟩
  | 5 => ⟨S2x4x64, .f32⟩
  | 6 => ⟨S_, .i1⟩
  | 7 => ⟨S64x64, .i1⟩
  | 8 => ⟨S64x64, .i32⟩
  | 9 => ⟨S_, .i32⟩
  | 10 => ⟨S64x64, .i32⟩
  | 11 => ⟨S64x64, .i32⟩
  | 12 => ⟨S64x64, .i32⟩
  | 13 => ⟨S64x64, .i1⟩
  | 14 => ⟨S_, .i1⟩
  | 15 => ⟨S64x64, .i1⟩
  | 16 => ⟨S64x64, .i1⟩
  | 17 => ⟨S2x4x64x1, .f32⟩
  | 18 => ⟨S2x4x1x64, .f32⟩
  | 19 => ⟨S2x4x64x64, .f32⟩
  | 20 => ⟨S2x4x64x64, .f32⟩
  | 21 => ⟨S2x4x64x64, .f32⟩
  | 22 => ⟨S2x4x1x64, .f32⟩
  | 23 => ⟨S2x4x64x64, .f32⟩
  | 24 => ⟨S2x4x64x64, .f32⟩
  | 25 => ⟨S_, .f32⟩
  | 26 => ⟨S_, .f32⟩
  | 27 => ⟨S2x4x64x64, .i1⟩
  | 28 => ⟨S2x4x64x64, .f32⟩
  | 29 => ⟨S2x4x64x64, .f32⟩
  | 30 => ⟨S2x4x1, .f32⟩
  | 31 => ⟨S2x4x64, .f32⟩
  | 32 => ⟨S2x4x64, .f32⟩
  | 33 => ⟨S_, .f32⟩
  | 34 => ⟨S2x4x64, .f32⟩
  | 35 => ⟨S2x4x64, .f32⟩
  | 36 => ⟨S2x4x64x64, .f32⟩
  | 37 => ⟨S2x4x64x1, .f32⟩
  | 38 => ⟨S2x4x64x64, .f32⟩
  | 39 => ⟨S2x4x64x64, .f32⟩
  | 40 => ⟨S2x4x64x64, .f32⟩
  | 41 => ⟨S2x4x64x64, .f32⟩
  | 42 => ⟨S2x4x64, .f32⟩
  | 43 => ⟨S2x4x64, .f32⟩
  | 44 => ⟨S2x4x64x256, .f32⟩
  | 45 => ⟨S2x4x64x1, .f32⟩
  | 46 => ⟨S2x4x64x256, .f32⟩
  | 47 => ⟨S2x4x64x256, .f32⟩
  | 48 => ⟨S2x4x64x256, .f32⟩
  | 49 => ⟨S2x4x64x256, .f32⟩
  | 50 => ⟨S_, .f32⟩
  | 51 => ⟨S2x4x64, .f32⟩
  | 52 => ⟨S2x4x64, .f32⟩
  | 53 => ⟨S2x4x64, .f32⟩
  | 54 => ⟨S2x4x64, .f32⟩
  | 55 => ⟨S2x4x64, .f32⟩
  | 56 => ⟨S2x4x64, .f32⟩
  | 57 => ⟨S2x4x64, .f32⟩
  | 58 => ⟨S2x4x64, .f32⟩
  | 59 => ⟨S2x4x64x1, .f32⟩
  | 60 => ⟨S2x4x64x256, .f32⟩
  | 61 => ⟨S2x4x64x256, .f32⟩
  | 62 => ⟨S2x4x1, .f32⟩
  | 63 => ⟨S2x4, .f32⟩
  | 64 => ⟨S2x4x1, .f32⟩
  | 65 => ⟨S2x4x64, .f32⟩
  | 66 => ⟨S2x4x64, .f32⟩
  | 67 => ⟨S2x4x64, .f32⟩
  | 68 => ⟨S2x4, .f32⟩
  | 69 => ⟨S_, .f32⟩
  | 70 => ⟨S2x4, .f32⟩
  | 71 => ⟨S2x4, .f32⟩
  | 72 => ⟨S2x4, .f32⟩
  | 73 => ⟨S2x4, .f32⟩
  | 74 => ⟨S2x4, .f32⟩
  | 75 => ⟨S2x4x1, .f32⟩
  | 76 => ⟨S2x4x64, .f32⟩
  | 77 => ⟨S2x4x64, .f32⟩
  | 78 => ⟨S2x4x64, .f32⟩
  | 79 => ⟨S2x4x1x1, .f32⟩
  | 80 => ⟨S2x4x128x256, .f32⟩
  | 81 => ⟨S2x4x128x256, .f32⟩
  | 82 => ⟨S2x4x64x1, .f32⟩
  | 83 => ⟨S2x4x64x128, .f32⟩
  | 84 => ⟨S2x4x64x128, .f32⟩
  | 85 => ⟨S2x4x128x256, .f32⟩
  | 86 => ⟨S2x4x128x256, .f32⟩
  | 87 => ⟨S2x4x1, .f32⟩
  | 88 => ⟨S2x4x128, .f32⟩
  | 89 => ⟨S2x4x128, .f32⟩
  | 90 => ⟨S2x4x128, .f32⟩
  | 91 => ⟨S2x4x128, .f32⟩
  | 92 => ⟨S1x2x4x64x256, .f32⟩
  | 93 => ⟨S_, .i32⟩
  | 94 => ⟨S_, .i32⟩
  | 95 => ⟨S_, .i32⟩
  | 96 => ⟨S_, .i32⟩
  | 97 => ⟨S65x2x4x64x256, .f32⟩
  | 98 => ⟨S_, .i32⟩
  | 99 => ⟨S_, .i32⟩
  | 100 => ⟨S2x4x65x64x256, .f32⟩
  | 101 => ⟨S2x4x4160x256, .f32⟩
  | 102 => ⟨S2x4160x4x256, .f32⟩
  | 103 => ⟨S2x4160x4x256, .f32⟩
  | 104 => ⟨S_, .f32⟩
  | 105 => ⟨S2x4160x4, .f32⟩
  | 106 => ⟨S2x4160x4x1, .f32⟩
  | 107 => ⟨S_, .f32⟩
  | 108 => ⟨S2x4160x4x1, .f32⟩
  | 109 => ⟨S2x4160x4x1, .f32⟩
  | 110 => ⟨S_, .f32⟩
  | 111 => ⟨S2x4160x4x1, .f32⟩
  | 112 => ⟨S2x4160x4x1, .f32⟩
  | 113 => ⟨S2x4160x4x1, .f32⟩
  | 114 => ⟨S2x4160x4x256, .f32⟩
  | 115 => ⟨S2x4160x4x256, .f32⟩
  | 116 => ⟨S2x4160x1024, .f32⟩
  | 117 => ⟨S1x1x1024, .f32⟩
  | 118 => ⟨S2x4160x1024, .f32⟩
  | 119 => ⟨S2x4160x1024, .f32⟩
  | 120 => ⟨S2x4160x1024, .f32⟩
  | 121 => ⟨S2x4160x1024, .f32⟩
  | 122 => ⟨S2x4160x1024, .f32⟩
  | 123 => ⟨S_, .f32⟩
  | 124 => ⟨S2x4160x1024, .f32⟩
  | 125 => ⟨S2x4160x1024, .f32⟩
  | 126 => ⟨S_, .f32⟩
  | 127 => ⟨S2x4160x1024, .f32⟩
  | _ => ⟨S2x4160x6528, .f32⟩

abbrev hbmTy0_2 (i : Nat) : BufTy := match i % 128 with
  | 0 => ⟨S2x4160x1024, .f32⟩
  | 1 => ⟨S2x4160x1024, .f32⟩
  | 2 => ⟨S2x4160x1024, .bf16⟩
  | _ => ⟨S2x4160x6528, .f32⟩

abbrev hbmTy (i : Nat) : BufTy := match i / 128 with
  | 0 => hbmTy0_0 i
  | 1 => hbmTy0_1 i
  | 2 => hbmTy0_2 i
  | _ => ⟨S2x4160x6528, .f32⟩

abbrev bufTy : (tb : Table) → Fin (tcTables nBuf tb) → BufTy
  | .hbm, ⟨i, _⟩ => hbmTy i
  | _, _ => ⟨S2x4160x6528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v34 : Ref sig .tc := ⟨.hbm, 63, rfl⟩
abbrev main_v35 : Ref sig .tc := ⟨.hbm, 64, rfl⟩
abbrev main_cst_5 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call3_call0_cst : Ref sig .tc := ⟨.hbm, 77, rfl⟩
abbrev main_call3_call0_v0 : Ref sig .tc := ⟨.hbm, 78, rfl⟩
abbrev main_v44 : Ref sig .tc := ⟨.hbm, 79, rfl⟩
abbrev main_cst_6 : Ref sig .tc := ⟨.hbm, 80, rfl⟩
abbrev main_v45 : Ref sig .tc := ⟨.hbm, 81, rfl⟩
abbrev main_cst_7 : Ref sig .tc := ⟨.hbm, 82, rfl⟩
abbrev main_v46 : Ref sig .tc := ⟨.hbm, 83, rfl⟩
abbrev main_cst_8 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_9 : Ref sig .tc := ⟨.hbm, 91, rfl⟩
abbrev main_v53 : Ref sig .tc := ⟨.hbm, 92, rfl⟩
abbrev main_c_10 : Ref sig .tc := ⟨.hbm, 93, rfl⟩
abbrev main_v54_0 : Ref sig .tc := ⟨.hbm, 94, rfl⟩
abbrev main_v54_1 : Ref sig .tc := ⟨.hbm, 95, rfl⟩
abbrev main_v54_2 : Ref sig .tc := ⟨.hbm, 96, rfl⟩
abbrev main_v54_3 : Ref sig .tc := ⟨.hbm, 97, rfl⟩
abbrev main_v54_4 : Ref sig .tc := ⟨.hbm, 98, rfl⟩
abbrev main_v54_5 : Ref sig .tc := ⟨.hbm, 99, rfl⟩
abbrev main_v54_6 : Ref sig .tc := ⟨.hbm, 100, rfl⟩
abbrev main_v54_7 : Ref sig .tc := ⟨.hbm, 101, rfl⟩
abbrev main_v54_8 : Ref sig .tc := ⟨.hbm, 102, rfl⟩
abbrev main_v54_9 : Ref sig .tc := ⟨.hbm, 103, rfl⟩
abbrev main_while0c_c_25 : Ref sig .tc := ⟨.hbm, 104, rfl⟩
abbrev main_while0c_v81 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_c_1 : Ref sig .tc := ⟨.hbm, 108, rfl⟩
abbrev main_while0b_call4_c_2 : Ref sig .tc := ⟨.hbm, 109, rfl⟩
abbrev main_while0b_call4_v0 : Ref sig .tc := ⟨.hbm, 110, rfl⟩
abbrev main_while0b_v81 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_c_2 : Ref sig .tc := ⟨.hbm, 115, rfl⟩
abbrev main_while0b_call5_v0 : Ref sig .tc := ⟨.hbm, 116, rfl⟩
abbrev main_while0b_v82 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_v0 : Ref sig .tc := ⟨.hbm, 122, rfl⟩
abbrev main_while0b_v83 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_v0 : Ref sig .tc := ⟨.hbm, 127, rfl⟩
abbrev main_while0b_v84 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_v0 : Ref sig .tc := ⟨.hbm, 132, rfl⟩
abbrev main_while0b_v85 : Ref sig .tc := ⟨.hbm, 133, rfl⟩
abbrev main_while0b_c_25 : Ref sig .tc := ⟨.hbm, 134, rfl⟩
abbrev main_while0b_v86 : Ref sig .tc := ⟨.hbm, 135, rfl⟩
abbrev main_while0b_call9_v0 : Ref sig .tc := ⟨.hbm, 136, rfl⟩
abbrev main_while0b_call9_c : Ref sig .tc := ⟨.hbm, 137, rfl⟩
abbrev main_while0b_call9_v1 : Ref sig .tc := ⟨.hbm, 138, rfl⟩
abbrev main_while0b_call9_v2 : Ref sig .tc := ⟨.hbm, 139, rfl⟩
abbrev main_while0b_call9_v3 : Ref sig .tc := ⟨.hbm, 140, rfl⟩
abbrev main_while0b_call9_v4 : Ref sig .tc := ⟨.hbm, 141, rfl⟩
abbrev main_while0b_call9_c_0 : Ref sig .tc := ⟨.hbm, 142, rfl⟩
abbrev main_while0b_call9_v5 : Ref sig .tc := ⟨.hbm, 143, rfl⟩
abbrev main_while0b_v87 : Ref sig .tc := ⟨.hbm, 144, rfl⟩
abbrev main_while0b_v88 : Ref sig .tc := ⟨.hbm, 145, rfl⟩
abbrev main_while0b_v89 : Ref sig .tc := ⟨.hbm, 146, rfl⟩
abbrev main_while0b_v90 : Ref sig .tc := ⟨.hbm, 147, rfl⟩
abbrev main_while0b_v91 : Ref sig .tc := ⟨.hbm, 148, rfl⟩
abbrev main_while0b_v92 : Ref sig .tc := ⟨.hbm, 149, rfl⟩
abbrev main_while0b_v93 : Ref sig .tc := ⟨.hbm, 150, rfl⟩
abbrev main_while0b_v94 : Ref sig .tc := ⟨.hbm, 151, rfl⟩
abbrev main_while0b_v95 : Ref sig .tc := ⟨.hbm, 152, rfl⟩
abbrev main_while0b_cst_26 : Ref sig .tc := ⟨.hbm, 153, rfl⟩
abbrev main_while0b_call10_v0 : Ref sig .tc := ⟨.hbm, 154, rfl⟩
abbrev main_while0b_call10_v1 : Ref sig .tc := ⟨.hbm, 155, rfl⟩
abbrev main_while0b_call10_v2 : Ref sig .tc := ⟨.hbm, 156, rfl⟩
abbrev main_while0b_v96 : Ref sig .tc := ⟨.hbm, 157, rfl⟩
abbrev main_while0b_v97 : Ref sig .tc := ⟨.hbm, 158, rfl⟩
abbrev main_while0b_v98 : Ref sig .tc := ⟨.hbm, 159, rfl⟩
abbrev main_while0b_v99 : Ref sig .tc := ⟨.hbm, 160, rfl⟩
abbrev main_while0b_cst_27 : Ref sig .tc := ⟨.hbm, 161, rfl⟩
abbrev main_while0b_v100 : Ref sig .tc := ⟨.hbm, 162, rfl⟩
abbrev main_while0b_v101 : Ref sig .tc := ⟨.hbm, 163, rfl⟩
abbrev main_while0b_v102 : Ref sig .tc := ⟨.hbm, 164, rfl⟩
abbrev main_while0b_v103 : Ref sig .tc := ⟨.hbm, 165, rfl⟩
abbrev main_while0b_v104 : Ref sig .tc := ⟨.hbm, 166, rfl⟩
abbrev main_while0b_v105 : Ref sig .tc := ⟨.hbm, 167, rfl⟩
abbrev main_while0b_v106 : Ref sig .tc := ⟨.hbm, 168, rfl⟩
abbrev main_while0b_v107 : Ref sig .tc := ⟨.hbm, 169, rfl⟩
abbrev main_while0b_v108 : Ref sig .tc := ⟨.hbm, 170, rfl⟩
abbrev main_while0b_v109 : Ref sig .tc := ⟨.hbm, 171, rfl⟩
abbrev main_while0b_v110 : Ref sig .tc := ⟨.hbm, 172, rfl⟩
abbrev main_while0b_v111 : Ref sig .tc := ⟨.hbm, 173, rfl⟩
abbrev main_while0b_v112 : Ref sig .tc := ⟨.hbm, 174, rfl⟩
abbrev main_while0b_v113 : Ref sig .tc := ⟨.hbm, 175, rfl⟩
abbrev main_while0b_v114 : Ref sig .tc := ⟨.hbm, 176, rfl⟩
abbrev main_while0b_v115 : Ref sig .tc := ⟨.hbm, 177, rfl⟩
abbrev main_while0b_cst_28 : Ref sig .tc := ⟨.hbm, 178, rfl⟩
abbrev main_while0b_v116 : Ref sig .tc := ⟨.hbm, 179, rfl⟩
abbrev main_while0b_v117 : Ref sig .tc := ⟨.hbm, 180, rfl⟩
abbrev main_while0b_v118 : Ref sig .tc := ⟨.hbm, 181, rfl⟩
abbrev main_while0b_v119 : Ref sig .tc := ⟨.hbm, 182, rfl⟩
abbrev main_while0b_v120 : Ref sig .tc := ⟨.hbm, 183, rfl⟩
abbrev main_while0b_v121 : Ref sig .tc := ⟨.hbm, 184, rfl⟩
abbrev main_while0b_v122 : Ref sig .tc := ⟨.hbm, 185, rfl⟩
abbrev main_while0b_v123 : Ref sig .tc := ⟨.hbm, 186, rfl⟩
abbrev main_while0b_v124 : Ref sig .tc := ⟨.hbm, 187, rfl⟩
abbrev main_while0b_v125 : Ref sig .tc := ⟨.hbm, 188, rfl⟩
abbrev main_while0b_v126 : Ref sig .tc := ⟨.hbm, 189, rfl⟩
abbrev main_while0b_v127 : Ref sig .tc := ⟨.hbm, 190, rfl⟩
abbrev main_while0b_v128 : Ref sig .tc := ⟨.hbm, 191, rfl⟩
abbrev main_while0b_v129 : Ref sig .tc := ⟨.hbm, 192, rfl⟩
abbrev main_while0b_v130 : Ref sig .tc := ⟨.hbm, 193, rfl⟩
abbrev main_while0b_v131 : Ref sig .tc := ⟨.hbm, 194, rfl⟩
abbrev main_while0b_v132 : Ref sig .tc := ⟨.hbm, 195, rfl⟩
abbrev main_while0b_v133 : Ref sig .tc := ⟨.hbm, 196, rfl⟩
abbrev main_while0b_cst_29 : Ref sig .tc := ⟨.hbm, 197, rfl⟩
abbrev main_while0b_v134 : Ref sig .tc := ⟨.hbm, 198, rfl⟩
abbrev main_while0b_v135 : Ref sig .tc := ⟨.hbm, 199, rfl⟩
abbrev main_while0b_v136 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_v142 : Ref sig .tc := ⟨.hbm, 206, rfl⟩
abbrev main_while0b_v143 : Ref sig .tc := ⟨.hbm, 207, rfl⟩
abbrev main_while0b_v144 : Ref sig .tc := ⟨.hbm, 208, rfl⟩
abbrev main_while0b_v145 : Ref sig .tc := ⟨.hbm, 209, rfl⟩
abbrev main_while0b_v146 : Ref sig .tc := ⟨.hbm, 210, rfl⟩
abbrev main_while0b_v147 : Ref sig .tc := ⟨.hbm, 211, rfl⟩
abbrev main_while0b_v148 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_call11_v0 : Ref sig .tc := ⟨.hbm, 220, rfl⟩
abbrev main_while0b_call11_c : Ref sig .tc := ⟨.hbm, 221, rfl⟩
abbrev main_while0b_call11_c_0 : Ref sig .tc := ⟨.hbm, 222, rfl⟩
abbrev main_while0b_call11_c_1 : Ref sig .tc := ⟨.hbm, 223, rfl⟩
abbrev main_while0b_call11_c_2 : Ref sig .tc := ⟨.hbm, 224, rfl⟩
abbrev main_while0b_v156 : Ref sig .tc := ⟨.hbm, 225, rfl⟩
abbrev main_while0b_c_30 : Ref sig .tc := ⟨.hbm, 226, rfl⟩
abbrev main_while0b_v157 : Ref sig .tc := ⟨.hbm, 227, rfl⟩
abbrev main_v55 : Ref sig .tc := ⟨.hbm, 228, rfl⟩
abbrev main_v56 : Ref sig .tc := ⟨.hbm, 229, rfl⟩
abbrev main_v57 : Ref sig .tc := ⟨.hbm, 230, rfl⟩
abbrev main_v58 : Ref sig .tc := ⟨.hbm, 231, rfl⟩
abbrev main_cst_11 : Ref sig .tc := ⟨.hbm, 232, rfl⟩
abbrev main_v59 : Ref sig .tc := ⟨.hbm, 233, rfl⟩
abbrev main_v60 : Ref sig .tc := ⟨.hbm, 234, rfl⟩
abbrev main_cst_12 : Ref sig .tc := ⟨.hbm, 235, rfl⟩
abbrev main_v61 : Ref sig .tc := ⟨.hbm, 236, rfl⟩
abbrev main_v62 : Ref sig .tc := ⟨.hbm, 237, rfl⟩
abbrev main_cst_13 : Ref sig .tc := ⟨.hbm, 238, rfl⟩
abbrev main_v63 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_v68 : Ref sig .tc := ⟨.hbm, 244, rfl⟩
abbrev main_v69 : Ref sig .tc := ⟨.hbm, 245, rfl⟩
abbrev main_v70 : Ref sig .tc := ⟨.hbm, 246, rfl⟩
abbrev main_v71 : Ref sig .tc := ⟨.hbm, 247, rfl⟩
abbrev main_v72 : Ref sig .tc := ⟨.hbm, 248, rfl⟩
abbrev main_v73 : Ref sig .tc := ⟨.hbm, 249, rfl⟩
abbrev main_v74 : Ref sig .tc := ⟨.hbm, 250, rfl⟩
abbrev main_cst_14 : Ref sig .tc := ⟨.hbm, 251, rfl⟩
abbrev main_v75 : Ref sig .tc := ⟨.hbm, 252, rfl⟩
abbrev main_v76 : Ref sig .tc := ⟨.hbm, 253, rfl⟩
abbrev main_cst_15 : Ref sig .tc := ⟨.hbm, 254, rfl⟩
abbrev main_v77 : Ref sig .tc := ⟨.hbm, 255, rfl⟩
abbrev main_v78 : Ref sig .tc := ⟨.hbm, 256, rfl⟩
abbrev main_v79 : Ref sig .tc := ⟨.hbm, 257, rfl⟩
abbrev main_v80 : Ref sig .tc := ⟨.hbm, 258, rfl⟩

abbrev nD : Nat := 1
abbrev τ : Topo := Topo.v7x

variable {F : FTy → Type} [FloatOps F]

abbrev main_while0_count : Scf.Loop 32 := ⟨0#32, 65#32, 1#32⟩
-- ==== MoeUp.lean ====
abbrev S41 : Shape := ⟨1, ![41]⟩
abbrev S1 : Shape := ⟨1, ![1]⟩
abbrev S20992x2048 : Shape := ⟨2, ![20992, 2048]⟩
abbrev S8x2048x5632 : Shape := ⟨3, ![8, 2048, 5632]⟩
abbrev S20992x5632 : Shape := ⟨2, ![20992, 5632]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S20992x2048, .bf16⟩
  | .hbm, ⟨1, _⟩ => ⟨S8x2048x5632, .f32⟩
  | .hbm, ⟨2, _⟩ => ⟨S8x2048x5632, .f32⟩
  | .hbm, ⟨3, _⟩ => ⟨S20992x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S41, .i32⟩
  | .local _ .smem, ⟨1, _⟩ => ⟨S1, .i32⟩
  | _, _ => ⟨S20992x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 41], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefUpIdeal.lean ====
abbrev S41 : Shape := ⟨1, ![41]⟩
abbrev S1 : Shape := ⟨1, ![1]⟩
abbrev S20992x2048 : Shape := ⟨2, ![20992, 2048]⟩
abbrev S8x2048x5632 : Shape := ⟨3, ![8, 2048, 5632]⟩
abbrev S_ : Shape := ⟨0, ![]⟩
abbrev S41x1 : Shape := ⟨2, ![41, 1]⟩
abbrev S41x512 : Shape := ⟨2, ![41, 512]⟩
abbrev S20992x1 : Shape := ⟨2, ![20992, 1]⟩
abbrev S20992x5632 : Shape := ⟨2, ![20992, 5632]⟩
abbrev S1x2048x5632 : Shape := ⟨3, ![1, 2048, 5632]⟩
abbrev S2048x5632 : Shape := ⟨2, ![2048, 5632]⟩

abbrev nBuf : Space → Nat
  | .hbm => 187
  | .vmem => 0
  | .smem => 0
  | _ => 0

abbrev hbmTy0_0 (i : Nat) : BufTy := match i % 128 with
  | 0 => ⟨S41, .i32⟩
  | 1 => ⟨S1, .i32⟩
  | 2 => ⟨S20992x2048, .bf16⟩
  | 3 => ⟨S8x2048x5632, .f32⟩
  | 4 => ⟨S8x2048x5632, .f32⟩
  | 5 => ⟨S20992x2048, .f32⟩
  | 6 => ⟨S41, .i32⟩
  | 7 => ⟨S41, .i32⟩
  | 8 => ⟨S41, .i1⟩
  | 9 => ⟨S_, .i32⟩
  | 10 => ⟨S_, .i32⟩
  | 11 => ⟨S41, .i32⟩
  | 12 => ⟨S41, .i32⟩
  | 13 => ⟨S41x1, .i32⟩
  | 14 => ⟨S41x512, .i32⟩
  | 15 => ⟨S20992x1, .i32⟩
  | 16 => ⟨S_, .f32⟩
  | 17 => ⟨S20992x5632, .f32⟩
  | 18 => ⟨S_, .i32⟩
  | 19 => ⟨S20992x1, .i32⟩
  | 20 => ⟨S20992x1, .i1⟩
  | 21 => ⟨S1x2048x5632, .f32⟩
  | 22 => ⟨S2048x5632, .f32⟩
  | 23 => ⟨S20992x5632, .f32⟩
  | 24 => ⟨S20992x5632, .f32⟩
  | 25 => ⟨S20992x5632, .f32⟩
  | 26 => ⟨S_, .f32⟩
  | 27 => ⟨S20992x5632, .f32⟩
  | 28 => ⟨S20992x5632, .f32⟩
  | 29 => ⟨S_, .f32⟩
  | 30 => ⟨S20992x5632, .f32⟩
  | 31 => ⟨S20992x5632, .f32⟩
  | 32 => ⟨S20992x5632, .f32⟩
  | 33 => ⟨S1x2048x5632, .f32⟩
  | 34 => ⟨S2048x5632, .f32⟩
  | 35 => ⟨S20992x5632, .f32⟩
  | 36 => ⟨S20992x5632, .f32⟩
  | 37 => ⟨S20992x5632, .i1⟩
  | 38 => ⟨S20992x5632, .f32⟩
  | 39 => ⟨S_, .i32⟩
  | 40 => ⟨S20992x1, .i32⟩
  | 41 => ⟨S20992x1, .i1⟩
  | 42 => ⟨S1x2048x5632, .f32⟩
  | 43 => ⟨S2048x5632, .f32⟩
  | 44 => ⟨S20992x5632, .f32⟩
  | 45 => ⟨S20992x5632, .f32⟩
  | 46 => ⟨S20992x5632, .f32⟩
  | 47 => ⟨S_, .f32⟩
  | 48 => ⟨S20992x5632, .f32⟩
  | 49 => ⟨S20992x5632, .f32⟩
  | 50 => ⟨S_, .f32⟩
  | 51 => ⟨S20992x5632, .f32⟩
  | 52 => ⟨S20992x5632, .f32⟩
  | 53 => ⟨S20992x5632, .f32⟩
  | 54 => ⟨S1x2048x5632, .f32⟩
  | 55 => ⟨S2048x5632, .f32⟩
  | 56 => ⟨S20992x5632, .f32⟩
  | 57 => ⟨S20992x5632, .f32⟩
  | 58 => ⟨S20992x5632, .i1⟩
  | 59 => ⟨S20992x5632, .f32⟩
  | 60 => ⟨S_, .i32⟩
  | 61 => ⟨S20992x1, .i32⟩
  | 62 => ⟨S20992x1, .i1⟩
  | 63 => ⟨S1x2048x5632, .f32⟩
  | 64 => ⟨S2048x5632, .f32⟩
  | 65 => ⟨S20992x5632, .f32⟩
  | 66 => ⟨S20992x5632, .f32⟩
  | 67 => ⟨S20992x5632, .f32⟩
  | 68 => ⟨S_, .f32⟩
  | 69 => ⟨S20992x5632, .f32⟩
  | 70 => ⟨S20992x5632, .f32⟩
  | 71 => ⟨S_, .f32⟩
  | 72 => ⟨S20992x5632, .f32⟩
  | 73 => ⟨S20992x5632, .f32⟩
  | 74 => ⟨S20992x5632, .f32⟩
  | 75 => ⟨S1x2048x5632, .f32⟩
  | 76 => ⟨S2048x5632, .f32⟩
  | 77 => ⟨S20992x5632, .f32⟩
  | 78 => ⟨S20992x5632, .f32⟩
  | 79 => ⟨S20992x5632, .i1⟩
  | 80 => ⟨S20992x5632, .f32⟩
  | 81 => ⟨S_, .i32⟩
  | 82 => ⟨S20992x1, .i32⟩
  | 83 => ⟨S20992x1, .i1⟩
  | 84 => ⟨S1x2048x5632, .f32⟩
  | 85 => ⟨S2048x5632, .f32⟩
  | 86 => ⟨S20992x5632, .f32⟩
  | 87 => ⟨S20992x5632, .f32⟩
  | 88 => ⟨S20992x5632, .f32⟩
  | 89 => ⟨S_, .f32⟩
  | 90 => ⟨S20992x5632, .f32⟩
  | 91 => ⟨S20992x5632, .f32⟩
  | 92 => ⟨S_, .f32⟩
  | 93 => ⟨S20992x5632, .f32⟩
  | 94 => ⟨S20992x5632, .f32⟩
  | 95 => ⟨S20992x5632, .f32⟩
  | 96 => ⟨S1x2048x5632, .f32⟩
  | 97 => ⟨S2048x5632, .f32⟩
  | 98 => ⟨S20992x5632, .f32⟩
  | 99 => ⟨S20992x5632, .f32⟩
  | 100 => ⟨S20992x5632, .i1⟩
  | 101 => ⟨S20992x5632, .f32⟩
  | 102 => ⟨S_, .i32⟩
  | 103 => ⟨S20992x1, .i32⟩
  | 104 => ⟨S20992x1, .i1⟩
  | 105 => ⟨S1x2048x5632, .f32⟩
  | 106 => ⟨S2048x5632, .f32⟩
  | 107 => ⟨S20992x5632, .f32⟩
  | 108 => ⟨S20992x5632, .f32⟩
  | 109 => ⟨S20992x5632, .f32⟩
  | 110 => ⟨S_, .f32⟩
  | 111 => ⟨S20992x5632, .f32⟩
  | 112 => ⟨S20992x5632, .f32⟩
  | 113 => ⟨S_, .f32⟩
  | 114 => ⟨S20992x5632, .f32⟩
  | 115 => ⟨S20992x5632, .f32⟩
  | 116 => ⟨S20992x5632, .f32⟩
  | 117 => ⟨S1x2048x5632, .f32⟩
  | 118 => ⟨S2048x5632, .f32⟩
  | 119 => ⟨S20992x5632, .f32⟩
  | 120 => ⟨S20992x5632, .f32⟩
  | 121 => ⟨S20992x5632, .i1⟩
  | 122 => ⟨S20992x5632, .f32⟩
  | 123 => ⟨S_, .i32⟩
  | 124 => ⟨S20992x1, .i32⟩
  | 125 => ⟨S20992x1, .i1⟩
  | 126 => ⟨S1x2048x5632, .f32⟩
  | 127 => ⟨S2048x5632, .f32⟩
  | _ => ⟨S41, .i32⟩

abbrev hbmTy0_1 (i : Nat) : BufTy := match i % 128 with
  | 0 => ⟨S20992x5632, .f32⟩
  | 1 => ⟨S20992x5632, .f32⟩
  | 2 => ⟨S20992x5632, .f32⟩
  | 3 => ⟨S_, .f32⟩
  | 4 => ⟨S20992x5632, .f32⟩
  | 5 => ⟨S20992x5632, .f32⟩
  | 6 => ⟨S_, .f32⟩
  | 7 => ⟨S20992x5632, .f32⟩
  | 8 => ⟨S20992x5632, .f32⟩
  | 9 => ⟨S20992x5632, .f32⟩
  | 10 => ⟨S1x2048x5632, .f32⟩
  | 11 => ⟨S2048x5632, .f32⟩
  | 12 => ⟨S20992x5632, .f32⟩
  | 13 => ⟨S20992x5632, .f32⟩
  | 14 => ⟨S20992x5632, .i1⟩
  | 15 => ⟨S20992x5632, .f32⟩
  | 16 => ⟨S_, .i32⟩
  | 17 => ⟨S20992x1, .i32⟩
  | 18 => ⟨S20992x1, .i1⟩
  | 19 => ⟨S1x2048x5632, .f32⟩
  | 20 => ⟨S2048x5632, .f32⟩
  | 21 => ⟨S20992x5632, .f32⟩
  | 22 => ⟨S20992x5632, .f32⟩
  | 23 => ⟨S20992x5632, .f32⟩
  | 24 => ⟨S_, .f32⟩
  | 25 => ⟨S20992x5632, .f32⟩
  | 26 => ⟨S20992x5632, .f32⟩
  | 27 => ⟨S_, .f32⟩
  | 28 => ⟨S20992x5632, .f32⟩
  | 29 => ⟨S20992x5632, .f32⟩
  | 30 => ⟨S20992x5632, .f32⟩
  | 31 => ⟨S1x2048x5632, .f32⟩
  | 32 => ⟨S2048x5632, .f32⟩
  | 33 => ⟨S20992x5632, .f32⟩
  | 34 => ⟨S20992x5632, .f32⟩
  | 35 => ⟨S20992x5632, .i1⟩
  | 36 => ⟨S20992x5632, .f32⟩
  | 37 => ⟨S_, .i32⟩
  | 38 => ⟨S20992x1, .i32⟩
  | 39 => ⟨S20992x1, .i1⟩
  | 40 => ⟨S1x2048x5632, .f32⟩
  | 41 => ⟨S2048x5632, .f32⟩
  | 42 => ⟨S20992x5632, .f32⟩
  | 43 => ⟨S20992x5632, .f32⟩
  | 44 => ⟨S20992x5632, .f32⟩
  | 45 => ⟨S_, .f32⟩
  | 46 => ⟨S20992x5632, .f32⟩
  | 47 => ⟨S20992x5632, .f32⟩
  | 48 => ⟨S_, .f32⟩
  | 49 => ⟨S20992x5632, .f32⟩
  | 50 => ⟨S20992x5632, .f32⟩
  | 51 => ⟨S20992x5632, .f32⟩
  | 52 => ⟨S1x2048x5632, .f32⟩
  | 53 => ⟨S2048x5632, .f32⟩
  | 54 => ⟨S20992x5632, .f32⟩
  | 55 => ⟨S20992x5632, .f32⟩
  | 56 => ⟨S20992x5632, .i1⟩
  | 57 => ⟨S20992x5632, .f32⟩
  | 58 => ⟨S20992x5632, .bf16⟩
  | _ => ⟨S41, .i32⟩

abbrev hbmTy (i : Nat) : BufTy := match i / 128 with
  | 0 => hbmTy0_0 i
  | 1 => hbmTy0_1 i
  | _ => ⟨S41, .i32⟩

abbrev bufTy : (tb : Table) → Fin (tcTables nBuf tb) → BufTy
  | .hbm, ⟨i, _⟩ => hbmTy i
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call2_v0 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call3_v0 : Ref sig .tc := ⟨.hbm, 45, rfl⟩
abbrev main_call3_v1 : Ref sig .tc := ⟨.hbm, 46, rfl⟩
abbrev main_call3_cst : Ref sig .tc := ⟨.hbm, 47, rfl⟩
abbrev main_call3_v2 : Ref sig .tc := ⟨.hbm, 48, rfl⟩
abbrev main_call3_v3 : Ref sig .tc := ⟨.hbm, 49, rfl⟩
abbrev main_call3_cst_0 : Ref sig .tc := ⟨.hbm, 50, rfl⟩
abbrev main_call3_v4 : Ref sig .tc := ⟨.hbm, 51, rfl⟩
abbrev main_call3_v5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call4_v0 : Ref sig .tc := ⟨.hbm, 58, rfl⟩
abbrev main_v30 : Ref sig .tc := ⟨.hbm, 59, rfl⟩
abbrev main_c_2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_call5_v0 : Ref sig .tc := ⟨.hbm, 66, rfl⟩
abbrev main_call5_v1 : Ref sig .tc := ⟨.hbm, 67, rfl⟩
abbrev main_call5_cst : Ref sig .tc := ⟨.hbm, 68, rfl⟩
abbrev main_call5_v2 : Ref sig .tc := ⟨.hbm, 69, rfl⟩
abbrev main_call5_v3 : Ref sig .tc := ⟨.hbm, 70, rfl⟩
abbrev main_call5_cst_0 : Ref sig .tc := ⟨.hbm, 71, rfl⟩
abbrev main_call5_v4 : Ref sig .tc := ⟨.hbm, 72, rfl⟩
abbrev main_call5_v5 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call6_v0 : Ref sig .tc := ⟨.hbm, 79, rfl⟩
abbrev main_v41 : Ref sig .tc := ⟨.hbm, 80, rfl⟩
abbrev main_c_3 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_call7_v0 : Ref sig .tc := ⟨.hbm, 87, rfl⟩
abbrev main_call7_v1 : Ref sig .tc := ⟨.hbm, 88, rfl⟩
abbrev main_call7_cst : Ref sig .tc := ⟨.hbm, 89, rfl⟩
abbrev main_call7_v2 : Ref sig .tc := ⟨.hbm, 90, rfl⟩
abbrev main_call7_v3 : Ref sig .tc := ⟨.hbm, 91, rfl⟩
abbrev main_call7_cst_0 : Ref sig .tc := ⟨.hbm, 92, rfl⟩
abbrev main_call7_v4 : Ref sig .tc := ⟨.hbm, 93, rfl⟩
abbrev main_call7_v5 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_call8_v0 : Ref sig .tc := ⟨.hbm, 100, rfl⟩
abbrev main_v52 : Ref sig .tc := ⟨.hbm, 101, rfl⟩
abbrev main_c_4 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_call9_v0 : Ref sig .tc := ⟨.hbm, 108, rfl⟩
abbrev main_call9_v1 : Ref sig .tc := ⟨.hbm, 109, rfl⟩
abbrev main_call9_cst : Ref sig .tc := ⟨.hbm, 110, rfl⟩
abbrev main_call9_v2 : Ref sig .tc := ⟨.hbm, 111, rfl⟩
abbrev main_call9_v3 : Ref sig .tc := ⟨.hbm, 112, rfl⟩
abbrev main_call9_cst_0 : Ref sig .tc := ⟨.hbm, 113, rfl⟩
abbrev main_call9_v4 : Ref sig .tc := ⟨.hbm, 114, rfl⟩
abbrev main_call9_v5 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_call10_v0 : Ref sig .tc := ⟨.hbm, 121, rfl⟩
abbrev main_v63 : Ref sig .tc := ⟨.hbm, 122, rfl⟩
abbrev main_c_5 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_call11_v0 : Ref sig .tc := ⟨.hbm, 129, rfl⟩
abbrev main_call11_v1 : Ref sig .tc := ⟨.hbm, 130, rfl⟩
abbrev main_call11_cst : Ref sig .tc := ⟨.hbm, 131, rfl⟩
abbrev main_call11_v2 : Ref sig .tc := ⟨.hbm, 132, rfl⟩
abbrev main_call11_v3 : Ref sig .tc := ⟨.hbm, 133, rfl⟩
abbrev main_call11_cst_0 : Ref sig .tc := ⟨.hbm, 134, rfl⟩
abbrev main_call11_v4 : Ref sig .tc := ⟨.hbm, 135, rfl⟩
abbrev main_call11_v5 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_call12_v0 : Ref sig .tc := ⟨.hbm, 142, rfl⟩
abbrev main_v74 : Ref sig .tc := ⟨.hbm, 143, rfl⟩
abbrev main_c_6 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_call13_v0 : Ref sig .tc := ⟨.hbm, 150, rfl⟩
abbrev main_call13_v1 : Ref sig .tc := ⟨.hbm, 151, rfl⟩
abbrev main_call13_cst : Ref sig .tc := ⟨.hbm, 152, rfl⟩
abbrev main_call13_v2 : Ref sig .tc := ⟨.hbm, 153, rfl⟩
abbrev main_call13_v3 : Ref sig .tc := ⟨.hbm, 154, rfl⟩
abbrev main_call13_cst_0 : Ref sig .tc := ⟨.hbm, 155, rfl⟩
abbrev main_call13_v4 : Ref sig .tc := ⟨.hbm, 156, rfl⟩
abbrev main_call13_v5 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_call14_v0 : Ref sig .tc := ⟨.hbm, 163, rfl⟩
abbrev main_v85 : Ref sig .tc := ⟨.hbm, 164, rfl⟩
abbrev main_c_7 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_call15_v0 : Ref sig .tc := ⟨.hbm, 171, rfl⟩
abbrev main_call15_v1 : Ref sig .tc := ⟨.hbm, 172, rfl⟩
abbrev main_call15_cst : Ref sig .tc := ⟨.hbm, 173, rfl⟩
abbrev main_call15_v2 : Ref sig .tc := ⟨.hbm, 174, rfl⟩
abbrev main_call15_v3 : Ref sig .tc := ⟨.hbm, 175, rfl⟩
abbrev main_call15_cst_0 : Ref sig .tc := ⟨.hbm, 176, rfl⟩
abbrev main_call15_v4 : Ref sig .tc := ⟨.hbm, 177, rfl⟩
abbrev main_call15_v5 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_call16_v0 : Ref sig .tc := ⟨.hbm, 184, rfl⟩
abbrev main_v96 : Ref sig .tc := ⟨.hbm, 185, rfl⟩
abbrev main_v97 : Ref sig .tc := ⟨.hbm, 186, rfl⟩

abbrev nD : Nat := 1
abbrev τ : Topo := Topo.v7x

variable {F : FTy → Type} [FloatOps F]
-- ==== MoeDown.lean ====
abbrev S41 : Shape := ⟨1, ![41]⟩
abbrev S1 : Shape := ⟨1, ![1]⟩
abbrev S20992x5632 : Shape := ⟨2, ![20992, 5632]⟩
abbrev S8x5632x2048 : Shape := ⟨3, ![8, 5632, 2048]⟩
abbrev S20992x2048 : Shape := ⟨2, ![20992, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S20992x5632, .bf16⟩
  | .hbm, ⟨1, _⟩ => ⟨S8x5632x2048, .f32⟩
  | .hbm, ⟨2, _⟩ => ⟨S20992x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | .local _ .smem, ⟨0, _⟩ => ⟨S41, .i32⟩
  | .local _ .smem, ⟨1, _⟩ => ⟨S1, .i32⟩
  | _, _ => ⟨S20992x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 41], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S41) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownIdeal.lean ====
abbrev S41 : Shape := ⟨1, ![41]⟩
abbrev S1 : Shape := ⟨1, ![1]⟩
abbrev S20992x5632 : Shape := ⟨2, ![20992, 5632]⟩
abbrev S8x5632x2048 : Shape := ⟨3, ![8, 5632, 2048]⟩
abbrev S_ : Shape := ⟨0, ![]⟩
abbrev S41x1 : Shape := ⟨2, ![41, 1]⟩
abbrev S41x512 : Shape := ⟨2, ![41, 512]⟩
abbrev S20992x1 : Shape := ⟨2, ![20992, 1]⟩
abbrev S20992x2048 : Shape := ⟨2, ![20992, 2048]⟩
abbrev S1x5632x2048 : Shape := ⟨3, ![1, 5632, 2048]⟩
abbrev S5632x2048 : Shape := ⟨2, ![5632, 2048]⟩

abbrev nBuf : Space → Nat
  | .hbm => 81
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S20992x5632, .bf16⟩
  | .hbm, ⟨3, _⟩ => ⟨S8x5632x2048, .f32⟩
  | .hbm, ⟨4, _⟩ => ⟨S20992x5632, .f32⟩
  | .hbm, ⟨5, _⟩ => ⟨S41, .i32⟩
  | .hbm, ⟨6, _⟩ => ⟨S41, .i32⟩
  | .hbm, ⟨7, _⟩ => ⟨S41, .i1⟩
  | .hbm, ⟨8, _⟩ => ⟨S_, .i32⟩
  | .hbm, ⟨9, _⟩ => ⟨S_, .i32⟩
  | .hbm, ⟨10, _⟩ => ⟨S41, .i32⟩
  | .hbm, ⟨11, _⟩ => ⟨S41, .i32⟩
  | .hbm, ⟨12, _⟩ => ⟨S41x1, .i32⟩
  | .hbm, ⟨13, _⟩ => ⟨S41x512, .i32⟩
  | .hbm, ⟨14, _⟩ => ⟨S20992x1, .i32⟩
  | .hbm, ⟨15, _⟩ => ⟨S_, .f32⟩
  | .hbm, ⟨16, _⟩ => ⟨S20992x2048, .f32⟩
  | .hbm, ⟨17, _⟩ => ⟨S_, .i32⟩
  | .hbm, ⟨18, _⟩ => ⟨S20992x1, .i32⟩
  | .hbm, ⟨19, _⟩ => ⟨S20992x1, .i1⟩
  | .hbm, ⟨20, _⟩ => ⟨S1x5632x2048, .f32⟩
  | .hbm, ⟨21, _⟩ => ⟨S5632x2048, .f32⟩
  | .hbm, ⟨22, _⟩ => ⟨S20992x2048, .f32⟩
  | .hbm, ⟨23, _⟩ => ⟨S20992x2048, .i1⟩
  | .hbm, ⟨24, _⟩ => ⟨S20992x2048, .f32⟩
  | .hbm, ⟨25, _⟩ => ⟨S_, .i32⟩
  | .hbm, ⟨26, _⟩ => ⟨S20992x1, .i32⟩
  | .hbm, ⟨27, _⟩ => ⟨S20992x1, .i1⟩
  | .hbm, ⟨28, _⟩ => ⟨S1x5632x2048, .f32⟩
  | .hbm, ⟨29, _⟩ => ⟨S5632x2048, .f32⟩
  | .hbm, ⟨30, _⟩ => ⟨S20992x2048, .f32⟩
  | .hbm, ⟨31, _⟩ => ⟨S20992x2048, .i1⟩
  | .hbm, ⟨32, _⟩ => ⟨S20992x2048, .f32⟩
  | .hbm, ⟨33, _⟩ => ⟨S_, .i32⟩
  | .hbm, ⟨34, _⟩ => ⟨S20992x1, .i32⟩
  | .hbm, ⟨35, _⟩ => ⟨S20992x1, .i1⟩
  | .hbm, ⟨36, _⟩ => ⟨S1x5632x2048, .f32⟩
  | .hbm, ⟨37, _⟩ => ⟨S5632x2048, .f32⟩
  | .hbm, ⟨38, _⟩ => ⟨S20992x2048, .f32⟩
  | .hbm, ⟨39, _⟩ => ⟨S20992x2048, .i1⟩
  | .hbm, ⟨40, _⟩ => ⟨S20992x2048, .f32⟩
  | .hbm, ⟨41, _⟩ => ⟨S_, .i32⟩
  | .hbm, ⟨42, _⟩ => ⟨S20992x1, .i32⟩
  | .hbm, ⟨43, _⟩ => ⟨S20992x1, .i1⟩
  | .hbm, ⟨44, _⟩ => ⟨S1x5632x2048, .f32⟩
  | .hbm, ⟨45, _⟩ => ⟨S5632x2048, .f32⟩
  | .hbm, ⟨46, _⟩ => ⟨S20992x2048, .f32⟩
  | .hbm, ⟨47, _⟩ => ⟨S20992x2048, .i1⟩
  | .hbm, ⟨48, _⟩ => ⟨S20992x2048, .f32⟩
  | .hbm, ⟨49, _⟩ => ⟨S_, .i32⟩
  | .hbm, ⟨50, _⟩ => ⟨S20992x1, .i32⟩
  | .hbm, ⟨51, _⟩ => ⟨S20992x1, .i1⟩
  | .hbm, ⟨52, _⟩ => ⟨S1x5632x2048, .f32⟩
  | .hbm, ⟨53, _⟩ => ⟨S5632x2048, .f32⟩
  | .hbm, ⟨54, _⟩ => ⟨S20992x2048, .f32⟩
  | .hbm, ⟨55, _⟩ => ⟨S20992x2048, .i1⟩
  | .hbm, ⟨56, _⟩ => ⟨S20992x2048, .f32⟩
  | .hbm, ⟨57, _⟩ => ⟨S_, .i32⟩
  | .hbm, ⟨58, _⟩ => ⟨S20992x1, .i32⟩
  | .hbm, ⟨59, _⟩ => ⟨S20992x1, .i1⟩
  | .hbm, ⟨60, _⟩ => ⟨S1x5632x2048, .f32⟩
  | .hbm, ⟨61, _⟩ => ⟨S5632x2048, .f32⟩
  | .hbm, ⟨62, _⟩ => ⟨S20992x2048, .f32⟩
  | .hbm, ⟨63, _⟩ => ⟨S20992x2048, .i1⟩
  | .hbm, ⟨64, _⟩ => ⟨S20992x2048, .f32⟩
  | .hbm, ⟨65, _⟩ => ⟨S_, .i32⟩
  | .hbm, ⟨66, _⟩ => ⟨S20992x1, .i32⟩
  | .hbm, ⟨67, _⟩ => ⟨S20992x1, .i1⟩
  | .hbm, ⟨68, _⟩ => ⟨S1x5632x2048, .f32⟩
  | .hbm, ⟨69, _⟩ => ⟨S5632x2048, .f32⟩
  | .hbm, ⟨70, _⟩ => ⟨S20992x2048, .f32⟩
  | .hbm, ⟨71, _⟩ => ⟨S20992x2048, .i1⟩
  | .hbm, ⟨72, _⟩ => ⟨S20992x2048, .f32⟩
  | .hbm, ⟨73, _⟩ => ⟨S_, .i32⟩
  | .hbm, ⟨74, _⟩ => ⟨S20992x1, .i32⟩
  | .hbm, ⟨75, _⟩ => ⟨S20992x1, .i1⟩
  | .hbm, ⟨76, _⟩ => ⟨S1x5632x2048, .f32⟩
  | .hbm, ⟨77, _⟩ => ⟨S5632x2048, .f32⟩
  | .hbm, ⟨78, _⟩ => ⟨S20992x2048, .f32⟩
  | .hbm, ⟨79, _⟩ => ⟨S20992x2048, .i1⟩
  | .hbm, ⟨80, _⟩ => ⟨S20992x2048, .f32⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_v0 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_v0 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call3_v0 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call4_v0 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call5_v0 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call6_v0 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call7_v0 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call8_v0 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Glu.lean ====
abbrev S8320x2048 : Shape := ⟨2, ![8320, 2048]⟩
abbrev S2048x5632 : Shape := ⟨2, ![2048, 5632]⟩
abbrev S8320x5632 : Shape := ⟨2, ![8320, 5632]⟩
abbrev S1040x2048 : Shape := ⟨2, ![1040, 2048]⟩
abbrev S2048x512 : Shape := ⟨2, ![2048, 512]⟩
abbrev S1040x512 : Shape := ⟨2, ![1040, 512]⟩

abbrev nBuf : Space → Nat
  | .hbm => 4
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S2048x5632, .f32⟩
  | .hbm, ⟨2, _⟩ => ⟨S2048x5632, .f32⟩
  | .hbm, ⟨3, _⟩ => ⟨S8320x5632, .bf16⟩
  | .local _ .vmem, ⟨0, _⟩ => ⟨S1040x2048, .bf16⟩
  | .local _ .vmem, ⟨1, _⟩ => ⟨S1040x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1040x512, .bf16⟩
  | .local _ .vmem, ⟨7, _⟩ => ⟨S1040x512, .bf16⟩
  | .local _ .vmem, ⟨8, _⟩ => ⟨S2048x512, .bf16⟩
  | .local _ .vmem, ⟨9, _⟩ => ⟨S2048x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1040x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefGluIdeal.lean ====
abbrev S8320x2048 : Shape := ⟨2, ![8320, 2048]⟩
abbrev S2048x5632 : Shape := ⟨2, ![2048, 5632]⟩
abbrev S8320x5632 : Shape := ⟨2, ![8320, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x5632, .f32⟩
  | .hbm, ⟨2, _⟩ => ⟨S2048x5632, .f32⟩
  | .hbm, ⟨3, _⟩ => ⟨S8320x2048, .f32⟩
  | .hbm, ⟨4, _⟩ => ⟨S8320x5632, .f32⟩
  | .hbm, ⟨5, _⟩ => ⟨S8320x5632, .f32⟩
  | .hbm, ⟨6, _⟩ => ⟨S8320x5632, .f32⟩
  | .hbm, ⟨7, _⟩ => ⟨S_, .f32⟩
  | .hbm, ⟨8, _⟩ => ⟨S8320x5632, .f32⟩
  | .hbm, ⟨9, _⟩ => ⟨S8320x5632, .f32⟩
  | .hbm, ⟨10, _⟩ => ⟨S_, .f32⟩
  | .hbm, ⟨11, _⟩ => ⟨S8320x5632, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S8320x5632, .f32⟩
  | .hbm, ⟨16, _⟩ => ⟨S8320x5632, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Out.lean ====
abbrev S8320x5632 : Shape := ⟨2, ![8320, 5632]⟩
abbrev S5632x2048 : Shape := ⟨2, ![5632, 2048]⟩
abbrev S8320x2048 : Shape := ⟨2, ![8320, 2048]⟩
abbrev S320x5632 : Shape := ⟨2, ![320, 5632]⟩
abbrev S320x2048 : Shape := ⟨2, ![320, 2048]⟩
abbrev S320x1 : Shape := ⟨2, ![320, 1]⟩

abbrev nBuf : Space → Nat
  | .hbm => 5
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S5632x2048, .bf16⟩
  | .hbm, ⟨4, _⟩ => ⟨S8320x2048, .f32⟩
  | .local _ .vmem, ⟨0, _⟩ => ⟨S320x5632, .bf16⟩
  | .local _ .vmem, ⟨1, _⟩ => ⟨S320x5632, .bf16⟩
  | .local _ .vmem, ⟨2, _⟩ => ⟨S5632x2048, .bf16⟩
  | .local _ .vmem, ⟨3, _⟩ => ⟨S320x2048, .f32⟩
  | .local _ .vmem, ⟨4, _⟩ => ⟨S320x2048, .f32⟩
  | .local _ .vmem, ⟨5, _⟩ => ⟨S320x2048, .f32⟩
  | .local _ .vmem, ⟨6, _⟩ => ⟨S320x2048, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![26, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S320x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S320x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S320x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutIdeal.lean ====
abbrev S8320x5632 : Shape := ⟨2, ![8320, 5632]⟩
abbrev S5632x2048 : Shape := ⟨2, ![5632, 2048]⟩
abbrev S8320x2048 : Shape := ⟨2, ![8320, 2048]⟩
abbrev S4160 : Shape := ⟨1, ![4160]⟩
abbrev S_ : Shape := ⟨0, ![]⟩
abbrev S1x4160x1 : Shape := ⟨3, ![1, 4160, 1]⟩
abbrev S2x4160x2048 : Shape := ⟨3, ![2, 4160, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .f32⟩
  | .hbm, ⟨2, _⟩ => ⟨S8320x2048, .f32⟩
  | .hbm, ⟨3, _⟩ => ⟨S4160, .i32⟩
  | .hbm, ⟨4, _⟩ => ⟨S_, .i32⟩
  | .hbm, ⟨5, _⟩ => ⟨S4160, .i32⟩
  | .hbm, ⟨6, _⟩ => ⟨S4160, .i1⟩
  | .hbm, ⟨7, _⟩ => ⟨S1x4160x1, .i1⟩
  | .hbm, ⟨8, _⟩ => ⟨S1x4160x1, .f32⟩
  | .hbm, ⟨9, _⟩ => ⟨S8320x5632, .f32⟩
  | .hbm, ⟨10, _⟩ => ⟨S8320x2048, .f32⟩
  | .hbm, ⟨11, _⟩ => ⟨S2x4160x2048, .f32⟩
  | .hbm, ⟨12, _⟩ => ⟨S2x4160x2048, .f32⟩
  | .hbm, ⟨13, _⟩ => ⟨S2x4160x2048, .f32⟩
  | .hbm, ⟨14, _⟩ => ⟨S2x4160x2048, .f32⟩
  | .hbm, ⟨15, _⟩ => ⟨S2x4160x2048, .f32⟩
  | .hbm, ⟨16, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== EvenOut.lean ====
abbrev S8320x1024 : Shape := ⟨2, ![8320, 1024]⟩
abbrev S2048x2048 : Shape := ⟨2, ![2048, 2048]⟩
abbrev S8320x2048 : Shape := ⟨2, ![8320, 2048]⟩
abbrev S520x1024 : Shape := ⟨2, ![520, 1024]⟩
abbrev S520x2048 : Shape := ⟨2, ![520, 2048]⟩
abbrev S1024x2048 : Shape := ⟨2, ![1024, 2048]⟩
abbrev S520x1 : Shape := ⟨2, ![520, 1]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x2048, .f32⟩
  | .hbm, ⟨3, _⟩ => ⟨S8320x2048, .f32⟩
  | .hbm, ⟨4, _⟩ => ⟨S2048x2048, .bf16⟩
  | .hbm, ⟨5, _⟩ => ⟨S8320x2048, .f32⟩
  | .local _ .vmem, ⟨0, _⟩ => ⟨S520x1024, .bf16⟩
  | .local _ .vmem, ⟨1, _⟩ => ⟨S520x1024, .bf16⟩
  | .local _ .vmem, ⟨2, _⟩ => ⟨S520x1024, .bf16⟩
  | .local _ .vmem, ⟨3, _⟩ => ⟨S520x1024, .bf16⟩
  | .local _ .vmem, ⟨4, _⟩ => ⟨S2048x2048, .bf16⟩
  | .local _ .vmem, ⟨5, _⟩ => ⟨S520x2048, .f32⟩
  | .local _ .vmem, ⟨6, _⟩ => ⟨S520x2048, .f32⟩
  | .local _ .vmem, ⟨7, _⟩ => ⟨S520x2048, .f32⟩
  | .local _ .vmem, ⟨8, _⟩ => ⟨S520x2048, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S520x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S520x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S520x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S520x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefEvenIdeal.lean ====
abbrev S8320x1024 : Shape := ⟨2, ![8320, 1024]⟩
abbrev S2048x2048 : Shape := ⟨2, ![2048, 2048]⟩
abbrev S8320x2048 : Shape := ⟨2, ![8320, 2048]⟩
abbrev S4160 : Shape := ⟨1, ![4160]⟩
abbrev S_ : Shape := ⟨0, ![]⟩
abbrev S1x4160x1 : Shape := ⟨3, ![1, 4160, 1]⟩
abbrev S2x4160x2048 : Shape := ⟨3, ![2, 4160, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .bf16⟩
  | .hbm, ⟨2, _⟩ => ⟨S2048x2048, .f32⟩
  | .hbm, ⟨3, _⟩ => ⟨S8320x2048, .f32⟩
  | .hbm, ⟨4, _⟩ => ⟨S4160, .i32⟩
  | .hbm, ⟨5, _⟩ => ⟨S_, .i32⟩
  | .hbm, ⟨6, _⟩ => ⟨S4160, .i32⟩
  | .hbm, ⟨7, _⟩ => ⟨S4160, .i1⟩
  | .hbm, ⟨8, _⟩ => ⟨S1x4160x1, .i1⟩
  | .hbm, ⟨9, _⟩ => ⟨S1x4160x1, .f32⟩
  | .hbm, ⟨10, _⟩ => ⟨S8320x2048, .bf16⟩
  | .hbm, ⟨11, _⟩ => ⟨S8320x2048, .f32⟩
  | .hbm, ⟨12, _⟩ => ⟨S8320x2048, .f32⟩
  | .hbm, ⟨13, _⟩ => ⟨S2x4160x2048, .f32⟩
  | .hbm, ⟨14, _⟩ => ⟨S2x4160x2048, .f32⟩
  | .hbm, ⟨15, _⟩ => ⟨S2x4160x2048, .f32⟩
  | .hbm, ⟨16, _⟩ => ⟨S2x4160x2048, .f32⟩
  | .hbm, ⟨17, _⟩ => ⟨S2x4160x2048, .f32⟩
  | .hbm, ⟨18, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== SsdOut.lean ====
abbrev S8320x4096 : Shape := ⟨2, ![8320, 4096]⟩
abbrev S4096x2048 : Shape := ⟨2, ![4096, 2048]⟩
abbrev S8320x2048 : Shape := ⟨2, ![8320, 2048]⟩
abbrev S520x4096 : Shape := ⟨2, ![520, 4096]⟩
abbrev S520x2048 : Shape := ⟨2, ![520, 2048]⟩
abbrev S520x1 : Shape := ⟨2, ![520, 1]⟩

abbrev nBuf : Space → Nat
  | .hbm => 5
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S4096x2048, .f32⟩
  | .hbm, ⟨2, _⟩ => ⟨S8320x2048, .f32⟩
  | .hbm, ⟨3, _⟩ => ⟨S4096x2048, .bf16⟩
  | .hbm, ⟨4, _⟩ => ⟨S8320x2048, .f32⟩
  | .local _ .vmem, ⟨0, _⟩ => ⟨S520x4096, .bf16⟩
  | .local _ .vmem, ⟨1, _⟩ => ⟨S520x4096, .bf16⟩
  | .local _ .vmem, ⟨2, _⟩ => ⟨S4096x2048, .bf16⟩
  | .local _ .vmem, ⟨3, _⟩ => ⟨S520x2048, .f32⟩
  | .local _ .vmem, ⟨4, _⟩ => ⟨S520x2048, .f32⟩
  | .local _ .vmem, ⟨5, _⟩ => ⟨S520x2048, .f32⟩
  | .local _ .vmem, ⟨6, _⟩ => ⟨S520x2048, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S520x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S520x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S520x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefSsdIdeal.lean ====
abbrev S8320x4096 : Shape := ⟨2, ![8320, 4096]⟩
abbrev S4096x2048 : Shape := ⟨2, ![4096, 2048]⟩
abbrev S8320x2048 : Shape := ⟨2, ![8320, 2048]⟩
abbrev S4160 : Shape := ⟨1, ![4160]⟩
abbrev S_ : Shape := ⟨0, ![]⟩
abbrev S1x4160x1 : Shape := ⟨3, ![1, 4160, 1]⟩
abbrev S2x4160x2048 : Shape := ⟨3, ![2, 4160, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x2048, .f32⟩
  | .hbm, ⟨2, _⟩ => ⟨S8320x2048, .f32⟩
  | .hbm, ⟨3, _⟩ => ⟨S4160, .i32⟩
  | .hbm, ⟨4, _⟩ => ⟨S_, .i32⟩
  | .hbm, ⟨5, _⟩ => ⟨S4160, .i32⟩
  | .hbm, ⟨6, _⟩ => ⟨S4160, .i1⟩
  | .hbm, ⟨7, _⟩ => ⟨S1x4160x1, .i1⟩
  | .hbm, ⟨8, _⟩ => ⟨S1x4160x1, .f32⟩
  | .hbm, ⟨9, _⟩ => ⟨S8320x4096, .f32⟩
  | .hbm, ⟨10, _⟩ => ⟨S8320x2048, .f32⟩
  | .hbm, ⟨11, _⟩ => ⟨S2x4160x2048, .f32⟩
  | .hbm, ⟨12, _⟩ => ⟨S2x4160x2048, .f32⟩
  | .hbm, ⟨13, _⟩ => ⟨S2x4160x2048, .f32⟩
  | .hbm, ⟨14, _⟩ => ⟨S2x4160x2048, .f32⟩
  | .hbm, ⟨15, _⟩ => ⟨S2x4160x2048, .f32⟩
  | .hbm, ⟨16, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.MlstmSpec.lean ====
module

public import Idealize.ShloMosaic.Lib.Pipeline.ValueKit
public import Idealize.ShloMosaic.Lib.Pointwise

/-!
One chunk of the chunkwise mLSTM of one head, over the extended reals: what the chunk of 64 positions gives out, and the
memory `C`, the normaliser `n` and the stabiliser `m` it leaves. `q` is already scaled, `b` is the running sum of the log
forget gates inside the chunk and `i` the input gate.
-/

@[expose] public section

set_option maxRecDepth 16384

noncomputable section
namespace Cert.Mlstm

open Idealize.ShloMosaic Idealize.ShloMosaic.TcCoe Idealize.SL.Sem

/-- What the 64 positions of a chunk bring to one head. -/
structure Chunk where
  q : Fin 64 → Fin 128 → EReal
  k : Fin 64 → Fin 128 → EReal
  v : Fin 64 → Fin 256 → EReal
  i : Fin 64 → EReal
  b : Fin 64 → EReal

/-- What one head carries from chunk to chunk. -/
structure State where
  C : Fin 128 → Fin 256 → EReal
  n : Fin 128 → EReal
  m : EReal

/-- The state before the first chunk. -/
def State.zero : State := ⟨fun _ _ => 0, fun _ => 0, 0⟩

/-- The decay from position `s` to position `l`, and the large negative number where `s` is later than `l`. -/
def dm (x : Chunk) (l s : Fin 64) : EReal :=
  if s ≤ l then x.b l - x.b s + x.i s else Ideal.ofBits .f32 0xF149F2CA#32

/-- The stabiliser of position `l`. -/
def mT (x : Chunk) (z : State) (l : Fin 64) : EReal :=
  max (x.b l + z.m) (Finset.univ.fold max (Ideal.ofBits .f32 0xFF800000#32) fun s => dm x l s)

/-- The weight of position `s` at position `l`. -/
def sw (x : Chunk) (z : State) (l s : Fin 64) : EReal :=
  (∑ d, x.q l d * x.k s d) * Ideal.exp (dm x l s - mT x z l)

/-- The weight of the carried memory at position `l`. -/
def wI (x : Chunk) (z : State) (l : Fin 64) : EReal := Ideal.exp (x.b l + z.m - mT x z l)

/-- The chunk's output at position `l`, value lane `e`. -/
def hh (x : Chunk) (z : State) (l : Fin 64) (e : Fin 256) : EReal :=
  Ideal.div (∑ s, sw x z l s * x.v s e + wI x z l * ∑ d, x.q l d * z.C d e)
    (max (FloatOps.absf (F := Ideal) (φ := .f32) (∑ s, sw x z l s + wI x z l * ∑ d, x.q l d * z.n d)) (Ideal.exp (0 - mT x z l)))

/-- The decay from position `l` to the chunk's end. -/
def aC (x : Chunk) (l : Fin 64) : EReal := x.b 63 - x.b l + x.i l

/-- The stabiliser after the chunk. -/
def mN (x : Chunk) (z : State) : EReal :=
  max (x.b 63 + z.m) (Finset.univ.fold max (Ideal.ofBits .f32 0xFF800000#32) fun l => aC x l)

/-- How much of the carried memory is kept. -/
def dec (x : Chunk) (z : State) : EReal := Ideal.exp (x.b 63 + z.m - mN x z)

/-- The weight of position `l` in the new memory. -/
def wN (x : Chunk) (z : State) (l : Fin 64) : EReal := Ideal.exp (aC x l - mN x z)

/-- The memory after the chunk. -/
def cN (x : Chunk) (z : State) (d : Fin 128) (e : Fin 256) : EReal :=
  dec x z * z.C d e + ∑ l, wN x z l * x.k l d * x.v l e

/-- The normaliser after the chunk. -/
def nN (x : Chunk) (z : State) (d : Fin 128) : EReal :=
  dec x z * z.n d + ∑ l, wN x z l * x.k l d

/-- The state after the chunk. -/
def next (x : Chunk) (z : State) : State := ⟨cN x z, nN x z, mN x z⟩

/-- The state before chunk `j`, of the chunks `x 0`, `x 1`, …. -/
def state (x : ℕ → Chunk) : ℕ → State
  | 0 => State.zero
  | j + 1 => next (x j) (state x j)

/-- The head's result: the chunk's output, normalised over its 256 lanes, scaled and gated. -/
def out (x : Chunk) (z : State) (w : Fin 256 → EReal) (o : EReal) (l : Fin 64) (e : Fin 256) : EReal :=
  hh x z l e
      * Ideal.rsqrt (Ideal.div (∑ u, hh x z l u * hh x z l u) (Ideal.ofBits .f32 0x43800000#32)
          + Ideal.ofBits .f32 0x358637BD#32)
    * w e * Ideal.div 1 (1 + Ideal.exp (0 - o))

/-- The signed comparison of two positions of a chunk, as words. -/
theorem sge_word (l s : Fin 64) :
    IntOp.cmpi CmpIPredicate.sge (BitVec.ofNat 32 l.val) (BitVec.ofNat 32 s.val) = if s ≤ l then 1#1 else 0#1 := by
  revert l s
  decide +kernel

end Cert.Mlstm
end
-- ==== Proof.MlstmHead.lean ====
module

public import proofs.«01_k».proof.Proof.Gen.KernelIdeal.Value
public import proofs.«01_k».proof.Proof.MlstmSpec

/-!
What the kernel's body makes of one head of one batch row, as functions of the blocks it reads: the body writes the same
arithmetic out eight times, and here it is once.
-/

@[expose] public section

set_option maxRecDepth 16384

noncomputable section
namespace Cert.Mlstm

open Idealize.ShloMosaic Idealize.ShloMosaic.TcCoe Idealize.SL.Sem
open Cert.KernelIdeal Cert.KernelIdeal.Gen

/-- The decays before the mask, of the gates' column and rows. -/
def kDm (bc : FVec Ideal S64x1 .f32) (br ir : FVec Ideal S1x64 .f32) : FVec Ideal S64x64 .f32 :=
  addf (subf (broadcastTo S64x64 bc broadcasts_S64x1_S64x64) (broadcastTo S64x64 br broadcasts_S1x64_S64x64))
    (broadcastTo S64x64 ir broadcasts_S1x64_S64x64)

/-- The stabilisers of the chunk's positions. -/
def kM (bc : FVec Ideal S64x1 .f32) (br ir : FVec Ideal S1x64 .f32) (m : Vec Ideal S1x1x1 .f32) : FVec Ideal S64x1 .f32 :=
  k0_pay48 k0_pay7 bc (k0_pay42 m) (kDm bc br ir)

/-- The weights between the chunk's positions. -/
def kS (q k : Vec Ideal S1x64x128 .f32) (bc : FVec Ideal S64x1 .f32) (br ir : FVec Ideal S1x64 .f32) (m : Vec Ideal S1x1x1 .f32) :
    FVec Ideal S64x64 .f32 :=
  k0_pay146 (k0_pay46 k0_pay7 (kDm bc br ir)) (k0_pay144 (k0_pay35 q) (k0_pay36 k)) (k0_pay145 (kM bc br ir m))

/-- The carried memory's weights. -/
def kW (bc : FVec Ideal S64x1 .f32) (br ir : FVec Ideal S1x64 .f32) (m : Vec Ideal S1x1x1 .f32) : FVec Ideal S64x1 .f32 :=
  k0_pay147 (k0_pay47 bc (k0_pay42 m)) (kM bc br ir m)

/-- What the body stores of the head's output. -/
def kOut (q k : Vec Ideal S1x64x128 .f32) (v o : Vec Ideal S1x64x256 .f32) (bc : FVec Ideal S64x1 .f32)
    (br ir : FVec Ideal S1x64 .f32) (m : Vec Ideal S1x1x1 .f32) (C : Vec Ideal S1x1x128x256 .f32) (n : Vec Ideal S1x1x128 .f32)
    (w : Vec Ideal S1x256 .f32) : FVec Ideal S1x64x256 .bf16 :=
  k0_pay184 (k0_pay38 o) (kM bc br ir m)
    (k0_pay164 (k0_pay35 q) (k0_pay37 v) (k0_pay43 C) (kS q k bc br ir m) (kW bc br ir m))
    (k0_pay165 (k0_pay35 q) (k0_pay44 n) (kS q k bc br ir m) (kW bc br ir m)) w

/-- What the body stores of the head's memory. -/
def kC (k : Vec Ideal S1x64x128 .f32) (v : Vec Ideal S1x64x256 .f32) (bc ic : FVec Ideal S64x1 .f32) (g : FVec Ideal S1x1 .f32)
    (m : Vec Ideal S1x1x1 .f32) (C : Vec Ideal S1x1x128x256 .f32) : FVec Ideal S1x1x128x256 .f32 :=
  k0_pay235 (k0_pay37 v) (k0_pay43 C) (k0_pay203 bc ic g (k0_pay42 m)) (k0_pay204 (k0_pay36 k) bc ic g (k0_pay42 m))

/-- What the body stores of the head's normaliser. -/
def kN (k : Vec Ideal S1x64x128 .f32) (bc ic : FVec Ideal S64x1 .f32) (g : FVec Ideal S1x1 .f32)
    (m : Vec Ideal S1x1x1 .f32) (n : Vec Ideal S1x1x128 .f32) : FVec Ideal S1x1x128 .f32 :=
  k0_pay236 (k0_pay44 n) (k0_pay203 bc ic g (k0_pay42 m)) (k0_pay204 (k0_pay36 k) bc ic g (k0_pay42 m))

/-- What the body stores of the head's stabiliser. -/
def kMn (bc ic : FVec Ideal S64x1 .f32) (g : FVec Ideal S1x1 .f32) (m : Vec Ideal S1x1x1 .f32) : FVec Ideal S1x1x128 .f32 :=
  k0_pay237 (k0_pay202 bc ic g (k0_pay42 m))

/-- The chunk the body reads, from its loaded pieces. -/
def kChunk (q k : Vec Ideal S1x64x128 .f32) (v : Vec Ideal S1x64x256 .f32) (bc ic : FVec Ideal S64x1 .f32) : Chunk :=
  ⟨fun l d => q (ix3 0 l d) * Ideal.ofBits .f32 0x3DB504F3#32, fun l d => k (ix3 0 l d), fun l e => v (ix3 0 l e),
    fun l => ic (ix2 l 0), fun l => bc (ix2 l 0)⟩

/-- The state the body reads, from its loaded pieces. -/
def kState (m : Vec Ideal S1x1x1 .f32) (C : Vec Ideal S1x1x128x256 .f32) (n : Vec Ideal S1x1x128 .f32) : State :=
  ⟨fun d e => C (ix4 0 0 d e), fun d => n (ix3 0 0 d), m (ix3 0 0 0)⟩

section
variable (q k : Vec Ideal S1x64x128 .f32) (v o : Vec Ideal S1x64x256 .f32) (bc ic : FVec Ideal S64x1 .f32)
  (br ir : FVec Ideal S1x64 .f32) (g : FVec Ideal S1x1 .f32) (m : Vec Ideal S1x1x1 .f32) (C : Vec Ideal S1x1x128x256 .f32)
  (n : Vec Ideal S1x1x128 .f32) (w : Vec Ideal S1x256 .f32)
  (hb : ∀ s : Fin 64, br (ix2 0 s) = bc (ix2 s 0)) (hi : ∀ s : Fin 64, ir (ix2 0 s) = ic (ix2 s 0))
  (hg : g (ix2 0 0) = bc (ix2 63 0))

include hb hi in
theorem kDm_at (l s : Fin 64) :
    k0_pay46 (F := Ideal) k0_pay7 (kDm bc br ir) (ix2 l s) = dm (kChunk q k v bc ic) l s := by
  unfold dm
  pointwise [k0_pay46, k0_pay7, kDm, kChunk, hb, hi, sge_word]
  by_cases h : s ≤ l
  · simp only [if_pos h]; rfl
  · simp only [if_neg h]; rfl

include hb hi in
theorem kM_at (l : Fin 64) : kM bc br ir m (ix2 l 0) = mT (kChunk q k v bc ic) (kState m C n) l := by
  have h := kDm_at q k v bc ic br ir hb hi
  unfold mT
  pointwise [kM, k0_pay48, k0_pay47, k0_pay42, h, kState]
  rfl

include hb hi in
theorem kS_at (l s : Fin 64) : kS q k bc br ir m (ix2 l s) = sw (kChunk q k v bc ic) (kState m C n) l s := by
  have h := kDm_at q k v bc ic br ir hb hi
  have h1 := kM_at q k v bc ic br ir m C n hb hi
  unfold sw
  pointwise [kS, k0_pay146, k0_pay144, k0_pay145, k0_pay35, k0_pay36, h, h1]
  rfl

include hb hi in
theorem kW_at (l : Fin 64) : kW bc br ir m (ix2 l 0) = wI (kChunk q k v bc ic) (kState m C n) l := by
  have h1 := kM_at q k v bc ic br ir m C n hb hi
  unfold wI
  pointwise [kW, k0_pay147, k0_pay47, k0_pay42, h1]
  rfl

include hb hi in
theorem kOut_at (l : Fin 64) (e : Fin 256) :
    kOut q k v o bc br ir m C n w (ix3 0 l e)
      = out (kChunk q k v bc ic) (kState m C n) (fun u => w (ix2 0 u)) (o (ix3 0 l e)) l e := by
  have h1 := kM_at q k v bc ic br ir m C n hb hi
  have h2 := kS_at q k v bc ic br ir m C n hb hi
  have h3 := kW_at q k v bc ic br ir m C n hb hi
  unfold out hh
  pointwise [kOut, k0_pay184, k0_pay164, k0_pay165, k0_pay35, k0_pay37, k0_pay38, k0_pay43, k0_pay44, h1, h2, h3]
  rfl

include hg in
theorem kA_at (l : Fin 64) : k0_pay201 (F := Ideal) bc ic g (ix2 l 0) = aC (kChunk q k v bc ic) l := by
  unfold aC
  pointwise [k0_pay201, hg]
  rfl

include hg in
theorem kMN_at : k0_pay202 (F := Ideal) bc ic g (k0_pay42 m) (ix2 0 0) = mN (kChunk q k v bc ic) (kState m C n) := by
  have h := kA_at q k v bc ic g hg
  unfold mN
  pointwise [k0_pay202, k0_pay42, h, hg]
  rfl

include hg in
theorem kDec_at : k0_pay203 (F := Ideal) bc ic g (k0_pay42 m) (ix2 0 0) = dec (kChunk q k v bc ic) (kState m C n) := by
  have h := kMN_at q k v bc ic g m C n hg
  have h1 : k0_pay42 m (ix2 0 0) = m (ix3 0 0 0) := by pointwise [k0_pay42]
  unfold dec
  pointwise [k0_pay203, h, h1, hg]
  rfl

include hg in
theorem kWk_at (l : Fin 64) (d : Fin 128) :
    k0_pay204 (F := Ideal) (k0_pay36 k) bc ic g (k0_pay42 m) (ix2 l d)
      = wN (kChunk q k v bc ic) (kState m C n) l * (kChunk q k v bc ic).k l d := by
  have h := kMN_at q k v bc ic g m C n hg
  have h1 := kA_at q k v bc ic g hg
  unfold wN
  pointwise [k0_pay204, k0_pay36, h, h1]
  rfl

include hg in
theorem kC_at (d : Fin 128) (e : Fin 256) :
    kC k v bc ic g m C (ix4 0 0 d e) = cN (kChunk q k v bc ic) (kState m C n) d e := by
  have h := kDec_at q k v bc ic g m C n hg
  have h1 := kWk_at q k v bc ic g m C n hg
  unfold cN
  pointwise [kC, k0_pay235, k0_pay37, k0_pay43, h, h1]
  rfl

include hg in
theorem kN_at (d : Fin 128) : kN k bc ic g m n (ix3 0 0 d) = nN (kChunk q k v bc ic) (kState m C n) d := by
  have h := kDec_at q k v bc ic g m C n hg
  have h1 := kWk_at q k v bc ic g m C n hg
  unfold nN
  pointwise [kN, k0_pay236, k0_pay44, h, h1]
  rfl

include hg in
theorem kMn_at (d : Fin 128) : kMn bc ic g m (ix3 0 0 d) = mN (kChunk q k v bc ic) (kState m C n) := by
  have h := kMN_at q k v bc ic g m C n hg
  pointwise [kMn, k0_pay237, h]

end
end Cert.Mlstm
end
-- ==== Proof.MlstmBlocks.lean ====
module

public import proofs.«01_k».proof.Proof.MlstmHead
public import Idealize.ShloMosaic.Lib.Routing.OpsSet

/-!
What the kernel's blocks hold at a grid point, in terms of the four arguments: the chunk a head reads at point `t` is chunk
`t` of the projected columns `p`, with the gate biases added.
-/

@[expose] public section

set_option maxRecDepth 16384

noncomputable section
namespace Cert.Mlstm

open Idealize.ShloMosaic Idealize.ShloMosaic.TcCoe Idealize.SL.Sem

/-- Position `l` of chunk `j`. -/
def row (j : ℕ) (l : Fin 64) : Fin 4160 := ⟨(64 * j + l.val) % 4160, Nat.mod_lt _ (by decide)⟩

/-- The capped gate. -/
def cap (x : EReal) : EReal :=
  Ideal.ofBits .f32 0x41700000#32 * Ideal.tanh (Ideal.div x (Ideal.ofBits .f32 0x41700000#32))

/-- The softplus. -/
def splus (x : EReal) : EReal :=
  max x 0 + Ideal.log1p (Ideal.exp (0 - FloatOps.absf (F := Ideal) (φ := .f32) x))

section
variable (p : (⟨3, ![2, 4160, 6528]⟩ : Shape).Idx → EReal) (ib fb : (⟨1, ![4]⟩ : Shape).Idx → EReal)

/-- The input gate of head `h` at position `r`; a position before the sequence begins has the large negative number. -/
def gI (b : Fin 2) (h : Fin 4) (r : Fin 4160) : EReal :=
  if 48 ≤ r.val then cap (p (ix3 b r ⟨3072 + h.val, by omega⟩) + ib (ix1 h)) else Ideal.ofBits .f32 0xF149F2CA#32

/-- The log forget gate of head `h` at position `r`; zero before the sequence begins. -/
def gF (b : Fin 2) (h : Fin 4) (r : Fin 4160) : EReal :=
  if 48 ≤ r.val then 0 - splus (0 - cap (p (ix3 b r ⟨3072 + (4 + h.val), by omega⟩) + fb (ix1 h))) else 0

/-- Chunk `j` of row `b` and head `h`. -/
def chunk (b : Fin 2) (h : Fin 4) (j : ℕ) : Chunk where
  q l d := p (ix3 b (row j l) ⟨128 * h.val + d.val, by omega⟩) * Ideal.ofBits .f32 0x3DB504F3#32
  k l d := p (ix3 b (row j l) ⟨512 + (128 * h.val + d.val), by omega⟩)
  v l e := p (ix3 b (row j l) ⟨1024 + (256 * h.val + e.val), by omega⟩)
  i l := gI p ib b h (row j l)
  b l := ∑ x : Fin 64, if x ≤ l then gF p fb b h (row j x) else 0

end

section
open Cert.KernelIdeal Cert.KernelIdeal.Gen

variable (m : (ℓ : Loc nD τ sig) → Buf (Elt Ideal) ℓ)

/-- The index maps, over all points. -/
theorem idxK : ∀ t : Fin cfg0.N, win0_0.index t = ![0, t.val, 0] ∧ win0_1.index t = ![0, t.val, 1] ∧ win0_2.index t = ![0, t.val, 1]
    ∧ win0_3.index t = ![0, t.val, 2] ∧ win0_4.index t = ![0, t.val, 24] ∧ win0_5.index t = ![0, 0] ∧ win0_6.index t = ![0, 0]
    ∧ win0_7.index t = ![0, t.val, 0] ∧ ((grid0.coords t) 0).val = t.val := by
  decide +kernel

theorem rdQ (c : Dev nD) (t : Fin cfg0.N) (b : Fin 2) (l : Fin 64) (x : Fin 512) :
    X0_0 m c t (ix3 b l x) = m ((c.tc : Thread nD τ).loc main_arg0) (ix3 b (row t.val l) ⟨x.val, by omega⟩) := by
  unfold X0_0 Pipeline.Window.fill
  rw [dif_pos (moved0_0 t _)]
  blk_ext [iblk, V, idxK t, row]
theorem rdK (c : Dev nD) (t : Fin cfg0.N) (b : Fin 2) (l : Fin 64) (x : Fin 512) :
    X0_1 m c t (ix3 b l x) = m ((c.tc : Thread nD τ).loc main_arg0) (ix3 b (row t.val l) ⟨512 + x.val, by omega⟩) := by
  unfold X0_1 Pipeline.Window.fill
  rw [dif_pos (moved0_1 t _)]
  blk_ext [iblk, V, idxK t, row]

theorem rdV (c : Dev nD) (t : Fin cfg0.N) (b : Fin 2) (l : Fin 64) (x : Fin 1024) :
    X0_2 m c t (ix3 b l x) = m ((c.tc : Thread nD τ).loc main_arg0) (ix3 b (row t.val l) ⟨1024 + x.val, by omega⟩) := by
  unfold X0_2 Pipeline.Window.fill
  rw [dif_pos (moved0_2 t _)]
  blk_ext [iblk, V, idxK t, row]

theorem rdO (c : Dev nD) (t : Fin cfg0.N) (b : Fin 2) (l : Fin 64) (x : Fin 1024) :
    X0_3 m c t (ix3 b l x) = m ((c.tc : Thread nD τ).loc main_arg0) (ix3 b (row t.val l) ⟨2048 + x.val, by omega⟩) := by
  unfold X0_3 Pipeline.Window.fill
  rw [dif_pos (moved0_3 t _)]
  blk_ext [iblk, V, idxK t, row]

theorem rdG (c : Dev nD) (t : Fin cfg0.N) (b : Fin 2) (l : Fin 64) (x : Fin 128) :
    iblk m c 4 t (ix3 b l x) = m ((c.tc : Thread nD τ).loc main_arg0) (ix3 b (row t.val l) ⟨3072 + x.val, by omega⟩) := by
  blk_ext [iblk, V, idxK t, row]

theorem rdN (c : Dev nD) (t : Fin cfg0.N) (x : Fin 1024) :
    iblk m c 6 t (ix2 0 x) = m ((c.tc : Thread nD τ).loc main_arg3) (ix1 x) := by
  have e : ((cfg0.win 6).blk t).view.emb (ix2 0 x) = ix2 0 x := by blk_ext [idxK t]
  unfold iblk
  show V m c main_v9 (((cfg0.win 6).blk t).view.emb (ix2 0 x)) = _
  rw [e]
  entry_read
  pointwise

/-- The words of the first and of the second update's place. -/
def at0 : IVec S2 32 := concatenate S2 0
          [⟨S1, broadcastInDim S1 ![] bcast_S_S1 (constantI S_ 32 0#32)⟩,
            ⟨S1, broadcastInDim S1 ![] bcast_S_S1 (constantI S_ 32 0#32)⟩]
          concatenates_S1_S1_S2_d0
def at4 : IVec S2 32 := concatenate S2 0
          [⟨S1, broadcastInDim S1 ![] bcast_S_S1 (constantI S_ 32 0#32)⟩,
            ⟨S1, broadcastInDim S1 ![] bcast_S_S1 (constantI S_ 32 4#32)⟩]
          concatenates_S1_S1_S2_d0

theorem lands0 : ∀ k : Fin 4, scatter_S1x128_S2_S4_0_0_01_0.resultIdx? (ix1 k) at0 = some (ix2 0 ⟨k.val, by omega⟩) := by
  decide +kernel
theorem lands4 : ∀ k : Fin 4, scatter_S1x128_S2_S4_0_0_01_0.resultIdx? (ix1 k) at4 = some (ix2 0 ⟨4 + k.val, by omega⟩) := by
  decide +kernel

/-- The two biases beside each other, as the host puts them. -/
theorem bias_at (x y : Vec Ideal S4 .f32) (z : Vec Ideal S1x128 .f32) (h : Fin 4) :
    Host.scatter scatter_S1x128_S2_S4_0_0_01_0 (fun _ b => b) (Host.scatter scatter_S1x128_S2_S4_0_0_01_0 (fun _ b => b) z at0 x) at4 y
        (ix2 0 ⟨h.val, by omega⟩) = x (ix1 h)
    ∧ Host.scatter scatter_S1x128_S2_S4_0_0_01_0 (fun _ b => b) (Host.scatter scatter_S1x128_S2_S4_0_0_01_0 (fun _ b => b) z at0 x) at4 y
        (ix2 0 ⟨4 + h.val, by omega⟩) = y (ix1 h) := by
  constructor
  · rw [Routing.scatter_set_miss]
    · refine Routing.scatter_set_hit _ _ _ _ _ _ (fun k hk => ?_) (ix1 h) (lands0 h)
      obtain ⟨k, rfl⟩ : ∃ a, k = ix1 a := ⟨k 0, eq_ix1 k⟩
      rw [lands0] at hk
      have := ((ix2_inj ..).1 (Option.some.inj hk)).2
      exact congrArg (fun a => x (ix1 a)) (Fin.ext (Fin.mk.inj this))
    · intro k hk
      obtain ⟨k, rfl⟩ : ∃ a, k = ix1 a := ⟨k 0, eq_ix1 k⟩
      rw [lands4] at hk
      have := Fin.mk.inj ((ix2_inj ..).1 (Option.some.inj hk)).2
      omega
  · refine Routing.scatter_set_hit _ _ _ _ _ _ (fun k hk => ?_) (ix1 h) (lands4 h)
    obtain ⟨k, rfl⟩ : ∃ a, k = ix1 a := ⟨k 0, eq_ix1 k⟩
    rw [lands4] at hk
    have := Fin.mk.inj ((ix2_inj ..).1 (Option.some.inj hk)).2
    exact congrArg (fun a => y (ix1 a)) (Fin.ext (by omega))

theorem rdB (c : Dev nD) (t : Fin cfg0.N) (h : Fin 4) :
    iblk m c 5 t (ix2 0 ⟨h.val, by omega⟩) = m ((c.tc : Thread nD τ).loc main_arg1) (ix1 h)
    ∧ iblk m c 5 t (ix2 0 ⟨4 + h.val, by omega⟩) = m ((c.tc : Thread nD τ).loc main_arg2) (ix1 h) := by
  have e (x : Fin 128) : ((cfg0.win 5).blk t).view.emb (ix2 0 x) = ix2 0 x := by blk_ext [idxK t]
  unfold iblk
  show V m c main_v8 (((cfg0.win 5).blk t).view.emb (ix2 0 _)) = _ ∧ V m c main_v8 (((cfg0.win 5).blk t).view.emb (ix2 0 _)) = _
  rw [e, e]
  entry_read
  exact bias_at _ _ _ h

end
end Cert.Mlstm
end
-- ==== Proof.MlstmGates.lean ====
module

public import proofs.«01_k».proof.Proof.MlstmBlocks

/-!
The gates that the body makes of a block of gate columns and the two biases: the input gates, and the running sums of the log
forget gates.
-/

@[expose] public section

set_option maxRecDepth 16384

noncomputable section
namespace Cert.Mlstm

open Idealize.ShloMosaic Idealize.ShloMosaic.TcCoe Idealize.SL.Sem
open Cert.KernelIdeal Cert.KernelIdeal.Gen

/-- A position is real from 48 on, as words. -/
theorem real_word : ∀ (j : Fin 65) (l : Fin 64),
    IntOp.cmpi .sge (IntOp.addi (IntOp.muli (BitVec.ofNat 32 j.val) 64#32) (BitVec.ofNat 32 l.val)) 48#32
      = if 48 ≤ (row j.val l).val then 1#1 else 0#1 := by
  decide +kernel

/-- The triangle's factor and the mask of the positions before the sequence, as conditions. -/
theorem lf_term (j : Fin 65) (l s : Fin 64) (L : EReal) :
    Scalar.select (IntOp.cmpi .sge (IntOp.addi (IntOp.muli (BitVec.ofNat 32 j.val) 64#32) (BitVec.ofNat 32 s.val)) 48#32)
        (FloatOps.sitofp (F := Ideal) .f32 (BitVec.setWidth 32 (IntOp.cmpi .sge (BitVec.ofNat 32 l.val) (BitVec.ofNat 32 s.val))) * L) 0
      = if s ≤ l then (if 48 ≤ (row j.val s).val then L else 0) else 0 := by
  rw [real_word, sge_word]
  have h1 : FloatOps.sitofp (F := Ideal) .f32 (BitVec.setWidth 32 1#1) = (1 : EReal) := by
    show (((BitVec.setWidth 32 1#1).toInt : ℝ) : EReal) = 1
    simp
  have h0 : FloatOps.sitofp (F := Ideal) .f32 (BitVec.setWidth 32 0#1) = (0 : EReal) := by
    show (((BitVec.setWidth 32 0#1).toInt : ℝ) : EReal) = 0
    simp
  by_cases hl : s ≤ l
  · by_cases hr : 48 ≤ (row j.val s).val
    · simp only [if_pos hl, if_pos hr, h1]; exact one_mul L
    · simp only [if_pos hl, if_neg hr]; rfl
  · simp only [if_neg hl, h0]
    by_cases hr : 48 ≤ (row j.val s).val
    · simp only [if_pos hr]; exact zero_mul L
    · simp only [if_neg hr]; rfl

variable (i : grid0.Coords) (g : Vec Ideal S1x64x128 .f32) (b : Vec Ideal S1x128 .f32)

theorem ig_at (l : Fin 64) (x : Fin 128) :
    k0_pay10 (F := Ideal) i g b (ix2 l x)
      = if 48 ≤ (row (i 0).val l).val then cap (g (ix3 0 l x) + b (ix2 0 x)) else Ideal.ofBits .f32 0xF149F2CA#32 := by
  unfold cap
  pointwise [k0_pay10, k0_pay6, k0_pay9]
  refine (congrArg (fun c => Scalar.select c _ _) (real_word (i 0) l)).trans ?_
  split <;> rfl

theorem lf_at (l : Fin 64) (x : Fin 128) :
    k0_pay12 (F := Ideal) (k0_pay6 i) k0_pay8 (k0_pay11 g b) (FloatOps.ofBits .f32 0x00000000#32) (ix2 l x)
      = ∑ s : Fin 64, if s ≤ l then (if 48 ≤ (row (i 0).val s).val then 0 - splus (0 - cap (g (ix3 0 s x) + b (ix2 0 x))) else 0) else 0 := by
  unfold splus cap
  pointwise [k0_pay12, k0_pay6, k0_pay8, k0_pay11, k0_pay9]
  exact Finset.sum_congr rfl fun s _ => lf_term (i 0) l s _

end Cert.Mlstm
end
-- ==== Proof.MlstmPieces.lean ====
module

public import proofs.«01_k».proof.Proof.MlstmGates
public import Idealize.ShloMosaic.Lib.Pipeline.ReadBack
public import Idealize.ShloMosaic.Lib.WritesUnit

/-!
Reading one element of a buffer that was written piece by piece, and the head's new state and output in terms of any chunk
and state that its loaded pieces agree with.
-/

@[expose] public section

set_option maxRecDepth 16384

noncomputable section
namespace Cert.Mlstm

open Idealize.ShloMosaic Idealize.ShloMosaic.TcCoe Idealize.SL.Sem

section
variable {s : Shape} {e : EltTy} {off size : Fin s.rank → ℕ} (inb : ∀ a, off a + size a ≤ s.size a)
  (w : (Rect.unit off size inb).shape.Idx → Elt Ideal e) (L : List (View.Piece (Elt Ideal) s e)) (y : s.Idx)

theorem canon_hit (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

theorem canon_miss (a : Fin s.rank) (ha : (y a).val < off a ∨ off a + size a ≤ (y a).val) :
    View.canon ((⟨Rect.unit off size inb, w⟩ : View.Piece (Elt Ideal) s e) :: L) y = View.canon L y := by
  refine View.canon_cons_of_not_mem _ L ?_
  rw [Rect.mem_set_unit]
  intro hall
  have := hall a
  omega

end

section
open Cert.KernelIdeal Cert.KernelIdeal.Gen

variable (q k : Vec Ideal S1x64x128 .f32) (v o : Vec Ideal S1x64x256 .f32) (bc ic : FVec Ideal S64x1 .f32)
  (br ir : FVec Ideal S1x64 .f32) (g : FVec Ideal S1x1 .f32) (m : Vec Ideal S1x1x1 .f32) (C : Vec Ideal S1x1x128x256 .f32)
  (n : Vec Ideal S1x1x128 .f32) (w : Vec Ideal S1x256 .f32) (x : Chunk) (z : State)

theorem kC_eq (hk : ∀ l d, k (ix3 0 l d) = x.k l d) (hv : ∀ l e, v (ix3 0 l e) = x.v l e) (hb : ∀ l, bc (ix2 l 0) = x.b l)
    (hi : ∀ l, ic (ix2 l 0) = x.i l) (hg : g (ix2 0 0) = bc (ix2 63 0)) (hm : m (ix3 0 0 0) = z.m)
    (hC : ∀ d e, C (ix4 0 0 d e) = z.C d e) (d : Fin 128) (e : Fin 256) : kC k v bc ic g m C (ix4 0 0 d e) = cN x z d e := by
  rw [kC_at (fun _ => 0) k v bc ic g m C (fun _ => 0) hg]
  simp only [cN, dec, wN, aC, mN, kChunk, kState, hk, hv, hb, hi, hm, hC]

theorem kN_eq (hk : ∀ l d, k (ix3 0 l d) = x.k l d) (hb : ∀ l, bc (ix2 l 0) = x.b l)
    (hi : ∀ l, ic (ix2 l 0) = x.i l) (hg : g (ix2 0 0) = bc (ix2 63 0)) (hm : m (ix3 0 0 0) = z.m)
    (hn : ∀ d, n (ix3 0 0 d) = z.n d) (d : Fin 128) : kN k bc ic g m n (ix3 0 0 d) = nN x z d := by
  rw [kN_at (fun _ => 0) k (fun _ => 0) bc ic g m (fun _ => 0) n hg]
  simp only [nN, dec, wN, aC, mN, kChunk, kState, hk, hb, hi, hm, hn]

theorem kMn_eq (hb : ∀ l, bc (ix2 l 0) = x.b l)
    (hi : ∀ l, ic (ix2 l 0) = x.i l) (hg : g (ix2 0 0) = bc (ix2 63 0)) (hm : m (ix3 0 0 0) = z.m) (d : Fin 128) :
    kMn bc ic g m (ix3 0 0 d) = mN x z := by
  rw [kMn_at (fun _ => 0) (fun _ => 0) (fun _ => 0) bc ic g m (fun _ => 0) (fun _ => 0) hg]
  simp only [dec, wN, aC, mN, kChunk, kState, hb, hi, hm]

theorem kOut_eq (hq : ∀ l d, q (ix3 0 l d) * Ideal.ofBits .f32 0x3DB504F3#32 = x.q l d) (hk : ∀ l d, k (ix3 0 l d) = x.k l d)
    (hv : ∀ l e, v (ix3 0 l e) = x.v l e) (hb : ∀ l, bc (ix2 l 0) = x.b l) (hbr : ∀ l, br (ix2 0 l) = x.b l)
    (hir : ∀ l, ir (ix2 0 l) = x.i l) (hm : m (ix3 0 0 0) = z.m) (hn : ∀ d, n (ix3 0 0 d) = z.n d)
    (hC : ∀ d e, C (ix4 0 0 d e) = z.C d e) (w' : Fin 256 → EReal) (hw : ∀ u, w (ix2 0 u) = w' u) (l : Fin 64) (e : Fin 256)
    (o' : EReal) (ho : o (ix3 0 l e) = o') :
    kOut q k v o bc br ir m C n w (ix3 0 l e) = out x z w' o' l e := by
  rw [kOut_at q k v o bc (fun y => x.i (y 0)) br ir m C n w (fun s => (hbr s).trans (hb s).symm) (fun s => hir s)]
  have hx : kChunk q k v bc (fun y => x.i (y 0)) = x := by
    obtain ⟨xq, xk, xv, xi, xb⟩ := x
    unfold kChunk
    congr 1
    · exact funext fun l => funext fun d => hq l d
    · exact funext fun l => funext fun d => hk l d
    · exact funext fun l => funext fun d => hv l d
    · exact funext fun l => hb l
  have hz : kState m C n = z := by
    obtain ⟨zC, zn, zm⟩ := z
    unfold kState
    congr 1
    · exact funext fun d => funext fun e => hC d e
    · exact funext fun d => hn d
  rw [hx, hz, ho, funext hw]

end

section
open Cert.KernelIdeal Cert.KernelIdeal.Gen

variable (q k : Vec Ideal S1x64x128 .f32) (v o : Vec Ideal S1x64x256 .f32) (B : FVec Ideal S64x128 .f32) (Bt It : FVec Ideal S128x64 .f32)
  (m : Vec Ideal S1x1x1 .f32) (C : Vec Ideal S1x1x128x256 .f32)
  (n : Vec Ideal S1x1x128 .f32) (w : Vec Ideal S1x256 .f32)

theorem head2_m : k0_pay77 (F := Ideal) (k0_pay68 B) (k0_pay74 k0_pay7 B Bt It) (k0_pay75 m) = kM (k0_pay68 B) (extractStridedSlice S1x64 ![6, 0] Bt slices_S128x64_o6_0_S1x64)
      (extractStridedSlice S1x64 ![2, 0] It slices_S128x64_o2_0_S1x64) m := rfl
theorem head2_s : k0_pay150 (F := Ideal) (k0_pay64 q) (k0_pay65 k) (k0_pay74 k0_pay7 B Bt It) (kM (k0_pay68 B) (extractStridedSlice S1x64 ![6, 0] Bt slices_S128x64_o6_0_S1x64)
      (extractStridedSlice S1x64 ![2, 0] It slices_S128x64_o2_0_S1x64) m) = kS q k (k0_pay68 B) (extractStridedSlice S1x64 ![6, 0] Bt slices_S128x64_o6_0_S1x64)
      (extractStridedSlice S1x64 ![2, 0] It slices_S128x64_o2_0_S1x64) m := rfl
theorem head2_w : k0_pay151 (F := Ideal) (k0_pay76 (k0_pay68 B) (k0_pay75 m)) (kM (k0_pay68 B) (extractStridedSlice S1x64 ![6, 0] Bt slices_S128x64_o6_0_S1x64)
      (extractStridedSlice S1x64 ![2, 0] It slices_S128x64_o2_0_S1x64) m) = kW (k0_pay68 B) (extractStridedSlice S1x64 ![6, 0] Bt slices_S128x64_o6_0_S1x64)
      (extractStridedSlice S1x64 ![2, 0] It slices_S128x64_o2_0_S1x64) m := rfl

/-- The third head's output, whose arithmetic the body divides otherwise. -/
theorem head2 : k0_pay190 (k0_pay67 o) (k0_pay188 (k0_pay77 (k0_pay68 B) (k0_pay74 k0_pay7 B Bt It) (k0_pay75 m)) (k0_pay170 (k0_pay64 q) (k0_pay72 C) (k0_pay151 (k0_pay76 (k0_pay68 B) (k0_pay75 m)) (k0_pay77 (k0_pay68 B) (k0_pay74 k0_pay7 B Bt It) (k0_pay75 m))) (k0_pay168 (k0_pay150 (k0_pay64 q) (k0_pay65 k) (k0_pay74 k0_pay7 B Bt It) (k0_pay77 (k0_pay68 B) (k0_pay74 k0_pay7 B Bt It) (k0_pay75 m)))) (k0_pay169 (k0_pay66 v)) (constant S64x256 FTy.f32 0#32)) (k0_pay171 (k0_pay64 q) (k0_pay73 n) (k0_pay150 (k0_pay64 q) (k0_pay65 k) (k0_pay74 k0_pay7 B Bt It) (k0_pay77 (k0_pay68 B) (k0_pay74 k0_pay7 B Bt It) (k0_pay75 m))) (k0_pay151 (k0_pay76 (k0_pay68 B) (k0_pay75 m)) (k0_pay77 (k0_pay68 B) (k0_pay74 k0_pay7 B Bt It) (k0_pay75 m))))) (k0_pay189 w)
    = kOut q k v o (k0_pay68 B) (extractStridedSlice S1x64 ![6, 0] Bt slices_S128x64_o6_0_S1x64)
      (extractStridedSlice S1x64 ![2, 0] It slices_S128x64_o2_0_S1x64) m C n w := by
  simp only [head2_m, head2_s, head2_w]
  unfold kOut
  generalize kM _ _ _ _ = M
  generalize kS _ _ _ _ _ _ = S
  generalize kW _ _ _ _ = W
  rfl

end
end Cert.Mlstm
end
-- ==== Proof.MlstmSteps.lean ====
module

public import proofs.«01_k».proof.Proof.MlstmPieces

/-!
One point of the kernel: from the state its three scratch buffers hold of a head, the head's output block and its new state.
-/

@[expose] public section

set_option maxRecDepth 16384

noncomputable section
namespace Cert.Mlstm

open Idealize.ShloMosaic Idealize.ShloMosaic.TcCoe Idealize.SL.Sem
open Cert.KernelIdeal Cert.KernelIdeal.Gen

variable (m : (ℓ : Loc nD τ sig) → Buf (Elt Ideal) ℓ)

/-- The chunk of the kernel's point. -/
def kx (c : Dev nD) (b : Fin 2) (h : Fin 4) (j : ℕ) : Chunk :=
  chunk (m ((c.tc : Thread nD τ).loc main_arg0)) (m ((c.tc : Thread nD τ).loc main_arg1)) (m ((c.tc : Thread nD τ).loc main_arg2)) b h j

/-- The state of a head as the three scratch buffers hold it. -/
def kz (C : Vec Ideal S2x4x128x256 .f32) (n s : Vec Ideal S2x8x128 .f32) (b : Fin 2) (h : Fin 4) : State where
  C d e := C (ix4 b h d e)
  n d := n (ix3 b ⟨h.val, by omega⟩ d)
  m := s (ix3 b ⟨h.val, by omega⟩ 0)

section
variable (c : Dev nD) (t : Fin cfg0.N) (b : Fin 2) (h : Fin 4)

theorem q_eq (a : Fin 512) (l : Fin 64) (d : Fin 128) (ha : a.val = 128 * h.val + d.val) :
    (show EReal from X0_0 m c t (ix3 b l a)) * Ideal.ofBits .f32 0x3DB504F3#32 = (kx m c b h t.val).q l d := by
  have ea : a = ⟨128 * h.val + d.val, by omega⟩ := Fin.ext ha
  rw [ea]
  rw [rdQ]
  rfl

theorem k_eq (a : Fin 512) (l : Fin 64) (d : Fin 128) (ha : a.val = 128 * h.val + d.val) :
    X0_1 m c t (ix3 b l a) = (kx m c b h t.val).k l d := by
  have ea : a = ⟨128 * h.val + d.val, by omega⟩ := Fin.ext ha
  rw [ea]
  rw [rdK]
  rfl -- t b l _

theorem v_eq (a : Fin 1024) (l : Fin 64) (e : Fin 256) (ha : a.val = 256 * h.val + e.val) :
    X0_2 m c t (ix3 b l a) = (kx m c b h t.val).v l e := by
  have ea : a = ⟨256 * h.val + e.val, by omega⟩ := Fin.ext ha
  rw [ea]
  rw [rdV]
  rfl -- t b l _

/-- The gates' columns. -/
theorem cols (X : FVec Ideal S64x128 .f32) (l : Fin 64) :
    k0_pay39 X (ix2 l 0) = X (ix2 l ⟨4, by decide⟩)
      ∧ k0_pay40 X (ix2 l 0) = X (ix2 l ⟨0, by decide⟩)
      ∧ k0_pay53 X (ix2 l 0) = X (ix2 l ⟨5, by decide⟩)
      ∧ k0_pay54 X (ix2 l 0) = X (ix2 l ⟨1, by decide⟩)
      ∧ k0_pay68 X (ix2 l 0) = X (ix2 l ⟨6, by decide⟩)
      ∧ k0_pay69 X (ix2 l 0) = X (ix2 l ⟨2, by decide⟩)
      ∧ k0_pay82 X (ix2 l 0) = X (ix2 l ⟨7, by decide⟩)
      ∧ k0_pay83 X (ix2 l 0) = X (ix2 l ⟨3, by decide⟩)
      ∧ k0_pay95 X (ix2 l 0) = X (ix2 l ⟨4, by decide⟩)
      ∧ k0_pay96 X (ix2 l 0) = X (ix2 l ⟨0, by decide⟩)
      ∧ k0_pay109 X (ix2 l 0) = X (ix2 l ⟨5, by decide⟩)
      ∧ k0_pay110 X (ix2 l 0) = X (ix2 l ⟨1, by decide⟩)
      ∧ k0_pay122 X (ix2 l 0) = X (ix2 l ⟨6, by decide⟩)
      ∧ k0_pay123 X (ix2 l 0) = X (ix2 l ⟨2, by decide⟩)
      ∧ k0_pay135 X (ix2 l 0) = X (ix2 l ⟨7, by decide⟩)
      ∧ k0_pay136 X (ix2 l 0) = X (ix2 l ⟨3, by decide⟩) := by
  refine ⟨?_, ?_, ?_, ?_, ?_, ?_, ?_, ?_, ?_, ?_, ?_, ?_, ?_, ?_, ?_, ?_⟩ <;>
    pointwise [k0_pay39, k0_pay40, k0_pay53, k0_pay54, k0_pay68, k0_pay69, k0_pay82, k0_pay83, k0_pay95, k0_pay96, k0_pay109, k0_pay110, k0_pay122, k0_pay123, k0_pay135, k0_pay136]

theorem row_at (X : FVec Ideal S64x128 .f32) (a : ℕ) (ha : a < 128) (w : Shape.Slices S128x64 ![a, 0] S1x64)
    (w' : Shape.Transposes S64x128 [1, 0] S128x64) (l : Fin 64) :
    extractStridedSlice S1x64 ![a, 0] (transpose S128x64 [1, 0] X w') w (ix2 0 l) = X (ix2 l ⟨a, ha⟩) := by
  pointwise

/-- The running sums of the log forget gates, at the lane of head `h`. -/
theorem b_eq (g : Vec Ideal S1x64x128 .f32) (hg : ∀ s x, g (ix3 0 s x) = iblk m c 4 t (ix3 b s x)) (l : Fin 64)
    (a : ℕ) (h' : a < 128) (ha : a = 4 + h.val) :
    k0_pay12 (F := Ideal) (k0_pay6 (grid0.coords t)) k0_pay8 (k0_pay11 g (iblk m c 5 t)) (FloatOps.ofBits .f32 0x00000000#32) (ix2 l ⟨a, h'⟩)
      = (kx m c b h t.val).b l := by
  subst ha
  rw [lf_at]
  simp only [(idxK t).2.2.2.2.2.2.2.2, hg, rdG, (rdB m c t h).2]
  rfl

/-- The input gates, at the lane of head `h`. -/
theorem i_eq (g : Vec Ideal S1x64x128 .f32) (hg : ∀ s x, g (ix3 0 s x) = iblk m c 4 t (ix3 b s x)) (l : Fin 64)
    (a : ℕ) (h' : a < 128) (ha : a = h.val) :
    k0_pay10 (F := Ideal) (grid0.coords t) g (iblk m c 5 t) (ix2 l ⟨a, h'⟩) = (kx m c b h t.val).i l := by
  subst ha
  rw [ig_at]
  simp only [(idxK t).2.2.2.2.2.2.2.2, hg, rdG, (rdB m c t h).1]
  rfl

end

set_option maxHeartbeats 1000000 in
theorem stepC_A (c : Dev nD) (t : Fin cfg0.N) (ht : t.val % 65 = 0) (b : Fin 2) (h : Fin 4) (d : Fin 128) (e : Fin 256) :
    (outsAt0 m c t.val t.isLt).2.1 (ix4 b h d e)
      = cN (kx m c b h t.val) (kz (k0_pay3 (F := Ideal)) (k0_pay4 (F := Ideal)) (k0_pay5 (F := Ideal)) b h) d e := by
  rw [outsAt0_A m c t ht]
  frame_out
  simp (disch := decide) only [View.readCov_fill]
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (canon_miss _ _ _ _ (0 : Fin 4) (by first | exact Or.inl (Nat.le_of_ble_eq_true rfl) | exact Or.inr (Nat.le_of_ble_eq_true rfl))).trans ?_
      | refine (canon_miss _ _ _ _ (1 : Fin 4) (by first | exact Or.inl (Nat.le_of_ble_eq_true rfl) | exact Or.inr (Nat.le_of_ble_eq_true rfl))).trans ?_
      | refine (canon_hit _ _ _ _ (ix4 0 0 d e) (by intro a; fin_cases a <;> first | rfl | exact (Nat.zero_add _).symm)).trans ?_)
    refine kC_eq _ _ _ _ _ _ _ _ _ ?_ ?_ ?_ ?_ ?_ ?_ ?_ d e
    · intro l d; pointwise; exact k_eq m c t _ _ _ l d (by simp)
    · intro l e; pointwise; exact v_eq m c t _ _ _ l e (by simp)
    · intro l; simp only [cols]; exact b_eq m c t _ _ _ (fun s x => by pointwise) l _ _ rfl
    · intro l; simp only [cols]; exact i_eq m c t _ _ _ (fun s x => by pointwise) l _ _ rfl
    · pointwise [k0_pay41, k0_pay55, k0_pay70, k0_pay84, k0_pay97, k0_pay111, k0_pay124, k0_pay137]
    · pointwise; rfl
    · intro d e; pointwise [kz]

set_option maxHeartbeats 1000000 in
theorem stepC_B (c : Dev nD) (t : Fin cfg0.N) (ht : ¬ t.val % 65 = 0) (b : Fin 2) (h : Fin 4) (d : Fin 128) (e : Fin 256) :
    (outsAt0 m c t.val t.isLt).2.1 (ix4 b h d e)
      = cN (kx m c b h t.val) (kz (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 b h) d e := by
  rw [outsAt0_B m c t ht]
  frame_out
  simp only [read_unread_whole]
  generalize outsAt0 m c (t.val - 1) (Nat.lt_of_le_of_lt (Nat.sub_le _ _) t.isLt) = prev
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (canon_miss _ _ _ _ (0 : Fin 4) (by first | exact Or.inl (Nat.le_of_ble_eq_true rfl) | exact Or.inr (Nat.le_of_ble_eq_true rfl))).trans ?_
      | refine (canon_miss _ _ _ _ (1 : Fin 4) (by first | exact Or.inl (Nat.le_of_ble_eq_true rfl) | exact Or.inr (Nat.le_of_ble_eq_true rfl))).trans ?_
      | refine (canon_hit _ _ _ _ (ix4 0 0 d e) (by intro a; fin_cases a <;> first | rfl | exact (Nat.zero_add _).symm)).trans ?_)
    refine kC_eq _ _ _ _ _ _ _ _ _ ?_ ?_ ?_ ?_ ?_ ?_ ?_ d e
    · intro l d; pointwise; exact k_eq m c t _ _ _ l d (by simp)
    · intro l e; pointwise; exact v_eq m c t _ _ _ l e (by simp)
    · intro l; simp only [cols]; exact b_eq m c t _ _ _ (fun s x => by pointwise) l _ _ rfl
    · intro l; simp only [cols]; exact i_eq m c t _ _ _ (fun s x => by pointwise) l _ _ rfl
    · pointwise [k0_pay41, k0_pay55, k0_pay70, k0_pay84, k0_pay97, k0_pay111, k0_pay124, k0_pay137]
    · pointwise; rfl
    · intro d e; pointwise; rfl

set_option maxHeartbeats 1000000 in
theorem stepn_A (c : Dev nD) (t : Fin cfg0.N) (ht : t.val % 65 = 0) (b : Fin 2) (h : Fin 4) (d : Fin 128) :
    (outsAt0 m c t.val t.isLt).2.2.1 (ix3 b ⟨h.val, by omega⟩ d)
      = nN (kx m c b h t.val) (kz (k0_pay3 (F := Ideal)) (k0_pay4 (F := Ideal)) (k0_pay5 (F := Ideal)) b h) d := by
  rw [outsAt0_A m c t ht]
  frame_out
  simp (disch := decide) only [View.readCov_fill]
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (canon_miss _ _ _ _ (0 : Fin 3) (by first | exact Or.inl (Nat.le_of_ble_eq_true rfl) | exact Or.inr (Nat.le_of_ble_eq_true rfl))).trans ?_
      | refine (canon_miss _ _ _ _ (1 : Fin 3) (by first | exact Or.inl (Nat.le_of_ble_eq_true rfl) | exact Or.inr (Nat.le_of_ble_eq_true rfl))).trans ?_
      | refine (canon_hit _ _ _ _ (ix3 0 0 d) (by intro a; fin_cases a <;> first | rfl | exact (Nat.zero_add _).symm)).trans ?_)
    refine kN_eq _ _ _ _ _ _ _ _ ?_ ?_ ?_ ?_ ?_ ?_ d
    · intro l d; pointwise; exact k_eq m c t _ _ _ l d (by simp)
    · intro l; simp only [cols]; exact b_eq m c t _ _ _ (fun s x => by pointwise) l _ _ rfl
    · intro l; simp only [cols]; exact i_eq m c t _ _ _ (fun s x => by pointwise) l _ _ rfl
    · pointwise [k0_pay41, k0_pay55, k0_pay70, k0_pay84, k0_pay97, k0_pay111, k0_pay124, k0_pay137]
    · pointwise; rfl
    · intro d; pointwise [kz]

set_option maxHeartbeats 1000000 in
theorem stepn_B (c : Dev nD) (t : Fin cfg0.N) (ht : ¬ t.val % 65 = 0) (b : Fin 2) (h : Fin 4) (d : Fin 128) :
    (outsAt0 m c t.val t.isLt).2.2.1 (ix3 b ⟨h.val, by omega⟩ d)
      = nN (kx m c b h t.val) (kz (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 b h) d := by
  rw [outsAt0_B m c t ht]
  frame_out
  simp only [read_unread_whole]
  generalize outsAt0 m c (t.val - 1) (Nat.lt_of_le_of_lt (Nat.sub_le _ _) t.isLt) = prev
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (View.read_writes_cons_unit_of_not_mem _ _ _ _ _ _ rfl (0 : Fin 3) (by first | exact Or.inl (Nat.le_of_ble_eq_true rfl) | exact Or.inr (Nat.le_of_ble_eq_true rfl))).trans ?_
      | refine (View.read_writes_cons_unit_of_not_mem _ _ _ _ _ _ rfl (1 : Fin 3) (by first | exact Or.inl (Nat.le_of_ble_eq_true rfl) | exact Or.inr (Nat.le_of_ble_eq_true rfl))).trans ?_
      | refine (View.read_writes_cons_unit_of_mem _ _ _ _ _ _ (ix3 0 0 d) rfl (by intro a; fin_cases a <;> first | rfl | exact (Nat.zero_add _).symm)).trans ?_)
    refine kN_eq _ _ _ _ _ _ _ _ ?_ ?_ ?_ ?_ ?_ ?_ d
    · intro l d; pointwise; exact k_eq m c t _ _ _ l d (by simp)
    · intro l; simp only [cols]; exact b_eq m c t _ _ _ (fun s x => by pointwise) l _ _ rfl
    · intro l; simp only [cols]; exact i_eq m c t _ _ _ (fun s x => by pointwise) l _ _ rfl
    · pointwise [k0_pay41, k0_pay55, k0_pay70, k0_pay84, k0_pay97, k0_pay111, k0_pay124, k0_pay137]
    · pointwise; rfl
    · intro d; pointwise; rfl

set_option maxHeartbeats 1000000 in
theorem stepm_A (c : Dev nD) (t : Fin cfg0.N) (ht : t.val % 65 = 0) (b : Fin 2) (h : Fin 4) :
    (outsAt0 m c t.val t.isLt).2.2.2 (ix3 b ⟨h.val, by omega⟩ 0)
      = mN (kx m c b h t.val) (kz (k0_pay3 (F := Ideal)) (k0_pay4 (F := Ideal)) (k0_pay5 (F := Ideal)) b h) := by
  rw [outsAt0_A m c t ht]
  frame_out
  simp (disch := decide) only [View.readCov_fill]
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (canon_miss _ _ _ _ (0 : Fin 3) (by first | exact Or.inl (Nat.le_of_ble_eq_true rfl) | exact Or.inr (Nat.le_of_ble_eq_true rfl))).trans ?_
      | refine (canon_miss _ _ _ _ (1 : Fin 3) (by first | exact Or.inl (Nat.le_of_ble_eq_true rfl) | exact Or.inr (Nat.le_of_ble_eq_true rfl))).trans ?_
      | refine (canon_hit _ _ _ _ (ix3 0 0 (0 : Fin 128)) (by intro a; fin_cases a <;> first | rfl | exact (Nat.zero_add _).symm)).trans ?_)
    refine kMn_eq _ _ _ _ _ _ ?_ ?_ ?_ ?_ 0
    · intro l; simp only [cols]; exact b_eq m c t _ _ _ (fun s x => by pointwise) l _ _ rfl
    · intro l; simp only [cols]; exact i_eq m c t _ _ _ (fun s x => by pointwise) l _ _ rfl
    · pointwise [k0_pay41, k0_pay55, k0_pay70, k0_pay84, k0_pay97, k0_pay111, k0_pay124, k0_pay137]
    · pointwise; rfl

set_option maxHeartbeats 1000000 in
theorem stepm_B (c : Dev nD) (t : Fin cfg0.N) (ht : ¬ t.val % 65 = 0) (b : Fin 2) (h : Fin 4) :
    (outsAt0 m c t.val t.isLt).2.2.2 (ix3 b ⟨h.val, by omega⟩ 0)
      = mN (kx m c b h t.val) (kz (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 b h) := by
  rw [outsAt0_B m c t ht]
  frame_out
  simp only [read_unread_whole]
  generalize outsAt0 m c (t.val - 1) (Nat.lt_of_le_of_lt (Nat.sub_le _ _) t.isLt) = prev
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (View.read_writes_cons_unit_of_not_mem _ _ _ _ _ _ rfl (0 : Fin 3) (by first | exact Or.inl (Nat.le_of_ble_eq_true rfl) | exact Or.inr (Nat.le_of_ble_eq_true rfl))).trans ?_
      | refine (View.read_writes_cons_unit_of_not_mem _ _ _ _ _ _ rfl (1 : Fin 3) (by first | exact Or.inl (Nat.le_of_ble_eq_true rfl) | exact Or.inr (Nat.le_of_ble_eq_true rfl))).trans ?_
      | refine (View.read_writes_cons_unit_of_mem _ _ _ _ _ _ (ix3 0 0 (0 : Fin 128)) rfl (by intro a; fin_cases a <;> first | rfl | exact (Nat.zero_add _).symm)).trans ?_)
    refine kMn_eq _ _ _ _ _ _ ?_ ?_ ?_ ?_ 0
    · intro l; simp only [cols]; exact b_eq m c t _ _ _ (fun s x => by pointwise) l _ _ rfl
    · intro l; simp only [cols]; exact i_eq m c t _ _ _ (fun s x => by pointwise) l _ _ rfl
    · pointwise [k0_pay41, k0_pay55, k0_pay70, k0_pay84, k0_pay97, k0_pay111, k0_pay124, k0_pay137]
    · pointwise; rfl

set_option maxHeartbeats 1000000 in
theorem stepo_A (c : Dev nD) (t : Fin cfg0.N) (ht : t.val % 65 = 0) (b : Fin 2) (h : Fin 4) (l : Fin 64) (e : Fin 256)
    (x : Fin 1024) (hx : x.val = 256 * h.val + e.val) :
    (outsAt0 m c t.val t.isLt).1 (ix3 b l x)
      = out (kx m c b h t.val) (kz (k0_pay3 (F := Ideal)) (k0_pay4 (F := Ideal)) (k0_pay5 (F := Ideal)) b h)
          (fun u => m ((c.tc : Thread nD τ).loc main_arg3) (ix1 ⟨256 * h.val + u.val, by omega⟩))
          (m ((c.tc : Thread nD τ).loc main_arg0) (ix3 b (row t.val l) ⟨2048 + x.val, by omega⟩)) l e := by
  have h1 : 256 * h.val ≤ x.val := by omega
  have h2 : x.val < 256 * h.val + 256 := by omega
  rw [outsAt0_A m c t ht]
  frame_out
  simp (disch := decide) only [View.readCov_fill]
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (canon_miss _ _ _ _ (0 : Fin 3) (by first | exact Or.inl (Nat.le_of_ble_eq_true rfl) | exact Or.inr (Nat.le_of_ble_eq_true rfl))).trans ?_
      | refine (canon_miss _ _ _ _ (2 : Fin 3) (by first | exact Or.inl (Nat.lt_of_lt_of_le h2 (Nat.le_of_ble_eq_true rfl)) | exact Or.inr (Nat.le_trans (Nat.le_of_ble_eq_true rfl) h1))).trans ?_
      | refine (canon_hit _ _ _ _ (ix3 0 l e) (by intro a; fin_cases a <;> first | rfl | exact (Nat.zero_add _).symm | exact hx)).trans ?_)
    try simp only [head2]
    refine kOut_eq _ _ _ _ _ _ _ _ _ _ _ _ _ ?_ ?_ ?_ ?_ ?_ ?_ ?_ ?_ ?_ _ ?_ l e _ ?_
    · intro l d; pointwise; exact q_eq m c t _ _ _ l d (by simp)
    · intro l d; pointwise; exact k_eq m c t _ _ _ l d (by simp)
    · intro l e; pointwise; exact v_eq m c t _ _ _ l e (by simp)
    · intro l; simp only [cols]; exact b_eq m c t _ _ _ (fun s x => by pointwise) l _ _ rfl
    · intro l; refine (row_at _ _ ?_ _ _ l).trans ?_; decide; exact b_eq m c t _ _ _ (fun s x => by pointwise) l _ _ rfl
    · intro l; refine (row_at _ _ ?_ _ _ l).trans ?_; decide; exact i_eq m c t _ _ _ (fun s x => by pointwise) l _ _ rfl
    · pointwise; rfl
    · intro d; pointwise [kz]
    · intro d e; pointwise [kz]
    · intro u; pointwise
      exact (rdN m c t _).trans (congrArg (fun a => m ((c.tc : Thread nD τ).loc main_arg3) (ix1 a)) (Fin.ext (by simp)))
    · pointwise
      exact (rdO m c t _ l _).trans (congrArg (fun a => m ((c.tc : Thread nD τ).loc main_arg0) (ix3 _ (row t.val l) a)) (Fin.ext (by simp [hx])))

set_option maxHeartbeats 1000000 in
theorem stepo_B (c : Dev nD) (t : Fin cfg0.N) (ht : ¬ t.val % 65 = 0) (b : Fin 2) (h : Fin 4) (l : Fin 64) (e : Fin 256)
    (x : Fin 1024) (hx : x.val = 256 * h.val + e.val) :
    (outsAt0 m c t.val t.isLt).1 (ix3 b l x)
      = out (kx m c b h t.val) (kz (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 b h)
          (fun u => m ((c.tc : Thread nD τ).loc main_arg3) (ix1 ⟨256 * h.val + u.val, by omega⟩))
          (m ((c.tc : Thread nD τ).loc main_arg0) (ix3 b (row t.val l) ⟨2048 + x.val, by omega⟩)) l e := by
  have h1 : 256 * h.val ≤ x.val := by omega
  have h2 : x.val < 256 * h.val + 256 := by omega
  rw [outsAt0_B m c t ht]
  frame_out
  simp only [read_unread_whole]
  generalize outsAt0 m c (t.val - 1) (Nat.lt_of_le_of_lt (Nat.sub_le _ _) t.isLt) = prev
  obtain rfl | rfl : b = 0 ∨ b = 1 := (by decide : ∀ b : Fin 2, b = 0 ∨ b = 1) b
  all_goals
    obtain rfl | rfl | rfl | rfl : h = 0 ∨ h = 1 ∨ h = 2 ∨ h = 3 := (by decide : ∀ h : Fin 4, h = 0 ∨ h = 1 ∨ h = 2 ∨ h = 3) h
  all_goals
    repeat (first
      | refine (canon_miss _ _ _ _ (0 : Fin 3) (by first | exact Or.inl (Nat.le_of_ble_eq_true rfl) | exact Or.inr (Nat.le_of_ble_eq_true rfl))).trans ?_
      | refine (canon_miss _ _ _ _ (2 : Fin 3) (by first | exact Or.inl (Nat.lt_of_lt_of_le h2 (Nat.le_of_ble_eq_true rfl)) | exact Or.inr (Nat.le_trans (Nat.le_of_ble_eq_true rfl) h1))).trans ?_
      | refine (canon_hit _ _ _ _ (ix3 0 l e) (by intro a; fin_cases a <;> first | rfl | exact (Nat.zero_add _).symm | exact hx)).trans ?_)
    try simp only [head2]
    refine kOut_eq _ _ _ _ _ _ _ _ _ _ _ _ _ ?_ ?_ ?_ ?_ ?_ ?_ ?_ ?_ ?_ _ ?_ l e _ ?_
    · intro l d; pointwise; exact q_eq m c t _ _ _ l d (by simp)
    · intro l d; pointwise; exact k_eq m c t _ _ _ l d (by simp)
    · intro l e; pointwise; exact v_eq m c t _ _ _ l e (by simp)
    · intro l; simp only [cols]; exact b_eq m c t _ _ _ (fun s x => by pointwise) l _ _ rfl
    · intro l; refine (row_at _ _ ?_ _ _ l).trans ?_; decide; exact b_eq m c t _ _ _ (fun s x => by pointwise) l _ _ rfl
    · intro l; refine (row_at _ _ ?_ _ _ l).trans ?_; decide; exact i_eq m c t _ _ _ (fun s x => by pointwise) l _ _ rfl
    · pointwise; rfl
    · intro d; pointwise; rfl
    · intro d e; pointwise; rfl
    · intro u; pointwise
      exact (rdN m c t _).trans (congrArg (fun a => m ((c.tc : Thread nD τ).loc main_arg3) (ix1 a)) (Fin.ext (by simp)))
    · pointwise
      exact (rdO m c t _ l _).trans (congrArg (fun a => m ((c.tc : Thread nD τ).loc main_arg0) (ix3 _ (row t.val l) a)) (Fin.ext (by simp [hx])))

theorem kz_zero (b : Fin 2) (h : Fin 4) :
    kz (k0_pay3 (F := Ideal)) (k0_pay4 (F := Ideal)) (k0_pay5 (F := Ideal)) b h = State.zero := by
  unfold kz State.zero
  congr 1
  · funext d e; pointwise [k0_pay3]
  · funext d; pointwise [k0_pay4]
  · pointwise [k0_pay5]

theorem kz_next (C : Vec Ideal S2x4x128x256 .f32) (n s : Vec Ideal S2x8x128 .f32) (b : Fin 2) (h : Fin 4) (x : Chunk) (z : State)
    (hC : ∀ d e, C (ix4 b h d e) = cN x z d e) (hn : ∀ d, n (ix3 b ⟨h.val, by omega⟩ d) = nN x z d)
    (hs : s (ix3 b ⟨h.val, by omega⟩ 0) = mN x z) : kz C n s b h = next x z := by
  unfold kz next
  congr 1
  · exact funext fun d => funext fun e => hC d e
  · exact funext hn

theorem kstep_A (c : Dev nD) (t : Fin cfg0.N) (ht : t.val % 65 = 0) (b : Fin 2) (h : Fin 4) :
    kz (outsAt0 m c t.val t.isLt).2.1 (outsAt0 m c t.val t.isLt).2.2.1 (outsAt0 m c t.val t.isLt).2.2.2 b h
      = next (kx m c b h t.val) State.zero := by
  rw [← kz_zero b h]
  exact kz_next _ _ _ b h _ _ (stepC_A m c t ht b h) (stepn_A m c t ht b h) (stepm_A m c t ht b h)

theorem kstep_B (c : Dev nD) (t : Fin cfg0.N) (ht : ¬ t.val % 65 = 0) (b : Fin 2) (h : Fin 4) :
    kz (outsAt0 m c t.val t.isLt).2.1 (outsAt0 m c t.val t.isLt).2.2.1 (outsAt0 m c t.val t.isLt).2.2.2 b h
      = next (kx m c b h t.val) (kz (outsAt0 m c (t.val - 1) (Nat.lt_of_le_of_lt (Nat.sub_le _ _) t.isLt)).2.1
          (outsAt0 m c (t.val - 1) (Nat.lt_of_le_of_lt (Nat.sub_le _ _) t.isLt)).2.2.1
          (outsAt0 m c (t.val - 1) (Nat.lt_of_le_of_lt (Nat.sub_le _ _) t.isLt)).2.2.2 b h) :=
  kz_next _ _ _ b h _ _ (stepC_B m c t ht b h) (stepn_B m c t ht b h) (stepm_B m c t ht b h)

/-- What the three scratch buffers hold of a head after point `n` is its state after `n + 1` chunks. -/
theorem kstate (c : Dev nD) (b : Fin 2) (h : Fin 4) : ∀ (n : ℕ) (t : Fin cfg0.N) (_ : t.val = n),
    kz (outsAt0 m c t.val t.isLt).2.1 (outsAt0 m c t.val t.isLt).2.2.1 (outsAt0 m c t.val t.isLt).2.2.2 b h
      = state (kx m c b h) (n + 1) := by
  intro n
  induction n with
  | zero =>
    intro t ht
    rw [kstep_A m c t (by rw [ht]) b h, ht]
    rfl
  | succ n ih =>
    intro t ht
    have hN : t.val < 65 := t.isLt
    rw [kstep_B m c t (by omega) b h, ih ⟨t.val - 1, Nat.lt_of_le_of_lt (Nat.sub_le _ _) t.isLt⟩ (by show t.val - 1 = n; omega), ht]
    rfl

/-- The output block of point `t`. -/
theorem kout (c : Dev nD) (t : Fin cfg0.N) (b : Fin 2) (h : Fin 4) (l : Fin 64) (e : Fin 256)
    (x : Fin 1024) (hx : x.val = 256 * h.val + e.val) :
    (outsAt0 m c t.val t.isLt).1 (ix3 b l x)
      = out (kx m c b h t.val) (state (kx m c b h) t.val)
          (fun u => m ((c.tc : Thread nD τ).loc main_arg3) (ix1 ⟨256 * h.val + u.val, by omega⟩))
          (m ((c.tc : Thread nD τ).loc main_arg0) (ix3 b (row t.val l) ⟨2048 + x.val, by omega⟩)) l e := by
  have hN : t.val < 65 := t.isLt
  by_cases ht : t.val % 65 = 0
  · have h0 : t.val = 0 := by omega
    rw [stepo_A m c t ht b h l e x hx, kz_zero]
    congr 1
    rw [h0]
    rfl
  · rw [stepo_B m c t ht b h l e x hx,
      kstate m c b h (t.val - 1) ⟨t.val - 1, Nat.lt_of_le_of_lt (Nat.sub_le _ _) t.isLt⟩ rfl]
    congr 2
    omega

end Cert.Mlstm
end
-- ==== Proof.MlstmResult.lean ====
module

public import proofs.«01_k».proof.Proof.MlstmSteps

/-!
The kernel's result array: row `64 j + l` is row `l` of the block that point `j` leaves.
-/

@[expose] public section

set_option maxRecDepth 16384

noncomputable section
namespace Cert.Mlstm

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

theorem pt_at (b : Fin 2) (j : Fin 65) (l : Fin 64) (r : Fin 4160) (x : Fin 1024) (hr : r.val = 64 * j.val + l.val) :
    pt7Of (ix3 b r x) = j.val := by
  show 65 * (b.val / 2 - 0) + 1 * (r.val / 64 - 0) + 1 * (x.val / 1024 - 0) = j.val
  omega

theorem loc_at (b : Fin 2) (j : Fin 65) (l : Fin 64) (r : Fin 4160) (x : Fin 1024) (hr : r.val = 64 * j.val + l.val) :
    loc7Of (ix3 b r x) = ix3 b l x := by
  funext a
  match a with
  | ⟨0, _⟩ => exact Fin.ext (Nat.mod_eq_of_lt b.isLt)
  | ⟨1, _⟩ => exact Fin.ext (show r.val % 64 = l.val by omega)
  | ⟨2, _⟩ => exact Fin.ext (Nat.mod_eq_of_lt x.isLt)

/-- The kernel's result at an element. -/
theorem result_at (c : Dev nD) (b : Fin 2) (h : Fin 4) (j : Fin 65) (l : Fin 64) (e : Fin 256) (r : Fin 4160) (x : Fin 1024)
    (hr : r.val = 64 * j.val + l.val) (hx : x.val = 256 * h.val + e.val) :
    G7 m c (ix3 b r x)
      = out (kx m c b h j.val) (state (kx m c b h) j.val)
          (fun u => m ((c.tc : Thread nD τ).loc main_arg3) (ix1 ⟨256 * h.val + u.val, by omega⟩))
          (m ((c.tc : Thread nD τ).loc main_arg0) (ix3 b r ⟨2048 + x.val, by omega⟩)) l e := by
  have hN : cfg0.N = 65 := N_0
  have hp := pt_at b j l r x hr
  have hj : j.val < cfg0.N := by omega
  unfold G7
  rw [dif_pos (show pt7Of (ix3 b r x) < cfg0.N by omega), loc_at b j l r x hr, fold0_congr m c _ _ j.val (by omega) hp,
    ← outsAt0_sweep m c j.val hj]
  refine (kout m c ⟨j.val, hj⟩ b h l e x hx).trans ?_
  have hrow : row j.val l = r := Fin.ext (show (64 * j.val + l.val) % 4160 = r.val by omega)
  rw [hrow]

end Cert.Mlstm
end
end
-- ==== Proof.MlstmRefStep.lean ====
module

public import proofs.«01_k».proof.Proof.MlstmSpec
public import Idealize.ShloMosaic.Lib.WordCmp
public import proofs.«01_k».proof.Proof.Gen.ReferenceIdeal.Run

/-!
One trip of the reference's loop over the chunks, for one sequence and one head: from the chunk it reads at the counter and
the carried state it makes the next state and one row of outputs.
-/

@[expose] public section

set_option maxRecDepth 16384

noncomputable section
namespace Cert.Mlstm.Ref

open Idealize.ShloMosaic Idealize.ShloMosaic.TcCoe Idealize.SL.Sem
open Cert.ReferenceIdeal Cert.ReferenceIdeal.Value

variable (V : Valuation τ sig (Elt Ideal)) (b : Fin 2) (h : Fin 4)

/-- The chunk that the trip reads. -/
def rx : Chunk where
  q l d := res_main_while0b_v81 (F := Ideal) V (ix4 b h l d)
  k l d := res_main_while0b_v82 (F := Ideal) V (ix4 b h l d)
  v l e := res_main_while0b_v83 (F := Ideal) V (ix4 b h l e)
  i l := res_main_while0b_v84 (F := Ideal) V (ix3 b h l)
  b l := res_main_while0b_v85 (F := Ideal) V (ix3 b h l)

/-- The state that the trip finds. -/
def rz : State where
  C d e := V (Proc.devRef .tc main_v54_6) (ix4 b h d e)
  n d := V (Proc.devRef .tc main_v54_7) (ix3 b h d)
  m := V (Proc.devRef .tc main_v54_8) (ix2 b h)

/-- The largest of a row, over the last axis of four. -/
theorem max4 (y : FVec Ideal S2x4x64 .f32) (x : FVec Ideal S2x4x64x64 .f32) (l : Fin 64) :
    maximumf y (Host.reduce FloatOps.maximumf x (constant S_ .f32 0xFF800000#32) Gen.reducesTo_S2x4x64x64_S2x4x64_d3 Gen.h_S_) (ix3 b h l)
      = max (y (ix3 b h l)) (Finset.univ.fold max (Ideal.ofBits .f32 0xFF800000#32) fun s : Fin 64 => x (ix4 b h l s)) := by
  pointwise

/-- The largest of a row, over the last axis of three. -/
theorem max3 (y : FVec Ideal S2x4 .f32) (x : FVec Ideal S2x4x64 .f32) :
    maximumf y (Host.reduce FloatOps.maximumf x (constant S_ .f32 0xFF800000#32) Gen.reducesTo_S2x4x64_S2x4_d2 Gen.h_S_) (ix2 b h)
      = max (y (ix2 b h)) (Finset.univ.fold max (Ideal.ofBits .f32 0xFF800000#32) fun s : Fin 64 => x (ix3 b h s)) := by
  pointwise

theorem dm_at (l s : Fin 64) : res_main_while0b_v96 (F := Ideal) V (ix4 b h l s) = dm (rx V b h) l s := by
  unfold dm rx
  pointwise [res_main_while0b_v96, id_eq]
  have e0 : IntOp.addi (BitVec.ofNat 32 l.val) 0#32 = BitVec.ofNat 32 l.val := BitVec.add_zero _
  rw [e0, sge_word]
  split <;> rfl

theorem mT_at (l : Fin 64) : res_main_while0b_v101 (F := Ideal) V (ix3 b h l) = mT (rx V b h) (rz V b h) l := by
  unfold res_main_while0b_v101
  refine (max4 b h _ _ l).trans ?_
  unfold mT rz
  pointwise [res_main_while0b_v99, dm_at]
  rfl

theorem sw_at (l s : Fin 64) : res_main_while0b_v107 (F := Ideal) V (ix4 b h l s) = sw (rx V b h) (rz V b h) l s := by
  unfold sw
  pointwise [res_main_while0b_v107, dm_at, mT_at]
  rfl

theorem wI_at (l : Fin 64) : res_main_while0b_v109 (F := Ideal) V (ix3 b h l) = wI (rx V b h) (rz V b h) l := by
  unfold wI
  pointwise [res_main_while0b_v109, res_main_while0b_v99, mT_at]
  rfl

theorem aC_at (l : Fin 64) : res_main_while0b_v132 (F := Ideal) V (ix3 b h l) = aC (rx V b h) l := by
  unfold aC
  pointwise [res_main_while0b_v132, res_main_while0b_v128]
  rfl

theorem mN_at : res_main_while0b_v135 (F := Ideal) V (ix2 b h) = mN (rx V b h) (rz V b h) := by
  unfold res_main_while0b_v135
  refine (max3 b h _ _).trans ?_
  unfold mN
  pointwise [res_main_while0b_v128, aC_at]
  rfl

theorem dec_at : res_main_while0b_v138 (F := Ideal) V (ix2 b h) = dec (rx V b h) (rz V b h) := by
  unfold dec
  pointwise [res_main_while0b_v138, res_main_while0b_v128, mN_at]
  rfl

theorem wN_at (l : Fin 64) : res_main_while0b_v142 (F := Ideal) V (ix3 b h l) = wN (rx V b h) (rz V b h) l := by
  unfold wN
  pointwise [res_main_while0b_v142, aC_at, mN_at]

theorem cN_at (d : Fin 128) (e : Fin 256) : step_main_v54_6 (F := Ideal) V (ix4 b h d e) = cN (rx V b h) (rz V b h) d e := by
  unfold cN
  pointwise [step_main_v54_6, id_eq, dec_at, wN_at]
  rfl

theorem nN_at (d : Fin 128) : step_main_v54_7 (F := Ideal) V (ix3 b h d) = nN (rx V b h) (rz V b h) d := by
  unfold nN
  pointwise [step_main_v54_7, id_eq, dec_at, wN_at]
  rfl

/-- The state that the trip leaves. -/
theorem next_at : rz (STEP (F := Ideal) V) b h = next (rx V b h) (rz V b h) := by
  unfold next
  have hC : (fun (d : Fin 128) (e : Fin 256) => STEP (F := Ideal) V (Proc.devRef .tc main_v54_6) (ix4 b h d e)) = cN (rx V b h) (rz V b h) := by
    funext d e
    rw [STEP_main_v54_6, cN_at]
  have hn : (fun (d : Fin 128) => STEP (F := Ideal) V (Proc.devRef .tc main_v54_7) (ix3 b h d)) = nN (rx V b h) (rz V b h) := by
    funext d
    rw [STEP_main_v54_7, nN_at]
  have hm : STEP (F := Ideal) V (Proc.devRef .tc main_v54_8) (ix2 b h) = mN (rx V b h) (rz V b h) := by
    rw [STEP_main_v54_8]
    exact mN_at V b h
  rw [← hC, ← hn, ← hm]
  rfl

/-- The outputs that the trip makes. -/
def hrow : FVec Ideal S2x4x64x256 .f32 :=
  Host.divf (addf (Host.dotGeneral (F := Ideal) (φ₁ := .f32) (φ₂ := .f32) dot_S2x4x64x64_S2x4x64x256_S2x4x64x256_3_2_2_3_01_01 none (res_main_while0b_v107 V) (res_main_while0b_v83 V)) (mulf (broadcastInDim S2x4x64x256 ![0, 1, 2, 3] Gen.bcast_S2x4x64x1_S2x4x64x256_0_1_2_3 (broadcastInDim S2x4x64x1 ![0, 1, 2] Gen.bcast_S2x4x64_S2x4x64x1_0_1_2 (res_main_while0b_v109 V))) (Host.dotGeneral (F := Ideal) (φ₁ := .f32) (φ₂ := .f32) dot_S2x4x64x128_S2x4x128x256_S2x4x64x256_3_2_2_3_01_01 none (res_main_while0b_v81 V) (V (Proc.devRef .tc main_v54_6))))) (broadcastInDim S2x4x64x256 ![0, 1, 2, 3] Gen.bcast_S2x4x64x1_S2x4x64x256_0_1_2_3 (broadcastInDim S2x4x64x1 ![0, 1, 2] Gen.bcast_S2x4x64_S2x4x64x1_0_1_2 (maximumf (Host.absf (addf (Host.reduceAdd (F := Ideal) (φ := .f32) (res_main_while0b_v107 V) (constant S_ .f32 0x00000000#32) Gen.reducesTo_S2x4x64x64_S2x4x64_d3 Gen.h_S_) (mulf (res_main_while0b_v109 V) (Host.dotGeneral (F := Ideal) (φ₁ := .f32) (φ₂ := .f32) dot_S2x4x64x128_S2x4x128_S2x4x64_3_2_2_n_01_01 none (res_main_while0b_v81 V) (V (Proc.devRef .tc main_v54_7)))))) (Host.exp (Host.negf (res_main_while0b_v101 V))))))

theorem hrow_at (l : Fin 64) (e : Fin 256) : hrow V (ix4 b h l e) = hh (rx V b h) (rz V b h) l e := by
  unfold hh
  pointwise [hrow, sw_at, wI_at, mT_at]
  rw [sub_eq_add_neg, zero_add]
  rfl

/-- Writing one row of a stack of 65. -/
theorem row_set (x : FVec Ideal S65x2x4x64x256 .f32) (y : FVec Ideal S2x4x64x256 .f32) (k : Fin 65)
    (hk : S65x2x4x64x256.Slices ![k.val, 0, 0, 0, 0] S1x2x4x64x256) (j : Fin 65) (l : Fin 64) (e : Fin 256) :
    updateSlice x (broadcastInDim S1x2x4x64x256 ![1, 2, 3, 4] Gen.bcast_S2x4x64x256_S1x2x4x64x256_1_2_3_4 y) ![k.val, 0, 0, 0, 0] hk (ix5 j b h l e)
      = if j = k then y (ix4 b h l e) else x (ix5 j b h l e) := by
  pointwise
  by_cases hj : j = k
  · subst hj
    rw [dif_pos ⟨le_rfl, Nat.lt_succ_self _⟩, if_pos rfl]
  · have hn : ¬ (k.val ≤ j.val ∧ j.val < k.val + 1) := fun hh => hj (Fin.ext (by omega))
    rw [dif_neg hn, if_neg hj]

theorem row_word : ∀ k : Fin 65, (BitVec.ofNat 32 k.val).toInt = (k.val : Int) := by
  decide +kernel

theorem slices_row : ∀ k : Fin 65, S65x2x4x64x256.Slices ![k.val, 0, 0, 0, 0] S1x2x4x64x256 := by
  decide +kernel

/-- Writing a row at a counted start. -/
theorem row_put (x : FVec Ideal S65x2x4x64x256 .f32) (y : FVec Ideal S2x4x64x256 .f32) (k : Fin 65) (w : Fin 5 → Vec Ideal S_ .i32)
    (fits : S65x2x4x64x256.Slices (fun _ => 0) S1x2x4x64x256)
    (hw : ∀ a : Fin 5, (w a (Shape.Idx.first Gen.h_S_)).toInt = ((![k.val, 0, 0, 0, 0] : Fin 5 → ℕ) a : Int)) (j : Fin 65) (l : Fin 64) (e : Fin 256) :
    Host.dynamicUpdateSlice x (broadcastInDim S1x2x4x64x256 ![1, 2, 3, 4] Gen.bcast_S2x4x64x256_S1x2x4x64x256_1_2_3_4 y)
        (fun a => (w a (Shape.Idx.first Gen.h_S_)).toInt) fits (ix5 j b h l e)
      = if j = k then y (ix4 b h l e) else x (ix5 j b h l e) := by
  rw [Idealize.ShloMosaic.WordCmp.dynamicUpdateSlice_eq_update x _ _ fits ![k.val, 0, 0, 0, 0] (slices_row k) hw]
  exact row_set b h _ _ k _ j l e

/-- The starts of a row's read or write, at the counter. -/
theorem starts (w : Vec Ideal S_ .i32) (k : Fin 65) (hk : w = fun _ => BitVec.ofNat 32 k.val) (a : Fin 5) :
    (((![w, constantI S_ 32 0#32, constantI S_ 32 0#32, constantI S_ 32 0#32, constantI S_ 32 0#32] : Fin 5 → Vec Ideal S_ .i32)) a
        (Shape.Idx.first Gen.h_S_)).toInt = ((![k.val, 0, 0, 0, 0] : Fin 5 → ℕ) a : Int) := by
  have ha : a = 0 ∨ a = 1 ∨ a = 2 ∨ a = 3 ∨ a = 4 := (by decide : ∀ a : Fin 5, a = 0 ∨ a = 1 ∨ a = 2 ∨ a = 3 ∨ a = 4) a
  subst hk
  rcases ha with rfl | rfl | rfl | rfl | rfl
  · exact row_word k
  all_goals rfl

theorem step9 : step_main_v54_9 (F := Ideal) V
    = Host.dynamicUpdateSlice (s := S65x2x4x64x256) (V (Proc.devRef .tc main_v54_9))
        (broadcastInDim S1x2x4x64x256 ![1, 2, 3, 4] Gen.bcast_S2x4x64x256_S1x2x4x64x256_1_2_3_4 (hrow V))
        (fun a => (((![V (Proc.devRef .tc main_v54_5), constantI S_ 32 0#32, constantI S_ 32 0#32, constantI S_ 32 0#32, constantI S_ 32 0#32] : Fin 5 → Vec Ideal S_ .i32)) a
          (Shape.Idx.first Gen.h_S_)).toInt) Gen.updateFits_S65x2x4x64x256_S1x2x4x64x256 := by
  unfold step_main_v54_9 hrow
  rfl

/-- The row of outputs that the trip writes. -/
theorem hh_at (k : Fin 65) (hk : V (Proc.devRef .tc main_v54_5) = fun _ => BitVec.ofNat 32 k.val)
    (j : Fin 65) (l : Fin 64) (e : Fin 256) :
    step_main_v54_9 (F := Ideal) V (ix5 j b h l e)
      = if j = k then hh (rx V b h) (rz V b h) l e else V (Proc.devRef .tc main_v54_9) (ix5 j b h l e) := by
  rw [step9, ← hrow_at]
  exact row_put b h _ _ k _ _ (starts _ k hk) j l e

end Cert.Mlstm.Ref
end
-- ==== Proof.MlstmRefSums.lean ====
module

public import proofs.«01_k».proof.Proof.MlstmBlocks
public import proofs.«01_k».proof.Proof.MlstmRefStep

/-!
The reference's running sum inside a chunk, as the sum of the positions up to each.
-/

@[expose] public section

set_option maxRecDepth 16384

noncomputable section
namespace Cert.Mlstm.Ref

open Idealize.ShloMosaic Idealize.ShloMosaic.TcCoe Idealize.ShloMosaic.StableHlo Idealize.SL.Sem
open Cert.ReferenceIdeal Cert.ReferenceIdeal.Value

theorem foldl_add {ι : Type} (L : List ι) (g : ι → EReal) (v : EReal) :
    L.foldl (fun r n => r + g n) v = v + (L.map g).sum := by
  induction L generalizing v with
  | nil => simp
  | cons a L ih => rw [List.foldl_cons, ih, List.map_cons, List.sum_cons, add_assoc]

/-- The window of 64 that ends at position `l`, as the positions up to `l`. -/
theorem window_sum (f : Fin 64 → EReal) (l : Fin 64) :
    (∑ d : Fin 64, if hd : 63 ≤ l.val + d.val ∧ l.val + d.val - 63 < 64 then f ⟨l.val + d.val - 63, hd.2⟩ else 0)
      = ∑ s : Fin 64, if s ≤ l then f s else 0 := by
  rw [← Finset.sum_filter]
  have e : ∀ d : Fin 64, (if hd : 63 ≤ l.val + d.val ∧ l.val + d.val - 63 < 64 then f ⟨l.val + d.val - 63, hd.2⟩ else 0)
      = if 63 ≤ l.val + d.val then f ⟨(l.val + d.val - 63) % 64, Nat.mod_lt _ (by decide)⟩ else 0 := by
    intro d
    by_cases hd : 63 ≤ l.val + d.val
    · have h2 : l.val + d.val - 63 < 64 := by omega
      rw [dif_pos ⟨hd, h2⟩, if_pos hd]
      exact congrArg f (Fin.ext (Nat.mod_eq_of_lt h2).symm)
    · rw [dif_neg (fun h => hd h.1), if_neg hd]
  rw [Finset.sum_congr rfl fun d _ => e d, ← Finset.sum_filter]
  refine Finset.sum_nbij' (fun d => ⟨(l.val + d.val - 63) % 64, Nat.mod_lt _ (by decide)⟩)
    (fun s => ⟨(s.val + 63 - l.val) % 64, Nat.mod_lt _ (by decide)⟩) ?_ ?_ ?_ ?_ ?_
  · intro d hd
    simp only [Finset.mem_filter, Finset.mem_univ, true_and, Fin.le_def] at hd ⊢
    omega
  · intro s hs
    simp only [Finset.mem_filter, Finset.mem_univ, true_and, Fin.le_def] at hs ⊢
    omega
  · intro d hd
    simp only [Finset.mem_filter, Finset.mem_univ, true_and] at hd
    refine Fin.ext ?_
    show ((l.val + d.val - 63) % 64 + 63 - l.val) % 64 = d.val
    omega
  · intro s hs
    simp only [Finset.mem_filter, Finset.mem_univ, true_and, Fin.le_def] at hs
    refine Fin.ext ?_
    show (l.val + (s.val + 63 - l.val) % 64 - 63) % 64 = s.val
    omega
  · intro d _
    rfl

/-- The running sum inside a chunk. -/
theorem cumsum_at (x : FVec Ideal S2x4x65x64 .f32) (init : S_.Idx → EReal) (hi : init (Shape.Idx.first Gen.h_S_) = 0)
    (hw : S2x4x65x64.ReduceWindows ![1, 1, 1, 64] ![1, 1, 1, 1] ![0, 0, 0, 63] ![0, 0, 0, 0] S2x4x65x64)
    (b : Fin 2) (h : Fin 4) (j : Fin 65) (l : Fin 64) :
    Host.reduceWindowAdd (F := Ideal) (φ := .f32) ![1, 1, 1, 64] ![1, 1, 1, 1] ![0, 0, 0, 63] ![0, 0, 0, 0] x init hw Gen.h_S_ (ix4 b h j l)
      = ∑ s : Fin 64, if s ≤ l then x (ix4 b h j s) else 0 := by
  unfold Host.reduceWindowAdd
  rw [hi]
  show Host.reduceWindow (u := ⟨0, ![]⟩) (· + ·) ![1, 1, 1, 64] ![1, 1, 1, 1] ![0, 0, 0, 63] ![0, 0, 0, 0] x (fun _ => (0 : EReal)) hw (by decide) (ix4 b h j l) = _
  unfold Host.reduceWindow
  refine (foldl_add _ _ _).trans ?_
  rw [zero_add, ← Fin.sum_univ_def]
  have hb := b.isLt
  have hh := h.isLt
  have hj := j.isLt
  refine (Finset.sum_congr rfl fun n _ => ?_).trans
    ((Equiv.sum_comp (Shape.rowMajor ⟨S2x4x65x64.rank, ![1, 1, 1, 64]⟩).symm
      (fun w => if hd : 63 ≤ l.val + (w 3).val ∧ l.val + (w 3).val - 63 < 64 then x (ix4 b h j ⟨l.val + (w 3).val - 63, hd.2⟩) else 0)).trans ?_)
  · let w : (⟨4, ![1, 1, 1, 64]⟩ : Shape).Idx := (Shape.rowMajor ⟨S2x4x65x64.rank, ![1, 1, 1, 64]⟩).symm n
    have h0 : (w 0).val = 0 := Nat.lt_one_iff.mp (w 0).isLt
    have h1 : (w 1).val = 0 := Nat.lt_one_iff.mp (w 1).isLt
    have h2 : (w 2).val = 0 := Nat.lt_one_iff.mp (w 2).isLt
    by_cases hd : 63 ≤ l.val + (w 3).val
    · have hd2 : l.val + (w 3).val - 63 < 64 := by have h3 : (w 3).val < 64 := (w 3).isLt; have := l.isLt; omega
      refine Eq.trans ?_ (dif_pos (c := 63 ≤ l.val + (w 3).val ∧ l.val + (w 3).val - 63 < 64) ⟨hd, hd2⟩).symm
      refine (dif_pos ?_).trans (congrArg x (funext fun a => Fin.ext ?_))
      · intro a
        match a with
        | ⟨0, _⟩ => exact ⟨Nat.zero_le _, by show b.val * 1 + (w 0).val - 0 < 2; omega⟩
        | ⟨1, _⟩ => exact ⟨Nat.zero_le _, by show h.val * 1 + (w 1).val - 0 < 4; omega⟩
        | ⟨2, _⟩ => exact ⟨Nat.zero_le _, by show j.val * 1 + (w 2).val - 0 < 65; omega⟩
        | ⟨3, _⟩ => exact ⟨by show 63 ≤ l.val * 1 + (w 3).val; omega, by show l.val * 1 + (w 3).val - 63 < 64; omega⟩
      · match a with
        | ⟨0, _⟩ => show b.val * 1 + (w 0).val - 0 = b.val; omega
        | ⟨1, _⟩ => show h.val * 1 + (w 1).val - 0 = h.val; omega
        | ⟨2, _⟩ => show j.val * 1 + (w 2).val - 0 = j.val; omega
        | ⟨3, _⟩ => show l.val * 1 + (w 3).val - 63 = l.val + (w 3).val - 63; omega
    · refine Eq.trans ?_ (dif_neg (c := 63 ≤ l.val + (w 3).val ∧ l.val + (w 3).val - 63 < 64) (fun h => hd h.1)).symm
      refine dif_neg fun hin => hd ?_
      have h3 : 63 ≤ l.val * 1 + (w 3).val := (hin 3).1
      omega
  · refine (sum_idx4 (n0 := 1) (n1 := 1) (n2 := 1) (n3 := 64) _).trans ?_
    simp only [Fin.sum_univ_one]
    exact window_sum (fun s => x (ix4 b h j s)) l

end Cert.Mlstm.Ref
end
-- ==== Proof.MlstmRefCols.lean ====
module

public import proofs.«01_k».proof.Proof.MlstmBlocks
public import proofs.«01_k».proof.Proof.MlstmRefSums

/-!
What the reference cuts out of the projected columns and the two biases for its loop over the chunks: queries, keys, values,
input gates and running sums of the log forget gates.
-/

@[expose] public section

set_option maxRecDepth 16384

noncomputable section
namespace Cert.Mlstm.Ref

open Idealize.ShloMosaic Idealize.ShloMosaic.TcCoe Idealize.ShloMosaic.StableHlo Idealize.SL.Sem
open Cert.ReferenceIdeal Cert.ReferenceIdeal.Value

theorem row_of (j : Fin 65) (l : Fin 64) (h : j.val * 64 + l.val < 4160) : (⟨j.val * 64 + l.val, h⟩ : Fin 4160) = row j.val l := by
  refine Fin.ext ?_
  show j.val * 64 + l.val = (64 * j.val + l.val) % 4160
  omega

/-- Columns of the projection, head by head and chunk by chunk. -/
def vQ (x : FVec Ideal S2x4160x6528 .f32) : FVec Ideal S65x2x4x64x128 .f32 :=
  transpose S65x2x4x64x128 [2, 0, 1, 3, 4] (shapeCast S2x4x65x64x128
    (mulf (transpose S2x4x4160x128 [0, 2, 1, 3] (shapeCast S2x4160x4x128
        (extractStridedSlice S2x4160x512 ![0, 0, 0] x Gen.slices_S2x4160x6528_S2x4160x512_0_0_0)
        Gen.shapeCasts_S2x4160x512_S2x4160x4x128) Gen.transposes_S2x4160x4x128_S2x4x4160x128_0_2_1_3)
      (broadcastInDim S2x4x4160x128 ![] Gen.bcast_S_S2x4x4160x128 (constant S_ .f32 0x3DB504F3#32)))
    Gen.shapeCasts_S2x4x4160x128_S2x4x65x64x128) Gen.transposes_S2x4x65x64x128_S65x2x4x64x128_2_0_1_3_4

def vK (x : FVec Ideal S2x4160x6528 .f32) : FVec Ideal S65x2x4x64x128 .f32 :=
  transpose S65x2x4x64x128 [2, 0, 1, 3, 4] (shapeCast S2x4x65x64x128
    (transpose S2x4x4160x128 [0, 2, 1, 3] (shapeCast S2x4160x4x128
        (extractStridedSlice S2x4160x512 ![0, 0, 512] x Gen.slices_S2x4160x6528_S2x4160x512_0_0_512)
        Gen.shapeCasts_S2x4160x512_S2x4160x4x128) Gen.transposes_S2x4160x4x128_S2x4x4160x128_0_2_1_3)
    Gen.shapeCasts_S2x4x4160x128_S2x4x65x64x128) Gen.transposes_S2x4x65x64x128_S65x2x4x64x128_2_0_1_3_4

def vV (x : FVec Ideal S2x4160x6528 .f32) : FVec Ideal S65x2x4x64x256 .f32 :=
  transpose S65x2x4x64x256 [2, 0, 1, 3, 4] (shapeCast S2x4x65x64x256
    (transpose S2x4x4160x256 [0, 2, 1, 3] (shapeCast S2x4160x4x256
        (extractStridedSlice S2x4160x1024 ![0, 0, 1024] x Gen.slices_S2x4160x6528_S2x4160x1024_0_0_1024)
        Gen.shapeCasts_S2x4160x1024_S2x4160x4x256) Gen.transposes_S2x4160x4x256_S2x4x4160x256_0_2_1_3)
    Gen.shapeCasts_S2x4x4160x256_S2x4x65x64x256) Gen.transposes_S2x4x65x64x256_S65x2x4x64x256_2_0_1_3_4

/-- A gate before its mask: the capped sum of a column and a bias. -/
def vCap (y : FVec Ideal S2x4160x4 .f32) (w : FVec Ideal S4 .f32) : FVec Ideal S2x4160x4 .f32 :=
  mulf (broadcastInDim S2x4160x4 ![] Gen.bcast_S_S2x4160x4 (constant S_ .f32 0x41700000#32))
    (Host.tanh (Host.divf
      (addf y (broadcastInDim S2x4160x4 ![0, 1, 2] Gen.bcast_S1x1x4_S2x4160x4_0_1_2 (broadcastInDim S1x1x4 ![2] Gen.bcast_S4_S1x1x4_2 w)))
      (broadcastInDim S2x4160x4 ![] Gen.bcast_S_S2x4160x4 (constant S_ .f32 0x41700000#32))))

/-- The logarithm of the logistic function of `-x`, up to its sign. -/
def vSp (x : FVec Ideal S2x4160x4 .f32) : FVec Ideal S2x4160x4 .f32 :=
  let z := broadcastInDim S2x4160x4 ![] Gen.bcast_S_S2x4160x4 (constant (F := Ideal) S_ .f32 0x00000000#32)
  select (cmpf .une (subf x z) (subf x z)) (addf x z) (addf (maximumf x z) (Host.log1p (Host.exp (Host.negf (Host.absf (subf x z))))))

/-- The mask of the positions before the sequence. -/
def vMask (y : FVec Ideal S2x4160x4 .f32) (w : FVec Ideal S_ .f32) : FVec Ideal S2x4160x4 .f32 :=
  select (broadcastInDim S2x4160x4 ![1, 2] Gen.bcast_S4160x1_S2x4160x4_1_2 (broadcastInDim S4160x1 ![0] Gen.bcast_S4160_S4160x1_0
      (cmpi .sge (iotaInDim S4160 32 0) (broadcastInDim S4160 ![] Gen.bcast_S_S4160 (constantI S_ 32 48#32)))))
    y (broadcastInDim S2x4160x4 ![] Gen.bcast_S_S2x4160x4 w)

def vI (x : FVec Ideal S2x4160x6528 .f32) (w : FVec Ideal S4 .f32) : FVec Ideal S65x2x4x64 .f32 :=
  transpose S65x2x4x64 [2, 0, 1, 3] (shapeCast S2x4x65x64 (transpose S2x4x4160 [0, 2, 1]
    (vMask (vCap (extractStridedSlice S2x4160x4 ![0, 0, 3072] x Gen.slices_S2x4160x6528_S2x4160x4_0_0_3072) w) (constant S_ .f32 0xF149F2CA#32))
    Gen.transposes_S2x4160x4_S2x4x4160_0_2_1) Gen.shapeCasts_S2x4x4160_S2x4x65x64) Gen.transposes_S2x4x65x64_S65x2x4x64_2_0_1_3

def vL (x : FVec Ideal S2x4160x6528 .f32) (w : FVec Ideal S4 .f32) : FVec Ideal S2x4x65x64 .f32 :=
  shapeCast S2x4x65x64 (transpose S2x4x4160 [0, 2, 1]
    (vMask (Host.negf (vSp (Host.negf (vCap (extractStridedSlice S2x4160x4 ![0, 0, 3076] x Gen.slices_S2x4160x6528_S2x4160x4_0_0_3076) w)))) (constant S_ .f32 0x00000000#32))
    Gen.transposes_S2x4160x4_S2x4x4160_0_2_1) Gen.shapeCasts_S2x4x4160_S2x4x65x64

def vB (x : FVec Ideal S2x4160x6528 .f32) (w : FVec Ideal S4 .f32) : FVec Ideal S65x2x4x64 .f32 :=
  transpose S65x2x4x64 [2, 0, 1, 3]
    (Host.reduceWindowAdd ![1, 1, 1, 64] ![1, 1, 1, 1] ![0, 0, 0, 63] ![0, 0, 0, 0] (vL x w)
      (broadcastInDim S_ ![] Gen.bcast_S_S_ (constant S_ .f32 0x00000000#32)) Gen.reduceWindows_S2x4x65x64_S2x4x65x64_w1s1p0_0_w1s1p0_0_w1s1p0_0_w64s1p63_0 Gen.h_S_)
    Gen.transposes_S2x4x65x64_S65x2x4x64_2_0_1_3

/-- A position is real from 48 on, as words. -/
theorem real_at : ∀ (j : Fin 65) (l : Fin 64),
    IntOp.cmpi .sge (BitVec.ofNat 32 (j.val * 64 + l.val)) 48#32 = if 48 ≤ (row j.val l).val then 1#1 else 0#1 := by
  decide +kernel

theorem neg_sub_zero (x : EReal) : -x = 0 - x := by
  rw [sub_eq_add_neg, zero_add]

theorem col_of (h : Fin 4) (hx : 3076 + h.val < 6528) : (⟨3076 + h.val, hx⟩ : Fin 6528) = ⟨3072 + (4 + h.val), by omega⟩ :=
  Fin.ext (by show 3076 + h.val = 3072 + (4 + h.val); omega)

section
variable (x : FVec Ideal S2x4160x6528 .f32) (wi wf : FVec Ideal S4 .f32) (j : Fin 65) (b : Fin 2) (h : Fin 4) (l : Fin 64)

theorem vQ_at (d : Fin 128) : vQ x (ix5 j b h l d) = (chunk x wi wf b h j.val).q l d := by
  unfold chunk
  pointwise [vQ]
  simp only [row_of, Nat.mul_comm]

theorem vK_at (d : Fin 128) : vK x (ix5 j b h l d) = (chunk x wi wf b h j.val).k l d := by
  unfold chunk
  pointwise [vK]
  simp only [row_of, Nat.mul_comm]

theorem vV_at (e : Fin 256) : vV x (ix5 j b h l e) = (chunk x wi wf b h j.val).v l e := by
  unfold chunk
  pointwise [vV]
  simp only [row_of, Nat.mul_comm]

theorem vI_at : vI x wi (ix4 j b h l) = (chunk x wi wf b h j.val).i l := by
  unfold chunk gI cap
  pointwise [vI, vMask, vCap]
  simp only [row_of, real_at]
  split <;> rfl

theorem vL_at : vL x wf (ix4 b h j l) = gF x wf b h (row j.val l) := by
  unfold gF splus cap
  pointwise [vL, vMask, vCap, vSp]
  simp only [row_of, real_at, ne_eq, not_true_eq_false, if_false, neg_sub_zero, col_of]
  split <;> rfl

theorem vB_at : vB x wf (ix4 j b h l) = (chunk x wi wf b h j.val).b l := by
  unfold chunk
  pointwise [vB]
  refine (cumsum_at _ _ ?_ _ b h j l).trans (Finset.sum_congr rfl fun s _ => ?_)
  · pointwise
  · rw [vL_at]

end

end Cert.Mlstm.Ref
end
-- ==== Proof.MlstmRefEntry.lean ====
module

public import proofs.«01_k».proof.Proof.MlstmRefCols

/-!
What the reference's loop starts from: the chunks of queries, keys, values, input gates and running sums of the log forget
gates, and a zero state.
-/

@[expose] public section

set_option maxRecDepth 16384

noncomputable section
namespace Cert.Mlstm.Ref

open Idealize.ShloMosaic Idealize.ShloMosaic.TcCoe Idealize.ShloMosaic.StableHlo Idealize.SL.Sem
open Cert.ReferenceIdeal Cert.ReferenceIdeal.Value

variable (m : (ℓ : Loc nD τ sig) → Buf (Elt Ideal) ℓ) (c : Dev nD)

/-- The projected columns, the two biases. -/
abbrev aP : FVec Ideal S2x4160x6528 .f32 := m ((c.tc : Thread nD τ).loc main_arg0)
abbrev aI : FVec Ideal S4 .f32 := m ((c.tc : Thread nD τ).loc main_arg1)
abbrev aF : FVec Ideal S4 .f32 := m ((c.tc : Thread nD τ).loc main_arg2)

section
set_option maxRecDepth 100000

theorem entry_q : entryContents preI m c (Proc.devRef .tc main_v54_0) = vQ (aP m c) := by
  simp only [entryContents, afterL_cons, afterL_nil]
  after_reads_simp
  rfl

theorem entry_k : entryContents preI m c (Proc.devRef .tc main_v54_1) = vK (aP m c) := by
  simp only [entryContents, afterL_cons, afterL_nil]
  after_reads_simp
  rfl

theorem entry_v : entryContents preI m c (Proc.devRef .tc main_v54_2) = vV (aP m c) := by
  simp only [entryContents, afterL_cons, afterL_nil]
  after_reads_simp
  rfl

theorem entry_i : entryContents preI m c (Proc.devRef .tc main_v54_3) = vI (aP m c) (aI m c) := by
  simp only [entryContents, afterL_cons, afterL_nil]
  after_reads_simp
  rfl

theorem entry_b : entryContents preI m c (Proc.devRef .tc main_v54_4) = vB (aP m c) (aF m c) := by
  simp only [entryContents, afterL_cons, afterL_nil]
  after_reads_simp
  rfl

theorem entry_C : entryContents preI m c (Proc.devRef .tc main_v54_6)
    = broadcastInDim S2x4x128x256 ![] Gen.bcast_S_S2x4x128x256 (constant (F := Ideal) S_ .f32 0x00000000#32) := by
  simp only [entryContents, afterL_cons, afterL_nil]
  after_reads_simp
  rfl

theorem entry_n : entryContents preI m c (Proc.devRef .tc main_v54_7)
    = broadcastInDim S2x4x128 ![] Gen.bcast_S_S2x4x128 (constant (F := Ideal) S_ .f32 0x00000000#32) := by
  simp only [entryContents, afterL_cons, afterL_nil]
  after_reads_simp
  rfl

theorem entry_m : entryContents preI m c (Proc.devRef .tc main_v54_8)
    = broadcastInDim S2x4 ![] Gen.bcast_S_S2x4 (constant (F := Ideal) S_ .f32 0x00000000#32) := by
  simp only [entryContents, afterL_cons, afterL_nil]
  after_reads_simp
  rfl

end

end Cert.Mlstm.Ref
end
-- ==== Proof.MlstmRef.lean ====
module

public import proofs.«01_k».proof.Proof.MlstmRefStep
public import proofs.«01_k».proof.Proof.MlstmRefEntry

/-!
The reference's result: its loop over the 65 chunks carries each head's state and fills a stack of outputs; the operations after
the loop normalise, scale and gate them.
-/

@[expose] public section

set_option maxRecDepth 16384

noncomputable section
namespace Cert.Mlstm.Ref

open Idealize.ShloMosaic Idealize.ShloMosaic.TcCoe Idealize.ShloMosaic.StableHlo Idealize.SL.Sem
open Cert.ReferenceIdeal Cert.ReferenceIdeal.Value

/-! ### Reading a row at the counter -/

theorem slices_rd (k : Fin 65) : S65x2x4x64x128.Slices ![k.val, 0, 0, 0, 0] S1x2x4x64x128 := by
  revert k; decide +kernel

theorem slices_rdv (k : Fin 65) : S65x2x4x64x256.Slices ![k.val, 0, 0, 0, 0] S1x2x4x64x256 := by
  revert k; decide +kernel

theorem slices_rdg (k : Fin 65) : S65x2x4x64.Slices ![k.val, 0, 0, 0] S1x2x4x64 := by
  revert k; decide +kernel

theorem read128 (x : FVec Ideal S65x2x4x64x128 .f32) (k : Fin 65) (w : Vec Ideal S_ .i32) (hk : w = fun _ => BitVec.ofNat 32 k.val)
    (fits : S65x2x4x64x128.Slices (fun _ => 0) S1x2x4x64x128) (b : Fin 2) (h : Fin 4) (l : Fin 64) (d : Fin 128) :
    shapeCast S2x4x64x128 (Host.dynamicSlice S1x2x4x64x128 x
        (fun a => (((![w, constantI S_ 32 0#32, constantI S_ 32 0#32, constantI S_ 32 0#32, constantI S_ 32 0#32] : Fin 5 → Vec Ideal S_ .i32)) a
          (Shape.Idx.first Gen.h_S_)).toInt) fits) Gen.shapeCasts_S1x2x4x64x128_S2x4x64x128 (ix4 b h l d)
      = x (ix5 k b h l d) := by
  rw [Idealize.ShloMosaic.WordCmp.dynamicSlice_eq_extract _ x _ fits ![k.val, 0, 0, 0, 0] (slices_rd k) (starts w k hk)]
  pointwise

theorem read256 (x : FVec Ideal S65x2x4x64x256 .f32) (k : Fin 65) (w : Vec Ideal S_ .i32) (hk : w = fun _ => BitVec.ofNat 32 k.val)
    (fits : S65x2x4x64x256.Slices (fun _ => 0) S1x2x4x64x256) (b : Fin 2) (h : Fin 4) (l : Fin 64) (d : Fin 256) :
    shapeCast S2x4x64x256 (Host.dynamicSlice S1x2x4x64x256 x
        (fun a => (((![w, constantI S_ 32 0#32, constantI S_ 32 0#32, constantI S_ 32 0#32, constantI S_ 32 0#32] : Fin 5 → Vec Ideal S_ .i32)) a
          (Shape.Idx.first Gen.h_S_)).toInt) fits) Gen.shapeCasts_S1x2x4x64x256_S2x4x64x256 (ix4 b h l d)
      = x (ix5 k b h l d) := by
  rw [Idealize.ShloMosaic.WordCmp.dynamicSlice_eq_extract _ x _ fits ![k.val, 0, 0, 0, 0] (slices_rdv k) (starts w k hk)]
  pointwise

theorem starts4 (w : Vec Ideal S_ .i32) (k : Fin 65) (hk : w = fun _ => BitVec.ofNat 32 k.val) (a : Fin 4) :
    (((![w, constantI S_ 32 0#32, constantI S_ 32 0#32, constantI S_ 32 0#32] : Fin 4 → Vec Ideal S_ .i32)) a
        (Shape.Idx.first Gen.h_S_)).toInt = ((![k.val, 0, 0, 0] : Fin 4 → ℕ) a : Int) := by
  have ha : a = 0 ∨ a = 1 ∨ a = 2 ∨ a = 3 := (by decide : ∀ a : Fin 4, a = 0 ∨ a = 1 ∨ a = 2 ∨ a = 3) a
  subst hk
  rcases ha with rfl | rfl | rfl | rfl
  · exact row_word k
  all_goals rfl

theorem read64 (x : FVec Ideal S65x2x4x64 .f32) (k : Fin 65) (w : Vec Ideal S_ .i32) (hk : w = fun _ => BitVec.ofNat 32 k.val)
    (fits : S65x2x4x64.Slices (fun _ => 0) S1x2x4x64) (b : Fin 2) (h : Fin 4) (l : Fin 64) :
    shapeCast S2x4x64 (Host.dynamicSlice S1x2x4x64 x
        (fun a => (((![w, constantI S_ 32 0#32, constantI S_ 32 0#32, constantI S_ 32 0#32] : Fin 4 → Vec Ideal S_ .i32)) a
          (Shape.Idx.first Gen.h_S_)).toInt) fits) Gen.shapeCasts_S1x2x4x64_S2x4x64 (ix3 b h l)
      = x (ix4 k b h l) := by
  rw [Idealize.ShloMosaic.WordCmp.dynamicSlice_eq_extract _ x _ fits ![k.val, 0, 0, 0] (slices_rdg k) (starts4 w k hk)]
  pointwise

/-! ### The loop -/

variable (m : (ℓ : Loc nD τ sig) → Buf (Elt Ideal) ℓ) (c : Dev nD)

/-- The contents before trip `k`. -/
def at_ (k : ℕ) : Valuation τ sig (Elt Ideal) := STEP^[k] (entryContents preI m c)

theorem at_def (k : ℕ) : at_ m c k = STEP^[k] (entryContents preI m c) := rfl

theorem at_succ (k : ℕ) : at_ m c (k + 1) = STEP (at_ m c k) := Function.iterate_succ_apply' _ _ _

theorem at_q : ∀ k, at_ m c k (Proc.devRef .tc main_v54_0) = vQ (aP m c)
  | 0 => entry_q m c
  | k + 1 => by rw [at_succ, STEP_main_v54_0, at_q k]

theorem at_k : ∀ k, at_ m c k (Proc.devRef .tc main_v54_1) = vK (aP m c)
  | 0 => entry_k m c
  | k + 1 => by rw [at_succ, STEP_main_v54_1, at_k k]

theorem at_v : ∀ k, at_ m c k (Proc.devRef .tc main_v54_2) = vV (aP m c)
  | 0 => entry_v m c
  | k + 1 => by rw [at_succ, STEP_main_v54_2, at_v k]

theorem at_i : ∀ k, at_ m c k (Proc.devRef .tc main_v54_3) = vI (aP m c) (aI m c)
  | 0 => entry_i m c
  | k + 1 => by rw [at_succ, STEP_main_v54_3, at_i k]

theorem at_b : ∀ k, at_ m c k (Proc.devRef .tc main_v54_4) = vB (aP m c) (aF m c)
  | 0 => entry_b m c
  | k + 1 => by rw [at_succ, STEP_main_v54_4, at_b k]

theorem at_ctr : ∀ k, at_ m c k (Proc.devRef .tc main_v54_5) = fun _ => BitVec.ofNat 32 k
  | 0 => ctr_entry m c
  | k + 1 => by
    rw [at_succ, STEP_main_v54_5]
    unfold step_main_v54_5
    rw [at_ctr k]
    funext i
    show BitVec.ofNat 32 k + 1#32 = BitVec.ofNat 32 (k + 1)
    exact (BitVec.ofNat_add k 1).symm

/-- The chunks of one sequence and head. -/
abbrev xs (b : Fin 2) (h : Fin 4) : ℕ → Chunk := chunk (aP m c) (aI m c) (aF m c) b h

theorem rx_at (k : Fin 65) (b : Fin 2) (h : Fin 4) : rx (at_ m c k.val) b h = xs m c b h k.val := by
  have hq : ∀ l d, res_main_while0b_v81 (F := Ideal) (at_ m c k.val) (ix4 b h l d) = (xs m c b h k.val).q l d := fun l d =>
    (read128 _ k _ (at_ctr m c k.val) _ b h l d).trans ((congrFun (at_q m c k.val) _).trans (vQ_at _ _ _ k b h l d))
  have hk : ∀ l d, res_main_while0b_v82 (F := Ideal) (at_ m c k.val) (ix4 b h l d) = (xs m c b h k.val).k l d := fun l d =>
    (read128 _ k _ (at_ctr m c k.val) _ b h l d).trans ((congrFun (at_k m c k.val) _).trans (vK_at _ _ _ k b h l d))
  have hv : ∀ l d, res_main_while0b_v83 (F := Ideal) (at_ m c k.val) (ix4 b h l d) = (xs m c b h k.val).v l d := fun l d =>
    (read256 _ k _ (at_ctr m c k.val) _ b h l d).trans ((congrFun (at_v m c k.val) _).trans (vV_at _ _ _ k b h l d))
  have hi : ∀ l, res_main_while0b_v84 (F := Ideal) (at_ m c k.val) (ix3 b h l) = (xs m c b h k.val).i l := fun l =>
    (read64 _ k _ (at_ctr m c k.val) _ b h l).trans ((congrFun (at_i m c k.val) _).trans (vI_at _ _ _ k b h l))
  have hb : ∀ l, res_main_while0b_v85 (F := Ideal) (at_ m c k.val) (ix3 b h l) = (xs m c b h k.val).b l := fun l =>
    (read64 _ k _ (at_ctr m c k.val) _ b h l).trans ((congrFun (at_b m c k.val) _).trans (vB_at _ _ _ k b h l))
  unfold rx
  rw [show (fun l d => res_main_while0b_v81 (F := Ideal) (at_ m c k.val) (ix4 b h l d)) = (xs m c b h k.val).q from funext fun l => funext (hq l),
    show (fun l d => res_main_while0b_v82 (F := Ideal) (at_ m c k.val) (ix4 b h l d)) = (xs m c b h k.val).k from funext fun l => funext (hk l),
    show (fun l d => res_main_while0b_v83 (F := Ideal) (at_ m c k.val) (ix4 b h l d)) = (xs m c b h k.val).v from funext fun l => funext (hv l),
    show (fun l => res_main_while0b_v84 (F := Ideal) (at_ m c k.val) (ix3 b h l)) = (xs m c b h k.val).i from funext hi,
    show (fun l => res_main_while0b_v85 (F := Ideal) (at_ m c k.val) (ix3 b h l)) = (xs m c b h k.val).b from funext hb]

theorem rz_zero (b : Fin 2) (h : Fin 4) : rz (at_ m c 0) b h = State.zero := by
  unfold rz State.zero
  rw [show at_ m c 0 = entryContents preI m c from rfl, entry_C, entry_n, entry_m]
  congr 1
  · funext d e; pointwise
  · funext d; pointwise
  · pointwise

theorem rz_at (b : Fin 2) (h : Fin 4) : ∀ k, k ≤ 65 → rz (at_ m c k) b h = state (xs m c b h) k
  | 0, _ => rz_zero m c b h
  | k + 1, hk => by
    rw [at_succ, next_at, rz_at b h k (by omega), rx_at m c ⟨k, by omega⟩ b h]
    rfl

theorem stack_at (b : Fin 2) (h : Fin 4) (j : Fin 65) (l : Fin 64) (e : Fin 256) : ∀ k, k ≤ 65 → j.val < k →
    at_ m c k (Proc.devRef .tc main_v54_9) (ix5 j b h l e) = hh (xs m c b h j.val) (state (xs m c b h) j.val) l e
  | 0, _, hj => absurd hj (Nat.not_lt_zero _)
  | k + 1, hk, hj => by
    rw [at_succ, STEP_main_v54_9, hh_at (at_ m c k) b h ⟨k, by omega⟩ (at_ctr m c k) j l e]
    by_cases hjk : j = ⟨k, by omega⟩
    · rw [if_pos hjk]
      have e1 : j.val = k := congrArg Fin.val hjk
      rw [rz_at m c b h k (by omega), rx_at m c ⟨k, by omega⟩ b h, e1]
    · rw [if_neg hjk]
      have e1 : j.val ≠ k := fun h => hjk (Fin.ext h)
      exact stack_at b h j l e k (by omega) (by omega)

/-! ### After the loop -/

/-- The operations after the loop, at one element: `H` is the row of outputs that the element lies in. -/
theorem after_at (V : Valuation τ sig (Elt Ideal)) (H : Fin 256 → EReal) (b : Fin 2) (h : Fin 4) (j : Fin 65) (l : Fin 64) (e : Fin 256)
    (r : Fin 4160) (x : Fin 1024) (hr : r.val = 64 * j.val + l.val) (hx : x.val = 256 * h.val + e.val)
    (hs : ∀ e, V (Proc.devRef .tc main_v54_9) (ix5 j b h l e) = H e) :
    out_main_v80 (F := Ideal) V (ix3 b r x)
      = H e * Ideal.rsqrt (Ideal.div (∑ u, H u * H u) (Ideal.ofBits .f32 0x43800000#32) + Ideal.ofBits .f32 0x358637BD#32)
          * V (Proc.devRef .tc main_arg3) (ix1 x)
          * Ideal.div 1 (1 + Ideal.exp (0 - V (Proc.devRef .tc main_arg0) (ix3 b r ⟨2048 + x.val, by omega⟩))) := by
  have ej : (⟨r.val / 64, by omega⟩ : Fin 65) = j := Fin.ext (by show r.val / 64 = j.val; omega)
  have el : (⟨r.val % 64, by omega⟩ : Fin 64) = l := Fin.ext (by show r.val % 64 = l.val; omega)
  have eh : (⟨x.val / 256, by omega⟩ : Fin 4) = h := Fin.ext (by show x.val / 256 = h.val; omega)
  have ee : (⟨x.val % 256, by omega⟩ : Fin 256) = e := Fin.ext (by show x.val % 256 = e.val; omega)
  pointwise [out_main_v80]
  simp only [ej, el, eh, ee, hs, neg_sub_zero]

/-- The reference's result, element by element. -/
theorem result_at (b : Fin 2) (h : Fin 4) (j : Fin 65) (l : Fin 64) (e : Fin 256) (r : Fin 4160) (x : Fin 1024)
    (hr : r.val = 64 * j.val + l.val) (hx : x.val = 256 * h.val + e.val) :
    out_main_v80 (F := Ideal) (STEP^[65] (entryContents preI m c)) (ix3 b r x)
      = out (xs m c b h j.val) (state (xs m c b h) j.val)
          (fun u => m ((c.tc : Thread nD τ).loc main_arg3) (ix1 ⟨256 * h.val + u.val, by omega⟩))
          (aP m c (ix3 b r ⟨2048 + x.val, by omega⟩)) l e := by
  have h0 : ∀ k, at_ m c k (Proc.devRef .tc main_arg0) = m ((c.tc : Thread nD τ).loc main_arg0) := iter_main_arg0 m c
  have h3 : ∀ k, at_ m c k (Proc.devRef .tc main_arg3) = m ((c.tc : Thread nD τ).loc main_arg3) := iter_main_arg3 m c
  rw [← at_def, after_at (at_ m c 65) _ b h j l e r x hr hx (fun e => stack_at m c b h j l e 65 le_rfl j.isLt), h0, h3]
  unfold out
  exact congrArg₂ (· * ·) (congrArg₂ (· * ·) rfl (congrArg _ (congrArg ix1 (Fin.ext hx)))) rfl

end Cert.Mlstm.Ref
end
-- ==== Proof.MoeUpRuns.lean ====
module

public import proofs.«01_k».proof.Defs
public import proofs.«01_k».proof.Proof.Gen.MoeUpIdeal
public import proofs.«01_k».proof.Proof.Gen.MoeUpIdeal.Skeleton
public import proofs.«01_k».proof.Proof.Gen.MoeUpIdeal.Launch
public import Idealize.ShloMosaic.Lib.Pipeline.Kit
public import Idealize.ShloMosaic.Lib.Pipeline.FrameBody
public import Idealize.ShloMosaic.Lib.Pipeline.TableIdle
public import Idealize.ShloMosaic.Lib.Pipeline.Quiescent
public import Idealize.ShloMosaic.Lib.Pipeline.ValueKit
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-!
The body of the experts' up call, run once from any contents of its buffers.
-/

@[expose] public section

set_option maxRecDepth 16384

noncomputable section
namespace Cert.MoeUpRun

open Cert.MoeUpIdeal Cert.MoeUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the two scratch buffers, whole. -/
abbrev tE : Memref sig .tc .smem S41 .i32 := Memref.whole main_arg0
abbrev tN : Memref sig .tc .smem S1 .i32 := Memref.whole main_arg1
abbrev sG : Memref sig .tc .vmem S2048x512 .bf16 := Memref.whole cc0_scratch0
abbrev sU : Memref sig .tc .vmem S2048x512 .bf16 := Memref.whole cc0_scratch1

/-- The words the body reads at point `i`: its tile's expert, the expert of the tile before, the number of used tiles. -/
abbrev wHere (i : grid0.Coords) (T : S41.Idx → Elt F .i32) : Elt F .i32 :=
  View.readAt (Elt F) tE.view (Rect.unit (s := S41) (k0_off1 i) S1.size (k0_off1_inb i)).toLoadRect T (Shape.Idx.first (numel1_S1.symm ▸ Nat.one_pos))
abbrev wBefore (i : grid0.Coords) (T : S41.Idx → Elt F .i32) : Elt F .i32 :=
  View.readAt (Elt F) tE.view (Rect.unit (s := S41) (k0_off2 i) S1.size (k0_off2_inb i)).toLoadRect T (Shape.Idx.first (numel1_S1.symm ▸ Nat.one_pos))
abbrev wUsed (N : S1.Idx → Elt F .i32) : Elt F .i32 :=
  View.readAt (Elt F) tN.view (Rect.unit (s := S1) ![0] S1.size inb_S1_S1_0).toLoadRect N (Shape.Idx.first (numel1_S1.symm ▸ Nat.one_pos))

/-- Whether the point meets a new expert: the first tile, or another expert than the tile before. -/
abbrev IsNew (i : grid0.Coords) (T : S41.Idx → Elt F .i32) : Prop :=
  Scalar.cmpi .ne (Scalar.extui (Scalar.ori (Scalar.cmpi .eq (BitVec.ofNat 32 (i 1).val) 0#32)
    (Scalar.cmpi .ne (wHere (F := F) i T) (wBefore (F := F) i T)))) 0#32 = 1#1

set_option maxHeartbeats 1600000 in
/-- A used tile that meets a new expert: the two weight blocks go into the scratch buffers, the output is of them. -/
theorem run_new_used (c : Dev nD) (i : grid0.Coords)
    (a4 : Memref sig .tc .vmem S512x2048 .bf16) (h4 : a4.IsWhole) (a5 : Memref sig .tc .vmem S1x2048x512 .f32) (h5 : a5.IsWhole)
    (a6 : Memref sig .tc .vmem S1x2048x512 .f32) (h6 : a6.IsWhole) (a7 : Memref sig .tc .vmem S512x512 .bf16) (h7 : a7.IsWhole)
    (T : S41.Idx → Elt F .i32) (N : S1.Idx → Elt F .i32)
    (x : S512x2048.Idx → Elt F .bf16) (g u : S1x2048x512.Idx → Elt F .f32) (s0 s1 : S2048x512.Idx → Elt F .bf16)
    (hn : IsNew i T) (k0_h2 : k0_cond2 i (wUsed (F := F) N) = 1#1) (k0_h3 : ¬ k0_cond3 i (wUsed (F := F) N) = 1#1)
    (K : PUnit → sProp 𝕄) :
    iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
        ∗ (∃ d, owns (c : Thread nD τ) a7 fullShare d)
        ∗ owns (c : Thread nD τ) sG fullShare s0 ∗ owns (c : Thread nD τ) sU fullShare s1
        ∗ (iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
            ∗ owns (c : Thread nD τ) a7 fullShare (k0_pay3 x (k0_pay1 g) (k0_pay2 u))
            ∗ owns (c : Thread nD τ) sG fullShare (k0_pay1 g) ∗ owns (c : Thread nD τ) sU fullShare (k0_pay2 u)) -∗ K ⟨⟩))
      ⊢ wp frame (wpE (defs₀ (F := F)) Variants.none c none) Set.univ
          (cc0_moe_up i tE (Memref.isWhole_whole _) tN (Memref.isWhole_whole _) a4 h4 a5 h5 a6 h6 a7 h7 sG (Memref.isWhole_whole _) sU (Memref.isWhole_whole _)) K := by
  rw [cc0_moe_up_eq_skeleton]; unfold cc0_moe_up_skel
  iintro ⟨H0, H1, H2, HT0, HT1, ⟨%d3, HO3⟩, HS0, HS1, Hk⟩
  ihave H0 := rep_of_owns $$ H0
  ihave H1 := rep_of_owns $$ H1
  ihave H2 := rep_of_owns $$ H2
  ihave HO3 := rep_of_owns $$ HO3
  ihave HS0 := rep_of_owns $$ HS0
  ihave HS1 := rep_of_owns $$ HS1
  have hS0 : sG.IsWhole := Memref.isWhole_whole _
  have hS1 : sU.IsWhole := Memref.isWhole_whole _
  have hT0 : tE.IsWhole := Memref.isWhole_whole _
  have hT1 : tN.IsWhole := Memref.isWhole_whole _
  sl_exec! (disch := first | (guard_target = Scalar.cmpi = _; exact hn) | (guard_target = k0_cond2 _ _ = _; exact k0_h2) | (guard_target = ¬(k0_cond3 _ _ = _); exact k0_h3))
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  isplitl [HO3]
  · unfold owns
    iexists _; isplitr; swap
    · iexact HO3
    · ipureintro
      refine (View.read_writes_full _ _ _ _ _).trans ?_
      refine congr (congr (congrArg k0_pay3 (View.readAt_rep_full _ _ _)) ?_) ?_
      · exact (View.readCov_full _ _ _ _ _).trans (congrArg k0_pay1 (View.readAt_rep_full _ _ _))
      · exact (View.readCov_full _ _ _ _ _).trans (congrArg k0_pay2 (View.readAt_rep_full _ _ _))
  isplitl [HS0]
  · unfold owns
    iexists _; isplitr; swap
    · iexact HS0
    · ipureintro
      refine (View.read_writes_full _ _ _ _ _).trans ?_
      exact congrArg k0_pay1 (View.readAt_rep_full _ _ _)
  unfold owns
  iexists _; isplitr; swap
  · iexact HS1
  · ipureintro
    refine (View.read_writes_full _ _ _ _ _).trans ?_
    exact congrArg k0_pay2 (View.readAt_rep_full _ _ _)

set_option maxHeartbeats 1600000 in
/-- A used tile of the expert before: the output is of what the scratch buffers hold. -/
theorem run_old_used (c : Dev nD) (i : grid0.Coords)
    (a4 : Memref sig .tc .vmem S512x2048 .bf16) (h4 : a4.IsWhole) (a5 : Memref sig .tc .vmem S1x2048x512 .f32) (h5 : a5.IsWhole)
    (a6 : Memref sig .tc .vmem S1x2048x512 .f32) (h6 : a6.IsWhole) (a7 : Memref sig .tc .vmem S512x512 .bf16) (h7 : a7.IsWhole)
    (T : S41.Idx → Elt F .i32) (N : S1.Idx → Elt F .i32)
    (x : S512x2048.Idx → Elt F .bf16) (g u : S1x2048x512.Idx → Elt F .f32) (s0 s1 : S2048x512.Idx → Elt F .bf16)
    (hn : ¬ IsNew i T) (k0_h2 : k0_cond2 i (wUsed (F := F) N) = 1#1) (k0_h3 : ¬ k0_cond3 i (wUsed (F := F) N) = 1#1)
    (K : PUnit → sProp 𝕄) :
    iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
        ∗ (∃ d, owns (c : Thread nD τ) a7 fullShare d)
        ∗ owns (c : Thread nD τ) sG fullShare s0 ∗ owns (c : Thread nD τ) sU fullShare s1
        ∗ (iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
            ∗ owns (c : Thread nD τ) a7 fullShare (k0_pay3 x s0 s1)
            ∗ owns (c : Thread nD τ) sG fullShare s0 ∗ owns (c : Thread nD τ) sU fullShare s1) -∗ K ⟨⟩))
      ⊢ wp frame (wpE (defs₀ (F := F)) Variants.none c none) Set.univ
          (cc0_moe_up i tE (Memref.isWhole_whole _) tN (Memref.isWhole_whole _) a4 h4 a5 h5 a6 h6 a7 h7 sG (Memref.isWhole_whole _) sU (Memref.isWhole_whole _)) K := by
  rw [cc0_moe_up_eq_skeleton]; unfold cc0_moe_up_skel
  iintro ⟨H0, H1, H2, HT0, HT1, ⟨%d3, HO3⟩, HS0, HS1, Hk⟩
  ihave H0 := rep_of_owns $$ H0
  ihave H1 := rep_of_owns $$ H1
  ihave H2 := rep_of_owns $$ H2
  ihave HO3 := rep_of_owns $$ HO3
  ihave HS0 := rep_of_owns $$ HS0
  ihave HS1 := rep_of_owns $$ HS1
  have hS0 : sG.IsWhole := Memref.isWhole_whole _
  have hS1 : sU.IsWhole := Memref.isWhole_whole _
  have hT0 : tE.IsWhole := Memref.isWhole_whole _
  have hT1 : tN.IsWhole := Memref.isWhole_whole _
  sl_exec! (disch := first | (guard_target = ¬(Scalar.cmpi = _); exact hn) | (guard_target = k0_cond2 _ _ = _; exact k0_h2) | (guard_target = ¬(k0_cond3 _ _ = _); exact k0_h3))
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  isplitl [HO3]
  · unfold owns
    iexists _; isplitr; swap
    · iexact HO3
    · ipureintro
      refine (View.read_writes_full _ _ _ _ _).trans ?_
      exact congr (congr (congrArg k0_pay3 (View.readAt_rep_full _ _ _)) (View.readAt_rep_full _ _ _)) (View.readAt_rep_full _ _ _)
  isplitl [HS0]
  · iapply owns_of_rep; iexact HS0
  iapply owns_of_rep; iexact HS1

set_option maxHeartbeats 1600000 in
/-- A tile past the used ones that meets a new expert: the scratch buffers are filled, the output is zero. -/
theorem run_new_rest (c : Dev nD) (i : grid0.Coords)
    (a4 : Memref sig .tc .vmem S512x2048 .bf16) (h4 : a4.IsWhole) (a5 : Memref sig .tc .vmem S1x2048x512 .f32) (h5 : a5.IsWhole)
    (a6 : Memref sig .tc .vmem S1x2048x512 .f32) (h6 : a6.IsWhole) (a7 : Memref sig .tc .vmem S512x512 .bf16) (h7 : a7.IsWhole)
    (T : S41.Idx → Elt F .i32) (N : S1.Idx → Elt F .i32)
    (x : S512x2048.Idx → Elt F .bf16) (g u : S1x2048x512.Idx → Elt F .f32) (s0 s1 : S2048x512.Idx → Elt F .bf16)
    (hn : IsNew i T) (k0_h2 : ¬ k0_cond2 i (wUsed (F := F) N) = 1#1) (k0_h3 : k0_cond3 i (wUsed (F := F) N) = 1#1)
    (K : PUnit → sProp 𝕄) :
    iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
        ∗ (∃ d, owns (c : Thread nD τ) a7 fullShare d)
        ∗ owns (c : Thread nD τ) sG fullShare s0 ∗ owns (c : Thread nD τ) sU fullShare s1
        ∗ (iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
            ∗ owns (c : Thread nD τ) a7 fullShare k0_pay4
            ∗ owns (c : Thread nD τ) sG fullShare (k0_pay1 g) ∗ owns (c : Thread nD τ) sU fullShare (k0_pay2 u)) -∗ K ⟨⟩))
      ⊢ wp frame (wpE (defs₀ (F := F)) Variants.none c none) Set.univ
          (cc0_moe_up i tE (Memref.isWhole_whole _) tN (Memref.isWhole_whole _) a4 h4 a5 h5 a6 h6 a7 h7 sG (Memref.isWhole_whole _) sU (Memref.isWhole_whole _)) K := by
  rw [cc0_moe_up_eq_skeleton]; unfold cc0_moe_up_skel
  iintro ⟨H0, H1, H2, HT0, HT1, ⟨%d3, HO3⟩, HS0, HS1, Hk⟩
  ihave H0 := rep_of_owns $$ H0
  ihave H1 := rep_of_owns $$ H1
  ihave H2 := rep_of_owns $$ H2
  ihave HO3 := rep_of_owns $$ HO3
  ihave HS0 := rep_of_owns $$ HS0
  ihave HS1 := rep_of_owns $$ HS1
  have hS0 : sG.IsWhole := Memref.isWhole_whole _
  have hS1 : sU.IsWhole := Memref.isWhole_whole _
  have hT0 : tE.IsWhole := Memref.isWhole_whole _
  have hT1 : tN.IsWhole := Memref.isWhole_whole _
  sl_exec! (disch := first | (guard_target = Scalar.cmpi = _; exact hn) | (guard_target = ¬(k0_cond2 _ _ = _); exact k0_h2) | (guard_target = k0_cond3 _ _ = _; exact k0_h3))
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  isplitl [HO3]
  · unfold owns
    iexists _; isplitr; swap
    · iexact HO3
    · ipureintro
      exact View.read_writes_full _ _ _ _ _
  isplitl [HS0]
  · unfold owns
    iexists _; isplitr; swap
    · iexact HS0
    · ipureintro
      refine (View.read_writes_full _ _ _ _ _).trans ?_
      exact congrArg k0_pay1 (View.readAt_rep_full _ _ _)
  unfold owns
  iexists _; isplitr; swap
  · iexact HS1
  · ipureintro
    refine (View.read_writes_full _ _ _ _ _).trans ?_
    exact congrArg k0_pay2 (View.readAt_rep_full _ _ _)

set_option maxHeartbeats 1600000 in
/-- A tile past the used ones: the output is zero. -/
theorem run_old_rest (c : Dev nD) (i : grid0.Coords)
    (a4 : Memref sig .tc .vmem S512x2048 .bf16) (h4 : a4.IsWhole) (a5 : Memref sig .tc .vmem S1x2048x512 .f32) (h5 : a5.IsWhole)
    (a6 : Memref sig .tc .vmem S1x2048x512 .f32) (h6 : a6.IsWhole) (a7 : Memref sig .tc .vmem S512x512 .bf16) (h7 : a7.IsWhole)
    (T : S41.Idx → Elt F .i32) (N : S1.Idx → Elt F .i32)
    (x : S512x2048.Idx → Elt F .bf16) (g u : S1x2048x512.Idx → Elt F .f32) (s0 s1 : S2048x512.Idx → Elt F .bf16)
    (hn : ¬ IsNew i T) (k0_h2 : ¬ k0_cond2 i (wUsed (F := F) N) = 1#1) (k0_h3 : k0_cond3 i (wUsed (F := F) N) = 1#1)
    (K : PUnit → sProp 𝕄) :
    iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
        ∗ (∃ d, owns (c : Thread nD τ) a7 fullShare d)
        ∗ owns (c : Thread nD τ) sG fullShare s0 ∗ owns (c : Thread nD τ) sU fullShare s1
        ∗ (iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
            ∗ owns (c : Thread nD τ) a7 fullShare k0_pay4
            ∗ owns (c : Thread nD τ) sG fullShare s0 ∗ owns (c : Thread nD τ) sU fullShare s1) -∗ K ⟨⟩))
      ⊢ wp frame (wpE (defs₀ (F := F)) Variants.none c none) Set.univ
          (cc0_moe_up i tE (Memref.isWhole_whole _) tN (Memref.isWhole_whole _) a4 h4 a5 h5 a6 h6 a7 h7 sG (Memref.isWhole_whole _) sU (Memref.isWhole_whole _)) K := by
  rw [cc0_moe_up_eq_skeleton]; unfold cc0_moe_up_skel
  iintro ⟨H0, H1, H2, HT0, HT1, ⟨%d3, HO3⟩, HS0, HS1, Hk⟩
  ihave H0 := rep_of_owns $$ H0
  ihave H1 := rep_of_owns $$ H1
  ihave H2 := rep_of_owns $$ H2
  ihave HO3 := rep_of_owns $$ HO3
  ihave HS0 := rep_of_owns $$ HS0
  ihave HS1 := rep_of_owns $$ HS1
  have hS0 : sG.IsWhole := Memref.isWhole_whole _
  have hS1 : sU.IsWhole := Memref.isWhole_whole _
  have hT0 : tE.IsWhole := Memref.isWhole_whole _
  have hT1 : tN.IsWhole := Memref.isWhole_whole _
  sl_exec! (disch := first | (guard_target = ¬(Scalar.cmpi = _); exact hn) | (guard_target = ¬(k0_cond2 _ _ = _); exact k0_h2) | (guard_target = k0_cond3 _ _ = _; exact k0_h3))
  sl_step
  iapply Hk
  isplitl [H0]; · iapply owns_of_rep; iexact H0
  isplitl [H1]; · iapply owns_of_rep; iexact H1
  isplitl [H2]; · iapply owns_of_rep; iexact H2
  isplitl [HT0]; · iexact HT0
  isplitl [HT1]; · iexact HT1
  isplitl [HO3]
  · unfold owns
    iexists _; isplitr; swap
    · iexact HO3
    · ipureintro
      exact View.read_writes_full _ _ _ _ _
  isplitl [HS0]
  · iapply owns_of_rep; iexact HS0
  iapply owns_of_rep; iexact HS1

/-- What the output holds after the body, of what the scratch buffers hold. -/
def outV (i : grid0.Coords) (N : S1.Idx → Elt F .i32) (x : S512x2048.Idx → Elt F .bf16) (s0 s1 : S2048x512.Idx → Elt F .bf16) : S512x512.Idx → Elt F .bf16 :=
  if k0_cond2 i (wUsed (F := F) N) = 1#1 then k0_pay3 x s0 s1 else k0_pay4

theorem cond3_iff (i : grid0.Coords) (v : BitVec 32) : k0_cond3 i v = 1#1 ↔ ¬ k0_cond2 i v = 1#1 := by
  unfold k0_cond3 k0_cond2
  simp only [Scalar.cmpi, IntOp.cmpi, BitVec.slt_eq_decide, BitVec.sle_eq_decide]
  by_cases hh : (BitVec.ofNat 32 (i 1).val).toInt < v.toInt
  · have h2 : ¬ v.toInt ≤ (BitVec.ofNat 32 (i 1).val).toInt := by omega
    simp [hh, h2, Scalar.extui]
  · have h2 : v.toInt ≤ (BitVec.ofNat 32 (i 1).val).toInt := by omega
    simp [hh, h2, Scalar.extui]

/-- The body at any point: when it meets no new expert, the scratch buffers hold the weight blocks already (`hold`); after it
    they hold them, and the output is of them. -/
theorem run_body (c : Dev nD) (i : grid0.Coords)
    (a4 : Memref sig .tc .vmem S512x2048 .bf16) (h4 : a4.IsWhole) (a5 : Memref sig .tc .vmem S1x2048x512 .f32) (h5 : a5.IsWhole)
    (a6 : Memref sig .tc .vmem S1x2048x512 .f32) (h6 : a6.IsWhole) (a7 : Memref sig .tc .vmem S512x512 .bf16) (h7 : a7.IsWhole)
    (T : S41.Idx → Elt F .i32) (N : S1.Idx → Elt F .i32)
    (x : S512x2048.Idx → Elt F .bf16) (g u : S1x2048x512.Idx → Elt F .f32) (s0 s1 : S2048x512.Idx → Elt F .bf16)
    (hold : ¬ IsNew i T → s0 = k0_pay1 g ∧ s1 = k0_pay2 u)
    (K : PUnit → sProp 𝕄) :
    iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
        ∗ (∃ d, owns (c : Thread nD τ) a7 fullShare d)
        ∗ owns (c : Thread nD τ) sG fullShare s0 ∗ owns (c : Thread nD τ) sU fullShare s1
        ∗ (iprop(owns (c : Thread nD τ) a4 fullShare x ∗ owns (c : Thread nD τ) a5 fullShare g ∗ owns (c : Thread nD τ) a6 fullShare u
        ∗ (tE.view.loc (c : Thread nD τ) ↦{fullShare.right} T) ∗ (tN.view.loc (c : Thread nD τ) ↦{fullShare.right} N)
            ∗ owns (c : Thread nD τ) a7 fullShare (outV i N x (k0_pay1 g) (k0_pay2 u))
            ∗ owns (c : Thread nD τ) sG fullShare (k0_pay1 g) ∗ owns (c : Thread nD τ) sU fullShare (k0_pay2 u)) -∗ K ⟨⟩))
      ⊢ wp frame (wpE (defs₀ (F := F)) Variants.none c none) Set.univ
          (cc0_moe_up i tE (Memref.isWhole_whole _) tN (Memref.isWhole_whole _) a4 h4 a5 h5 a6 h6 a7 h7 sG (Memref.isWhole_whole _) sU (Memref.isWhole_whole _)) K := by
  by_cases hn : IsNew i T <;> by_cases h2 : k0_cond2 i (wUsed (F := F) N) = 1#1
  · rw [outV, if_pos h2]
    exact run_new_used c i a4 h4 a5 h5 a6 h6 a7 h7 T N x g u s0 s1 hn h2 (fun h3 => (cond3_iff i _).1 h3 h2) K
  · rw [outV, if_neg h2]
    exact run_new_rest c i a4 h4 a5 h5 a6 h6 a7 h7 T N x g u s0 s1 hn h2 ((cond3_iff i _).2 h2) K
  · obtain ⟨rfl, rfl⟩ := hold hn
    rw [outV, if_pos h2]
    exact run_old_used c i a4 h4 a5 h5 a6 h6 a7 h7 T N x g u _ _ hn h2 (fun h3 => (cond3_iff i _).1 h3 h2) K
  · obtain ⟨rfl, rfl⟩ := hold hn
    rw [outV, if_neg h2]
    exact run_old_rest c i a4 h4 a5 h5 a6 h6 a7 h7 T N x g u _ _ hn h2 ((cond3_iff i _).2 h2) K

end Cert.MoeUpRun

end
-- ==== Proof.MoeUpFrame.lean ====
module

public import proofs.«01_k».proof.Defs
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.MoeUpRuns
public import Idealize.ShloMosaic.Lib.Pipeline.Kit
public import Idealize.ShloMosaic.Lib.Pipeline.Value
public import Idealize.ShloMosaic.Lib.Pipeline.FrameBody
public import Idealize.ShloMosaic.Lib.Pipeline.TableIdle
public import Idealize.ShloMosaic.Lib.Pipeline.Quiescent
public import Idealize.ShloMosaic.Lib.Pipeline.ValueKit
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-!
The pipeline of the experts' up call, for every pair of tables the routing can make: what each point leaves, and the run of the
whole call.
-/

@[expose] public section

set_option maxRecDepth 16384

noncomputable section
namespace Cert.MoeUpRun

open Cert.MoeUpIdeal Cert.MoeUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables the routing makes: experts below eight, at least one used tile. -/
def TabOK (T : S41.Idx → Elt F .i32) (N : S1.Idx → Elt F .i32) : Prop :=
  (∀ x, BitVec.toNat (T x) < 8) ∧ ∀ x, 1 ≤ BitVec.toNat (N x) ∧ BitVec.toNat (N x) < 2 ^ 31

/-- The tables as the pipeline takes them. -/
def pf (T : S41.Idx → Elt F .i32) (N : S1.Idx → Elt F .i32) : pre0.Contents (Elt F) :=
  fun | ⟨0, _⟩ => T | ⟨1, _⟩ => N | ⟨_ + 2, h⟩ => absurd h (by simp)

variable (T : S41.Idx → Elt F .i32) (N : S1.Idx → Elt F .i32)

theorem minsi_toNat (a n : BitVec 32) (ha : a.toNat < 41) (h1 : 1 ≤ n.toNat) (h2 : n.toNat < 2 ^ 31) :
    (Scalar.minsi a (Scalar.subi n 1#32)).toNat = min a.toNat (n.toNat - 1) := by
  have e : (Scalar.subi n 1#32).toNat = n.toNat - 1 := by
    show (n - 1#32).toNat = _
    rw [BitVec.toNat_sub]; simp; omega
  have ea : a.toInt = a.toNat := BitVec.toInt_eq_toNat_of_lt (by omega)
  have en : (Scalar.subi n 1#32).toInt = (Scalar.subi n 1#32).toNat := BitVec.toInt_eq_toNat_of_lt (by omega)
  simp only [Scalar.minsi, IntOp.minsi]
  split
  · rename_i h
    rw [BitVec.slt_iff_toInt_lt, ea, en] at h
    omega
  · rename_i h
    rw [BitVec.slt_iff_toInt_lt, ea, en] at h
    omega

theorem tix0 (i : grid0.Coords) : cc0_transform_0 (F := F) inb_S1_S1_0 numel1_S1 (pf T N) i
    = ![(Scalar.minsi (BitVec.ofNat 32 (i 1).val) (Scalar.subi (wUsed (F := F) N) 1#32)).toNat, 0] := rfl
theorem tix1 (i : grid0.Coords) : cc0_transform_1 (F := F) k0_off1_inb numel1_S1 (pf T N) i
    = ![BitVec.toNat (wHere (F := F) i T), 0, (BitVec.ofNat 32 (i 0).val).toNat] := rfl
theorem tix2 (i : grid0.Coords) : cc0_transform_2 (F := F) k0_off1_inb numel1_S1 (pf T N) i
    = ![BitVec.toNat (wHere (F := F) i T), 0, (BitVec.ofNat 32 (i 0).val).toNat] := rfl

theorem lt_i0 (i : grid0.Coords) : (i 0).val < 11 := (i 0).isLt
theorem lt_i1 (i : grid0.Coords) : (i 1).val < 41 := (i 1).isLt
theorem toNat_i0 (i : grid0.Coords) : (BitVec.ofNat 32 (i 0).val).toNat = (i 0).val := by
  rw [BitVec.toNat_ofNat]; exact Nat.mod_eq_of_lt (by have := lt_i0 i; omega)
theorem toNat_i1 (i : grid0.Coords) : (BitVec.ofNat 32 (i 1).val).toNat = (i 1).val := by
  rw [BitVec.toNat_ofNat]; exact Nat.mod_eq_of_lt (by have := lt_i1 i; omega)

variable {T N}

theorem here_lt (h : TabOK T N) (i : grid0.Coords) : BitVec.toNat (wHere (F := F) i T) < 8 := h.1 _

theorem used_ok (h : TabOK T N) : 1 ≤ BitVec.toNat (wUsed (F := F) N) ∧ BitVec.toNat (wUsed (F := F) N) < 2 ^ 31 := h.2 _

theorem ok0_0 (h : TabOK T N) (i : grid0.Coords) : ∀ a, (cc0_transform_0 (F := F) inb_S1_S1_0 numel1_S1 (pf T N) i a + 1) * S512x2048.size a ≤ S20992x2048.size a := by
  rw [tix0, minsi_toNat _ _ (by rw [toNat_i1]; exact lt_i1 i) (used_ok h).1 (used_ok h).2, toNat_i1]
  have := lt_i1 i
  refine Fin.forall_fin_two.mpr ⟨?_, ?_⟩
  · show (min _ _ + 1) * 512 ≤ 20992
    omega
  · show (0 + 1) * 2048 ≤ 2048
    omega
theorem ok0_1 (h : TabOK T N) (i : grid0.Coords) : ∀ a, (cc0_transform_1 (F := F) k0_off1_inb numel1_S1 (pf T N) i a + 1) * S1x2048x512.size a ≤ S8x2048x5632.size a := by
  rw [tix1, toNat_i0]
  have h0 := lt_i0 i
  have h1 := here_lt h i
  intro a
  match a with
  | ⟨0, _⟩ => show (BitVec.toNat (wHere (F := F) i T) + 1) * 1 ≤ 8; omega
  | ⟨1, _⟩ => show (0 + 1) * 2048 ≤ 2048; omega
  | ⟨2, _⟩ => show ((i 0).val + 1) * 512 ≤ 5632; omega

theorem ok (h : TabOK T N) : ok0 (F := F) (pf T N) :=
  ⟨fun i => ⟨ok0_0 h i, .inr (Affine.block_words_dvd (s := S20992x2048) (p := EltTy.packing .bf16) (by decide) (by decide))⟩,
    fun i => ⟨ok0_1 h i, .inl rfl⟩, fun i => ⟨ok0_1 h i, .inl rfl⟩⟩

/-- The pipeline at the tables. -/
def adm (h : TabOK T N) : (pcfg0 (F := F)).Adm := ⟨pf T N, ok h⟩
abbrev cfgA (h : TabOK T N) : Pipeline.Cfg sig Λ₀ := cfg0 (F := F) (adm h)
abbrev pcs (h : TabOK T N) : Fin 1 → Pipeline.Cfg sig Λ₀ := Pipeline.pin (pcfgs (F := F)) fun _ => adm h

theorem idle_out (h : TabOK T N) (i : grid0.Coords) : (cfgA h).idle (3 : Fin 4) i = false := by
  show (!(k0_cond2 i ((pf T N).atD 1 ![0]) == 1#1) && !(k0_cond3 i ((pf T N).atD 1 ![0]) == 1#1)) = false
  generalize (pf T N).atD 1 ![0] = v
  by_cases h2 : k0_cond2 i v = 1#1
  · simp [h2]
  · simp [(cond3_iff i v).2 h2]

/-! ## A point's coordinates, staging buffers and blocks -/

abbrev crd (h : TabOK T N) (t : Fin (cfgA h).N) : (cfgA h).grid.Coords := (cfgA h).grid.coords t
abbrev st0 (h : TabOK T N) (t : Fin (cfgA h).N) : Memref sig .tc .vmem S512x2048 .bf16 := spec0_0.stage ((cfgA h).slots t (0 : Fin 4))
abbrev hs0 (h : TabOK T N) (t : Fin (cfgA h).N) : (st0 h t).IsWhole := hstage0_0 (((cfgA h).slots t (0 : Fin 4)).cast nbuf0_0)
abbrev st1 (h : TabOK T N) (t : Fin (cfgA h).N) : Memref sig .tc .vmem S1x2048x512 .f32 := spec0_1.stage ((cfgA h).slots t (1 : Fin 4))
abbrev hs1 (h : TabOK T N) (t : Fin (cfgA h).N) : (st1 h t).IsWhole := hstage0_1 (((cfgA h).slots t (1 : Fin 4)).cast nbuf0_1)
abbrev st2 (h : TabOK T N) (t : Fin (cfgA h).N) : Memref sig .tc .vmem S1x2048x512 .f32 := spec0_2.stage ((cfgA h).slots t (2 : Fin 4))
abbrev hs2 (h : TabOK T N) (t : Fin (cfgA h).N) : (st2 h t).IsWhole := hstage0_2 (((cfgA h).slots t (2 : Fin 4)).cast nbuf0_2)
abbrev st3 (h : TabOK T N) (t : Fin (cfgA h).N) : Memref sig .tc .vmem S512x512 .bf16 := spec0_3.stage ((cfgA h).slots t (3 : Fin 4))
abbrev hs3 (h : TabOK T N) (t : Fin (cfgA h).N) : (st3 h t).IsWhole := hstage0_3 (((cfgA h).slots t (3 : Fin 4)).cast nbuf0_3)

variable (h : TabOK T N) (m : (ℓ : Loc nD τ sig) → Buf (Elt F) ℓ) (ρ : Dev nD → PrngReg)

/-- Window `w`'s block at point `t`, read off its array at launch. -/
def iblk (c : Dev nD) (w : Fin (cfgA h).W) (t : Fin (cfgA h).N) : (((cfgA h).win w).xblock (crd h t)).Idx → Elt F ((cfgA h).win w).elt :=
  (((cfgA h).win w).blk t).view.read (Elt F) (m (((cfgA h).win w).arr.view.loc (c : Thread nD τ)))

abbrev xB (c : Dev nD) (t : Fin (cfgA h).N) : S512x2048.Idx → Elt F .bf16 := iblk h m c (0 : Fin 4) t
abbrev gB (c : Dev nD) (t : Fin (cfgA h).N) : S1x2048x512.Idx → Elt F .f32 := iblk h m c (1 : Fin 4) t
abbrev uB (c : Dev nD) (t : Fin (cfgA h).N) : S1x2048x512.Idx → Elt F .f32 := iblk h m c (2 : Fin 4) t

/-- What the output's buffer holds after point `t`. -/
def outB (c : Dev nD) (t : Fin (cfgA h).N) : S512x512.Idx → Elt F .bf16 :=
  outV (crd h t) N (xB h m c t) (k0_pay1 (gB h m c t)) (k0_pay2 (uB h m c t))

/-- The point before. -/
def pr (t : Fin (cfgA h).N) : Fin (cfgA h).N := ⟨t.val - 1, lt_of_le_of_lt (Nat.sub_le _ _) t.isLt⟩

theorem pr_succ (t : Fin (cfgA h).N) (ht : t.val ≠ 0) : t.castSucc.val = (pr h t).val + 1 := by
  unfold pr
  rw [Fin.val_castSucc]
  exact (Nat.sub_add_cancel (Nat.pos_of_ne_zero ht)).symm

theorem eq_of_succ (t n : Fin (cfgA h).N) (hn : t.succ.val = n.val + 1) : n = t := by
  rw [Fin.val_succ] at hn
  exact Fin.ext (Nat.succ.inj hn).symm

/-! ## A tile of the expert before keeps its weight blocks -/

theorem coords_val : ∀ t : Fin grid0.N, (grid0.coords t 0).val = t.val / 41 ∧ (grid0.coords t 1).val = t.val % 41 := by
  decide +kernel

theorem off1_eq (i : grid0.Coords) : k0_off1 i = ![(i 1).val] := by
  show ![(BitVec.ofNat 32 (i 1).val).toNat] = _
  rw [toNat_i1]

theorem off2_eq (i : grid0.Coords) : k0_off2 i = ![(i 1).val - 1] := by
  have h1 := lt_i1 i
  have hs : (Scalar.maxsi (Scalar.subi (BitVec.ofNat 32 (i 1).val) 1#32) 0#32).toNat = (i 1).val - 1 := by
    generalize (i 1).val = n at h1
    revert n
    decide +kernel
  show ![(Scalar.maxsi (Scalar.subi (BitVec.ofNat 32 (i 1).val) 1#32) 0#32).toNat] = _
  rw [hs]

theorem readAt_congr_off (o o' : Fin 1 → ℕ) (e : o = o') (hi hi') :
    View.readAt (Elt F) tE.view (Rect.unit (s := S41) o S1.size hi).toLoadRect T (Shape.Idx.first (numel1_S1.symm ▸ Nat.one_pos))
      = View.readAt (Elt F) tE.view (Rect.unit (s := S41) o' S1.size hi').toLoadRect T (Shape.Idx.first (numel1_S1.symm ▸ Nat.one_pos)) := by
  subst e; rfl

omit [FloatOps F] in
theorem not_new {a b : BitVec 32} {i : ℕ} (hn : ¬ Scalar.cmpi .ne (Scalar.extui (Scalar.ori (Scalar.cmpi .eq (BitVec.ofNat 32 i) 0#32)
    (Scalar.cmpi .ne a b))) (0#32) = 1#1) : BitVec.ofNat 32 i ≠ 0#32 ∧ a = b := by
  constructor
  · intro hi
    refine hn ?_
    rw [hi]
    generalize (Scalar.cmpi .ne a b) = z
    revert z; decide
  · by_contra hab
    refine hn ?_
    have e : Scalar.cmpi .ne a b = 1#1 := by
      show BitVec.ofBool (a != b) = 1#1
      rw [bne_iff_ne.2 hab]; rfl
    rw [e]
    generalize Scalar.cmpi .eq (BitVec.ofNat 32 i) 0#32 = z
    revert z; decide

/-- At a point that meets no new expert there is a point before, and both windows of weights stand where they stood there. -/
theorem old_index (t : Fin (cfgA h).N) (hn : ¬ IsNew (crd h t) T) : t.val ≠ 0 ∧
    cc0_transform_1 (F := F) k0_off1_inb numel1_S1 (pf T N) (crd h t)
      = cc0_transform_1 (F := F) k0_off1_inb numel1_S1 (pf T N) (crd h (pr h t)) := by
  obtain ⟨hi, hw⟩ := not_new hn
  have c0 := coords_val t
  have h0 : (crd h t 1).val ≠ 0 := fun e => hi (by rw [e])
  have e1 : (crd h t 1).val = t.val % 41 := c0.2
  have hm : t.val % 41 ≠ 0 := fun e => h0 (e1.trans e)
  have ht : t.val ≠ 0 := fun e => h0 (by rw [e1, e])
  refine ⟨ht, ?_⟩
  have c1 := coords_val (pr h t)
  have e2 : (crd h (pr h t) 1).val = (crd h t 1).val - 1 := by rw [e1]; refine c1.2.trans ?_; show (t.val - 1) % 41 = _; omega
  have e3 : (crd h (pr h t) 0).val = (crd h t 0).val := by refine c1.1.trans (Eq.trans ?_ c0.1.symm); show (t.val - 1) / 41 = _; omega
  rw [tix1, tix1, e3, hw]
  refine congrArg (fun z : BitVec 32 => ![z.toNat, 0, (BitVec.ofNat 32 (crd h t 0).val).toNat]) ?_
  refine readAt_congr_off _ _ ?_ _ _
  rw [off1_eq, off2_eq, e2]

theorem xB_apply (c : Dev nD) (t : Fin (cfgA h).N) (y : S512x2048.Idx) (k : S20992x2048.Idx)
    (hk : ∀ a, (k a).val = cc0_transform_0 (F := F) inb_S1_S1_0 numel1_S1 (pf T N) (crd h t) a * S512x2048.size a + (y a).val) :
    xB h m c t y = m ((c : Thread nD τ).loc main_arg2) k := by
  show m ((c : Thread nD τ).loc main_arg2) ((((cfgA h).win 0).rect t).emb y) = m ((c : Thread nD τ).loc main_arg2) k
  exact congrArg (m ((c : Thread nD τ).loc main_arg2)) (funext fun a => Fin.ext ((Pipeline.Window.rect_emb_val ((cfgA h).win 0) t y a).trans (hk a).symm))

theorem gB_apply (c : Dev nD) (t : Fin (cfgA h).N) (y : S1x2048x512.Idx) (k : S8x2048x5632.Idx)
    (hk : ∀ a, (k a).val = cc0_transform_1 (F := F) k0_off1_inb numel1_S1 (pf T N) (crd h t) a * S1x2048x512.size a + (y a).val) :
    gB h m c t y = m ((c : Thread nD τ).loc main_arg3) k := by
  show m ((c : Thread nD τ).loc main_arg3) ((((cfgA h).win 1).rect t).emb y) = m ((c : Thread nD τ).loc main_arg3) k
  exact congrArg (m ((c : Thread nD τ).loc main_arg3)) (funext fun a => Fin.ext ((Pipeline.Window.rect_emb_val ((cfgA h).win 1) t y a).trans (hk a).symm))

theorem gB_old (c : Dev nD) (t : Fin (cfgA h).N)
    (e : cc0_transform_1 (F := F) k0_off1_inb numel1_S1 (pf T N) (crd h t)
      = cc0_transform_1 (F := F) k0_off1_inb numel1_S1 (pf T N) (crd h (pr h t))) :
    gB h m c t = gB h m c (pr h t) := by
  funext y
  show m ((c : Thread nD τ).loc main_arg3) ((((cfgA h).win 1).rect t).emb y) = m ((c : Thread nD τ).loc main_arg3) ((((cfgA h).win 1).rect (pr h t)).emb y)
  exact congrArg (m ((c : Thread nD τ).loc main_arg3)) (funext fun a => Fin.ext ((Pipeline.Window.rect_emb_val ((cfgA h).win 1) t y a).trans
    (Eq.trans (congrArg (fun f : Fin 3 → ℕ => f a * S1x2048x512.size a + (y a).val) e) (Pipeline.Window.rect_emb_val ((cfgA h).win 1) (pr h t) y a).symm)))

theorem uB_apply (c : Dev nD) (t : Fin (cfgA h).N) (y : S1x2048x512.Idx) (k : S8x2048x5632.Idx)
    (hk : ∀ a, (k a).val = cc0_transform_1 (F := F) k0_off1_inb numel1_S1 (pf T N) (crd h t) a * S1x2048x512.size a + (y a).val) :
    uB h m c t y = m ((c : Thread nD τ).loc main_arg4) k := by
  show m ((c : Thread nD τ).loc main_arg4) ((((cfgA h).win 2).rect t).emb y) = m ((c : Thread nD τ).loc main_arg4) k
  exact congrArg (m ((c : Thread nD τ).loc main_arg4)) (funext fun a => Fin.ext ((Pipeline.Window.rect_emb_val ((cfgA h).win 2) t y a).trans (hk a).symm))

theorem uB_old (c : Dev nD) (t : Fin (cfgA h).N)
    (e : cc0_transform_1 (F := F) k0_off1_inb numel1_S1 (pf T N) (crd h t)
      = cc0_transform_1 (F := F) k0_off1_inb numel1_S1 (pf T N) (crd h (pr h t))) :
    uB h m c t = uB h m c (pr h t) := by
  funext y
  show m ((c : Thread nD τ).loc main_arg4) ((((cfgA h).win 2).rect t).emb y) = m ((c : Thread nD τ).loc main_arg4) ((((cfgA h).win 2).rect (pr h t)).emb y)
  exact congrArg (m ((c : Thread nD τ).loc main_arg4)) (funext fun a => Fin.ext ((Pipeline.Window.rect_emb_val ((cfgA h).win 2) t y a).trans
    (Eq.trans (congrArg (fun f : Fin 3 → ℕ => f a * S1x2048x512.size a + (y a).val) e) (Pipeline.Window.rect_emb_val ((cfgA h).win 2) (pr h t) y a).symm)))

/-! ## The pipeline's data -/

abbrev EP : Emb (UR sig nD τ) 𝕄 := emb₁

/-- Before position `t`: after any point, the scratch buffers hold the weight blocks of the point before; the body's halves of
    the tables. -/
def Phi (c : Dev nD) (t : Fin ((cfgA h).N + 1)) : sProp 𝕄 :=
  iprop((∃ s0 : S2048x512.Idx → Elt F .bf16, ∃ s1 : S2048x512.Idx → Elt F .bf16,
      ⌜∀ n : Fin (cfgA h).N, t.val = n.val + 1 → s0 = k0_pay1 (gB h m c n) ∧ s1 = k0_pay2 (uB h m c n)⌝
        ∗ owns (c : Thread nD τ) sG fullShare s0 ∗ owns (c : Thread nD τ) sU fullShare s1)
    ∗ (tE.view.loc (c : Thread nD τ) ↦{fullShare.right} T) ∗ (tN.view.loc (c : Thread nD τ) ↦{fullShare.right} N))

/-- The pipeline's data on core `c`. -/
def dats (_ : Fin 1) (c : Dev nD) : Dat τ (Elt F) Unit ℕ (UR sig nD τ) ℕ (cfgA h) c where
  A w := m (((cfgA h).win w).arr.view.loc (c : Thread nD τ))
  after w t := match w with
    | ⟨0, _⟩ => xB h m c t
    | ⟨1, _⟩ => gB h m c t
    | ⟨2, _⟩ => uB h m c t
    | ⟨3, _⟩ => outB h m c t
  Φ t := Phi h m c t
  q _ := fullShare
  owed _ := 0

theorem after0 (c : Dev nD) (t : Fin (cfgA h).N) : (dats h m 0 c).after (0 : Fin 4) t = xB h m c t := rfl
theorem after1 (c : Dev nD) (t : Fin (cfgA h).N) : (dats h m 0 c).after (1 : Fin 4) t = gB h m c t := rfl
theorem after2 (c : Dev nD) (t : Fin (cfgA h).N) : (dats h m 0 c).after (2 : Fin 4) t = uB h m c t := rfl
theorem after3 (c : Dev nD) (t : Fin (cfgA h).N) : (dats h m 0 c).after (3 : Fin 4) t = outB h m c t := rfl

theorem before0 (c : Dev nD) (t : Fin (cfgA h).N) (d) : (dats h m 0 c).before (0 : Fin 4) t d = xB h m c t :=
  ((dats h m 0 c).before_in_eq_fetched (0 : Fin 4) rfl (fun _ => rfl) (fun _ _ _ => rfl) (fun t => by rw [after0]; unfold Dat.blockOf; rfl) t d).trans
    (by unfold Dat.fetched Dat.blockOf; rfl)
theorem before1 (c : Dev nD) (t : Fin (cfgA h).N) (d) : (dats h m 0 c).before (1 : Fin 4) t d = gB h m c t :=
  ((dats h m 0 c).before_in_eq_fetched (1 : Fin 4) rfl (fun _ => rfl) (fun _ _ _ => rfl) (fun t => by rw [after1]; unfold Dat.blockOf; rfl) t d).trans
    (by unfold Dat.fetched Dat.blockOf; rfl)
theorem before2 (c : Dev nD) (t : Fin (cfgA h).N) (d) : (dats h m 0 c).before (2 : Fin 4) t d = uB h m c t :=
  ((dats h m 0 c).before_in_eq_fetched (2 : Fin 4) rfl (fun _ => rfl) (fun _ _ _ => rfl) (fun t => by rw [after2]; unfold Dat.blockOf; rfl) t d).trans
    (by unfold Dat.fetched Dat.blockOf; rfl)

/-! ## The body at a point -/

abbrev bodyAt (t : Fin (cfgA h).N) : Prog (TpuEff nD τ sig (Elt F) Λ₀ .tc) PUnit :=
  cc0_moe_up (crd h t) (Memref.whole main_arg0) (Memref.isWhole_whole _) (Memref.whole main_arg1) (Memref.isWhole_whole _) (st0 h t) (hs0 h t) (st1 h t) (hs1 h t) (st2 h t) (hs2 h t) (st3 h t) (hs3 h t) (Memref.whole cc0_scratch0) (Memref.isWhole_whole _) (Memref.whole cc0_scratch1) (Memref.isWhole_whole _)

set_option maxHeartbeats 1600000 in
/-- The body's obligation at point `t`. -/
theorem sound_body (c : Dev nD) (t : Fin (cfgA h).N) :
    iprop((dats h m 0 c).Φ t.castSucc ∗ (dats h m 0 c).owesAt () t.castSucc
        ∗ (∃ d, owns (c : Thread nD τ) (st0 h t) fullShare ((dats h m 0 c).before (0 : Fin 4) t d))
        ∗ (∃ d, owns (c : Thread nD τ) (st1 h t) fullShare ((dats h m 0 c).before (1 : Fin 4) t d))
        ∗ (∃ d, owns (c : Thread nD τ) (st2 h t) fullShare ((dats h m 0 c).before (2 : Fin 4) t d))
        ∗ (∃ d, owns (c : Thread nD τ) (st3 h t) fullShare ((dats h m 0 c).before (3 : Fin 4) t d)))
      ⊢ wp frame (wpE (defs₀ (F := F)) Variants.none c none) Set.univ (bodyAt h t) fun _ =>
          iprop((dats h m 0 c).Φ t.succ ∗ (dats h m 0 c).owesAt () t.succ
            ∗ bigSep Finset.univ fun w : Fin (cfgA h).W =>
                match (cfgA h).idle w ((cfgA h).grid.coords t) with
                | true =>
                  match ((cfgA h).win w).flush t with
                  | false => iprop(∃ d, owns (c : Thread nD τ) (((cfgA h).win w).stage ((cfgA h).slots t w)) fullShare ((dats h m 0 c).before w t d))
                  | true => owns (c : Thread nD τ) (((cfgA h).win w).stage ((cfgA h).slots t w)) fullShare ((dats h m 0 c).after w t)
                | false => owns (c : Thread nD τ) (((cfgA h).win w).stage ((cfgA h).slots t w)) fullShare ((dats h m 0 c).after w t)) := by
  rw [bigSep_W0]
  rewrite [idle_out h]
  simp only [before0, before1, before2, after0, after1, after2, after3]
  rewrite [show (dats h m 0 c).Φ t.succ = Phi h m c t.succ from rfl, show (dats h m 0 c).Φ t.castSucc = Phi h m c t.castSucc from rfl,
    show (dats h m 0 c).owesAt () t.succ = (dats h m 0 c).owesAt () t.castSucc from rfl]
  unfold Phi
  iintro ⟨⟨⟨%s0, %s1, %hs, HS0, HS1⟩, HT0, HT1⟩, Ho, ⟨%d0, H0⟩, ⟨%d1, H1⟩, ⟨%d2, H2⟩, ⟨%d3, H3⟩⟩
  have hold : ¬ IsNew (crd h t) T → s0 = k0_pay1 (gB h m c t) ∧ s1 = k0_pay2 (uB h m c t) := fun hn => by
    obtain ⟨ht, e⟩ := old_index h t hn
    have hp := hs (pr h t) (pr_succ h t ht)
    exact ⟨hp.1.trans (congrArg k0_pay1 (gB_old h m c t e).symm), hp.2.trans (congrArg k0_pay2 (uB_old h m c t e).symm)⟩
  iapply (run_body c (crd h t) (st0 h t) (hs0 h t) (st1 h t) (hs1 h t) (st2 h t) (hs2 h t) (st3 h t) (hs3 h t) T N (xB h m c t) (gB h m c t) (uB h m c t) s0 s1 hold _)
  isplitl [H0]; · iexact H0
  isplitl [H1]; · iexact H1
  isplitl [H2]; · iexact H2
  isplitl [HT0]; · iexact HT0
  isplitl [HT1]; · iexact HT1
  isplitl [H3]; · iexists _; iexact H3
  isplitl [HS0]; · iexact HS0
  isplitl [HS1]; · iexact HS1
  iintro ⟨H0, H1, H2, HT0, HT1, H3, HS0, HS1⟩
  isplitl [HS0 HS1 HT0 HT1]
  · isplitl [HS0 HS1]
    · iexists _; iexists _; isplitr; swap
      · isplitl [HS0]
        · iexact HS0
        · iexact HS1
      · ipureintro
        intro n hn
        obtain rfl := eq_of_succ h t n hn
        exact ⟨rfl, rfl⟩
    isplitl [HT0]
    · iexact HT0
    iexact HT1
  isplitl [Ho]; · iexact Ho
  isplitl [H0]; · iexact H0
  isplitl [H1]; · iexact H1
  isplitl [H2]; · iexact H2
  iexact H3

theorem body_obligation (c : Dev nD) : BodyObligation (dats h m 0 c) (defs₀ (F := F)) Variants.none () Set.univ := fun t => by
  rw [bigSep_W0]
  exact sound_body h m c t

/-! ## The launch -/

def u₀ : UR sig nD τ :=
  initOf (Pipeline.cells (pcs h) ((launch0 (F := F)).cellOf_inj fun _ => adm h))
    (Pipeline.launchToks (pcs h) ((launch0 (F := F)).cellOf_inj fun _ => adm h))

theorem share_eq (c : Dev nD) (w : Fin (cfgA h).W) : (dats h m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm h).1 ∗ Pipeline.scopedRest spec0 c) ⊢ (dats h m 0 c).Φ 0 := by
  rw [prefHeld_eq, scopedRest0_eq, show (dats h m 0 c).Φ 0 = Phi h m c 0 from rfl]
  unfold Phi
  iintro ⟨-, ⟨HT0, HT1⟩, ⟨%a0, HS0⟩, ⟨%a1, HS1⟩⟩
  isplitl [HS0 HS1]
  · iexists a0; iexists a1; isplitr; swap
    · isplitl [HS0]
      · rw [owns_whole_eq]; iexists a0; isplitr; swap
        · iexact HS0
        · ipureintro; rfl
      · rw [owns_whole_eq]; iexists a1; isplitr; swap
        · iexact HS1
        · ipureintro; rfl
    · ipureintro; intro n hn; exact absurd hn (by show ¬ (0 = n.val + 1); omega)
  isplitl [HT0]
  · iexact HT0
  iexact HT1

/-- A whole buffer held at any contents. -/
theorem scratch_back (c : Dev nD) (b : Ref sig .tc) (X : b.ty.Contents (Elt F)) :
    (owns (c : Thread nD τ) (Memref.whole b) fullShare X : sProp 𝕄) ⊢ iprop(∃ a : Buf (Elt F) ((c : Thread nD τ).loc b), ((c : Thread nD τ).loc b) ↦{fullShare} a) := by
  rw [owns_whole_eq]
  iintro ⟨%f, -, H⟩
  iexists f; iexact H

theorem phiN_exit (c : Dev nD) : (dats h m 0 c).Φ (Fin.last (cfgA h).N) ⊢ iprop(BI.emp ∗ Pipeline.scopedRest spec0 c) := by
  rw [scopedRest0_eq, show (dats h m 0 c).Φ (Fin.last (cfgA h).N) = Phi h m c (Fin.last _) from rfl]
  unfold Phi
  iintro ⟨⟨%s0, %s1, -, HS0, HS1⟩, -, -⟩
  isplitr; · iempintro
  isplitl [HS0]
  · iapply scratch_back; iexact HS0
  iapply scratch_back; iexact HS1

/-- The state after the run: every array at what the pipeline left, every table as it was. -/
def QC : PUnit × MemSt nD τ sig (Elt F) → Prop := fun r =>
  ∀ c : Dev nD, (∀ w : Fin (cfgA h).W, r.2.mem (((cfgA h).win w).arr.view.loc (c : Thread nD τ)) = (dats h m 0 c).arrAt w (cfgA h).N)
    ∧ ∀ j, r.2.mem ((c : Thread nD τ).loc (pre0.ref j)) = (adm h).1 j

/-- The launch memory holds these tables. -/
def Holds (T : S41.Idx → Elt F .i32) (N : S1.Idx → Elt F .i32) (m : (ℓ : Loc nD τ sig) → Buf (Elt F) ℓ) : Prop :=
  (∀ c : Dev nD, m ((c : Thread nD τ).loc main_arg0) = T) ∧ ∀ c : Dev nD, m ((c : Thread nD τ).loc main_arg1) = N

theorem V_pre (hp : Holds T N m) (c : Dev nD) (j : Fin 2) : m ((c : Thread nD τ).loc (pre0.ref j)) = (adm h).1 j := by
  fin_cases j
  · exact hp.1 c
  · exact hp.2 c

set_option backward.isDefEq.respectTransparency.types false in
set_option maxHeartbeats 1600000 in
/-- The run of the whole call. -/
theorem run_arrays (hp : Holds T N m) : θ_run (defs (F := F)) (onTc (τ := τ) (main (F := F))) ⟨m, fun _ => 0, ρ⟩ (fun r => QC h m r ∧ r.2.sem = fun _ => 0) :=
  Pipeline.θ_run_region_noSem_pf_quiescent pcfgs (fun _ => adm h) (dats h m) () ((launch0 (F := F)).cellOf_inj fun _ => adm h) (0 : Fin 1)
    (launch0 (F := F)).win.to₀ (launch0 (F := F)).pre EP defs₀ Variants.none m ρ main
    (hbody := fun c => (body_obligation h m c).loose) (hne := (launch0 (F := F)).block_pos)
    (harr := (launch0 (F := F)).arr_whole) (hstage := (launch0 (F := F)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m) 0 (launch0 (F := F)).win.arr_inj c (launch0 (F := F)).arr_whole
      (share_eq h m c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m)
    (hout := phiN_exit h m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output array after the run. -/
def outA (c : Dev nD) : S20992x5632.Idx → Elt F .bf16 := (dats h m 0 c).arrAt (3 : Fin 4) (cfgA h).N

/-- The run of the whole call, the arguments unchanged and the result named. -/
theorem run_main (hp : Holds T N m) :
    θ_run (defs (F := F)) (onTc (τ := τ) (main (F := F))) ⟨m, fun _ => 0, ρ⟩ (fun r => (∀ c : Dev nD,
      r.2.mem ((c.tc : Thread nD τ).loc main_v0) = outA h m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨(hr.1 c).1 (3 : Fin 4), ((hr.1 c).2 0).trans (hp.1 c).symm, ((hr.1 c).2 1).trans (hp.2 c).symm,
    ((hr.1 c).1 (0 : Fin 4)).trans ((dats h m 0 c).arrAt_in (0 : Fin 4) rfl _), ((hr.1 c).1 (1 : Fin 4)).trans ((dats h m 0 c).arrAt_in (1 : Fin 4) rfl _),
    ((hr.1 c).1 (2 : Fin 4)).trans ((dats h m 0 c).arrAt_in (2 : Fin 4) rfl _)⟩, hr.2⟩) (run_arrays h m ρ hp)

end Cert.MoeUpRun

end
-- ==== Proof.MoeUpRef.lean ====
module

public import proofs.«01_k».proof.Defs
public import proofs.«01_k».proof.Proof.Gen.RefUpIdeal
public import proofs.«01_k».proof.Proof.Gen.RefUpIdeal.Run
public import Idealize.ShloMosaic.Lib.Pointwise
public import Idealize.ShloMosaic.Lib.StableHlo.Predicate

/-!
The first expert product: what it is at a row and a column, and the reference's result in those terms. The reference computes
every expert's product for every row and keeps the product of the row's own expert.
-/

@[expose] public section

set_option maxRecDepth 16384

noncomputable section
namespace Cert.MoeUpSpec

open Idealize.ShloMosaic Idealize.ShloMosaic.TcCoe Idealize.ShloMosaic.StableHlo Idealize.SL.Sem

/-- The gated product: silu of the gate times the other projection. -/
def glu (a b : EReal) : EReal := (a * Ideal.div 1 (1 + Ideal.exp (-a))) * b

/-- The tile of a row. -/
def tile (R : Fin 20992) : Fin 41 := ⟨R.val / 512, by omega⟩

/-- The expert of a row, by its tile. -/
def expert (T : (⟨1, ![41]⟩ : Shape).Idx → BitVec 32) (R : Fin 20992) : Fin 8 := ⟨(T (ix1 (tile R))).toNat % 8, Nat.mod_lt _ (by decide)⟩

/-- The product at row `R` and column `f`: a row of a tile in use is multiplied by its expert's two weights, the other rows are
    zero. -/
def at_ (T : (⟨1, ![41]⟩ : Shape).Idx → BitVec 32) (N : (⟨1, ![1]⟩ : Shape).Idx → BitVec 32) (x : (⟨2, ![20992, 2048]⟩ : Shape).Idx → EReal)
    (w u : (⟨3, ![8, 2048, 5632]⟩ : Shape).Idx → EReal) (R : Fin 20992) (f : Fin 5632) : EReal :=
  if (tile R).val < (N (ix1 0)).toNat then
    glu (∑ k : Fin 2048, x (ix2 R k) * w (ix3 (expert T R) k f)) (∑ k : Fin 2048, x (ix2 R k) * u (ix3 (expert T R) k f))
  else 0

/-! ## The reference -/

open Cert.RefUpIdeal Cert.RefUpIdeal.Gen Cert.RefUpIdeal.Value

/-- One expert's turn: rows of that expert take its product, the others keep what they had. -/
def turn (b : BitVec 32) (v7 : Vec Ideal S20992x1 .i32) (x : FVec Ideal S20992x2048 .f32) (w u : FVec Ideal S2048x5632 .f32)
    (prior : FVec Ideal S20992x5632 .f32) : FVec Ideal S20992x5632 .f32 :=
  select (broadcastInDim S20992x5632 ![0, 1] bcast_S20992x1_S20992x5632_0_1 (cmpi .eq v7 (broadcastInDim S20992x1 ![] bcast_S_S20992x1 (constantI S_ 32 b))))
    (mulf (mulf (Host.dotGeneral (φ₁ := .f32) (φ₂ := .f32) dot_S20992x2048_S2048x5632_S20992x5632_1_0_0_1_n_n none x w)
        (Host.divf (broadcastInDim S20992x5632 ![] bcast_S_S20992x5632 (constant S_ .f32 0x3F800000#32))
          (addf (broadcastInDim S20992x5632 ![] bcast_S_S20992x5632 (constant S_ .f32 0x3F800000#32))
            (Host.exp (Host.negf (Host.dotGeneral (φ₁ := .f32) (φ₂ := .f32) dot_S20992x2048_S2048x5632_S20992x5632_1_0_0_1_n_n none x w))))))
      (Host.dotGeneral (φ₁ := .f32) (φ₂ := .f32) dot_S20992x2048_S2048x5632_S20992x5632_1_0_0_1_n_n none x u))
    prior

theorem turn_at (b : BitVec 32) (v7 : Vec Ideal S20992x1 .i32) (x : FVec Ideal S20992x2048 .f32) (w u : FVec Ideal S2048x5632 .f32)
    (prior : FVec Ideal S20992x5632 .f32) (R : Fin 20992) (f : Fin 5632) :
    turn b v7 x w u prior (ix2 R f)
      = Scalar.select (Scalar.cmpi .eq (v7 (ix2 R 0)) b) (glu (∑ k : Fin 2048, x (ix2 R k) * w (ix2 k f)) (∑ k : Fin 2048, x (ix2 R k) * u (ix2 k f)))
          (prior (ix2 R f)) := by
  pointwise [turn, glu]
  try rfl

/-- An expert's weight. -/
def wOf (w : FVec Ideal S8x2048x5632 .f32) (e : Fin 8) (hs : S8x2048x5632.Slices ![e.val, 0, 0] S1x2048x5632) : FVec Ideal S2048x5632 .f32 :=
  shapeCast _ (extractStridedSlice S1x2048x5632 ![e.val, 0, 0] w hs) shapeCasts_S1x2048x5632_S2048x5632

theorem wOf_at (w : FVec Ideal S8x2048x5632 .f32) (e : Fin 8) (hs : S8x2048x5632.Slices ![e.val, 0, 0] S1x2048x5632) (k : Fin 2048) (f : Fin 5632) :
    wOf w e hs (ix2 k f) = w (ix3 e k f) := by
  pointwise [wOf]

/-- The expert of every row, minus one for a row of a tile not in use. -/
def rows (T : Vec Ideal S41 .i32) (N : Vec Ideal S1 .i32) : Vec Ideal S20992x1 .i32 :=
  shapeCast _ (broadcastInDim S41x512 ![0, 1] bcast_S41x1_S41x512_0_1 (broadcastInDim S41x1 ![0] bcast_S41_S41x1_0
    (select (cmpi .slt (iotaInDim S41 32 0) (broadcastInDim S41 ![0] bcast_S1_S41_0 N)) T
      (broadcastInDim S41 ![] bcast_S_S41 (id (constantI S_ 32 4294967295#32)))))) shapeCasts_S41x512_S20992x1

theorem rows_at (T : Vec Ideal S41 .i32) (N : Vec Ideal S1 .i32) (R : Fin 20992) :
    rows T N (ix2 R 0) = Scalar.select (Scalar.cmpi .slt (BitVec.ofNat 32 (tile R).val) (N (ix1 0))) (T (ix1 (tile R))) (4294967295#32) := by
  pointwise [rows, tile]
  rfl

/-- The reference's result, of its five arguments. -/
def value (T : Vec Ideal S41 .i32) (N : Vec Ideal S1 .i32) (x : FVec Ideal S20992x2048 .bf16) (w u : FVec Ideal S8x2048x5632 .f32) :
    FVec Ideal S20992x5632 .bf16 :=
  truncf .bf16 (turn 7#32 (rows T N) (extf .f32 x bitsLt_bf16_f32) (wOf w 7 slices_S8x2048x5632_S1x2048x5632_7_0_0) (wOf u 7 slices_S8x2048x5632_S1x2048x5632_7_0_0)
    (turn 6#32 (rows T N) (extf .f32 x bitsLt_bf16_f32) (wOf w 6 slices_S8x2048x5632_S1x2048x5632_6_0_0) (wOf u 6 slices_S8x2048x5632_S1x2048x5632_6_0_0)
    (turn 5#32 (rows T N) (extf .f32 x bitsLt_bf16_f32) (wOf w 5 slices_S8x2048x5632_S1x2048x5632_5_0_0) (wOf u 5 slices_S8x2048x5632_S1x2048x5632_5_0_0)
    (turn 4#32 (rows T N) (extf .f32 x bitsLt_bf16_f32) (wOf w 4 slices_S8x2048x5632_S1x2048x5632_4_0_0) (wOf u 4 slices_S8x2048x5632_S1x2048x5632_4_0_0)
    (turn 3#32 (rows T N) (extf .f32 x bitsLt_bf16_f32) (wOf w 3 slices_S8x2048x5632_S1x2048x5632_3_0_0) (wOf u 3 slices_S8x2048x5632_S1x2048x5632_3_0_0)
    (turn 2#32 (rows T N) (extf .f32 x bitsLt_bf16_f32) (wOf w 2 slices_S8x2048x5632_S1x2048x5632_2_0_0) (wOf u 2 slices_S8x2048x5632_S1x2048x5632_2_0_0)
    (turn 1#32 (rows T N) (extf .f32 x bitsLt_bf16_f32) (wOf w 1 slices_S8x2048x5632_S1x2048x5632_1_0_0) (wOf u 1 slices_S8x2048x5632_S1x2048x5632_1_0_0)
    (turn 0#32 (rows T N) (extf .f32 x bitsLt_bf16_f32) (wOf w 0 slices_S8x2048x5632_S1x2048x5632_0_0_0) (wOf u 0 slices_S8x2048x5632_S1x2048x5632_0_0_0)
      (broadcastInDim S20992x5632 ![] bcast_S_S20992x5632 (constant S_ .f32 0x00000000#32)))))))))) bitsLt_bf16_f32

theorem used_iff (N : BitVec 32) (hN : N.toNat < 2 ^ 31) (j : Fin 41) :
    Scalar.cmpi .slt (BitVec.ofNat 32 j.val) N = BitVec.ofBool (decide (j.val < N.toNat)) := by
  have hj : (BitVec.ofNat 32 j.val).toNat = j.val := by rw [BitVec.toNat_ofNat]; exact Nat.mod_eq_of_lt (by omega)
  show BitVec.ofBool (BitVec.slt _ _) = _
  rw [BitVec.slt_eq_decide, BitVec.toInt_eq_toNat_of_lt (by rw [hj]; omega), BitVec.toInt_eq_toNat_of_lt (by omega), hj]
  simp only [Nat.cast_lt]

/-- The ladder of the eight turns picks the expert's product, or nothing on a row of a tile not in use. -/
theorem ladder (g : Fin 8 → EReal) (v : BitVec 32) (z : EReal) (p : Prop) [Decidable p] (e : Fin 8)
    (hv : v = if p then BitVec.ofNat 32 e.val else 4294967295#32) :
    Scalar.select (Scalar.cmpi .eq v 7#32) (g 7) (Scalar.select (Scalar.cmpi .eq v 6#32) (g 6) (Scalar.select (Scalar.cmpi .eq v 5#32) (g 5)
      (Scalar.select (Scalar.cmpi .eq v 4#32) (g 4) (Scalar.select (Scalar.cmpi .eq v 3#32) (g 3) (Scalar.select (Scalar.cmpi .eq v 2#32) (g 2)
        (Scalar.select (Scalar.cmpi .eq v 1#32) (g 1) (Scalar.select (Scalar.cmpi .eq v 0#32) (g 0) z)))))))
      = if p then g e else z := by
  by_cases hp : p
  · rw [if_pos hp] at hv ⊢
    subst hv
    match e with
    | 0 => rfl
    | 1 => rfl
    | 2 => rfl
    | 3 => rfl
    | 4 => rfl
    | 5 => rfl
    | 6 => rfl
    | 7 => rfl
  · rw [if_neg hp] at hv ⊢
    subst hv
    rfl

theorem value_at (T : Vec Ideal S41 .i32) (N : Vec Ideal S1 .i32) (x : FVec Ideal S20992x2048 .bf16) (w u : FVec Ideal S8x2048x5632 .f32)
    (hT : ∀ y, BitVec.toNat (T y) < 8) (hN : ∀ y, BitVec.toNat (N y) < 2 ^ 31) (R : Fin 20992) (f : Fin 5632) :
    value T N x w u (ix2 R f) = at_ T N x w u R f := by
  have hv : rows T N (ix2 R 0) = if (tile R).val < (N (ix1 0)).toNat then BitVec.ofNat 32 (expert T R).val else 4294967295#32 := by
    rw [rows_at, used_iff _ (hN _)]
    have hx : T (ix1 (tile R)) = BitVec.ofNat 32 (expert T R).val := by
      apply BitVec.eq_of_toNat_eq
      have := hT (ix1 (tile R))
      rw [BitVec.toNat_ofNat]
      show _ = (T (ix1 (tile R))).toNat % 8 % _
      rw [Nat.mod_eq_of_lt this, Nat.mod_eq_of_lt (by omega)]
    rw [hx]
    by_cases hp : (tile R).val < (N (ix1 0)).toNat
    · rw [if_pos hp, decide_eq_true hp]; rfl
    · rw [if_neg hp, decide_eq_false hp]; rfl
  refine Eq.trans ?_ (ladder (fun e => glu (∑ k : Fin 2048, x (ix2 R k) * w (ix3 e k f)) (∑ k : Fin 2048, x (ix2 R k) * u (ix3 e k f)))
    (rows T N (ix2 R 0)) 0 _ (expert T R) hv)
  unfold value
  rw [show ∀ v : FVec Ideal S20992x5632 .f32, truncf .bf16 v bitsLt_bf16_f32 (ix2 R f) = v (ix2 R f) from fun _ => rfl]
  simp only [turn_at, wOf_at]
  pointwise

end Cert.MoeUpSpec
end
-- ==== Proof.MoeUpValue.lean ====
module

public import proofs.«01_k».proof.Proof.MoeUpFrame
public import proofs.«01_k».proof.Proof.MoeUpRef
public import Idealize.ShloMosaic.Lib.Pointwise
public import Idealize.ShloMosaic.Lib.StableHlo.Predicate

/-!
The value of the experts' up call on the reals: after the run the output holds, at every row and column, the gated product of
that row with its expert's weights, and zero on the rows of the tiles not in use.
-/

@[expose] public section

set_option maxRecDepth 16384

noncomputable section
namespace Cert.MoeUpRun

open Cert.MoeUpIdeal Cert.MoeUpIdeal.Gen
open Idealize.ShloMosaic Idealize.ShloMosaic.TcCoe Idealize.SL.Sem
open Idealize.ShloMosaic.Pipeline (Dat Cfg Window)
open Cert.MoeUpSpec (glu tile expert at_)

/-! ## The payloads at an index -/

theorem pay1_at (g : Vec Ideal S1x2048x512 .f32) (k : Fin 2048) (q : Fin 512) : k0_pay1 g (ix2 k q) = g (ix3 0 k q) := by
  pointwise [k0_pay1]

theorem pay2_at (g : Vec Ideal S1x2048x512 .f32) (k : Fin 2048) (q : Fin 512) : k0_pay2 g (ix2 k q) = g (ix3 0 k q) := by
  pointwise [k0_pay2]

theorem pay3_at (x : Vec Ideal S512x2048 .bf16) (w u : Vec Ideal S2048x512 .bf16) (r q : Fin 512) :
    k0_pay3 x w u (ix2 r q) = glu (∑ k : Fin 2048, x (ix2 r k) * w (ix2 k q)) (∑ k : Fin 2048, x (ix2 r k) * u (ix2 k q)) := by
  pointwise [k0_pay3, glu]
  simp only [zero_add, zero_sub]

theorem pay4_at (r q : Fin 512) : k0_pay4 (F := Ideal) (ix2 r q) = 0 := by
  pointwise [k0_pay4]

/-! ## The words of the tables at a point -/

section
variable {F : FTy → Type} [FloatOps F]
variable {T : S41.Idx → Elt F .i32} {N : S1.Idx → Elt F .i32}

theorem used_eq : wUsed (F := F) N = N (ix1 0) := by
  show N _ = N _
  exact congrArg N (funext fun a => Fin.ext (by
    match a with
    | ⟨0, _⟩ => rfl))

theorem here_eq (i : grid0.Coords) : wHere (F := F) i T = T (ix1 (⟨(i 1).val, lt_i1 i⟩ : Fin 41)) := by
  show T _ = T _
  refine congrArg T (funext fun a => Fin.ext ?_)
  have e := off1_eq i
  match a with
  | ⟨0, _⟩ =>
    show (k0_off1 i) 0 + 1 * 0 = (i 1).val
    rw [e]; rfl

theorem cond2_iff (i : grid0.Coords) (n : BitVec 32) (hn : n.toNat < 2 ^ 31) : k0_cond2 i n = 1#1 ↔ (i 1).val < n.toNat := by
  have h1 := lt_i1 i
  have ei : (BitVec.ofNat 32 (i 1).val).toInt = (i 1).val := by
    rw [BitVec.toInt_eq_toNat_of_lt (by rw [toNat_i1]; omega), toNat_i1]
  have en : n.toInt = n.toNat := BitVec.toInt_eq_toNat_of_lt (by omega)
  unfold k0_cond2
  simp only [Scalar.cmpi, IntOp.cmpi, BitVec.slt_eq_decide, ei, en]
  by_cases hh : (i 1).val < n.toNat
  · simp [hh, Scalar.extui]
  · simp [hh, Scalar.extui]

end

/-! ## The output -/

variable {T : S41.Idx → Elt Ideal .i32} {N : S1.Idx → Elt Ideal .i32} (h : TabOK (F := Ideal) T N)
variable (m : (ℓ : Loc nD τ sig) → Buf (Elt Ideal) ℓ) (ρ : Dev nD → PrngReg)

/-- The output array of the run. -/
def G (T : S41.Idx → Elt Ideal .i32) (N : S1.Idx → Elt Ideal .i32) (c : Dev nD) : S20992x5632.Idx → Elt Ideal .bf16 := fun i =>
  at_ T N (m ((c.tc : Thread nD τ).loc main_arg2)) (m ((c.tc : Thread nD τ).loc main_arg3)) (m ((c.tc : Thread nD τ).loc main_arg4)) (i 0) (i 1)

include h in
theorem outB_at (c : Dev nD) (t : Fin (cfgA h).N) (r q : Fin 512) (R : Fin 20992) (f : Fin 5632)
    (hR : R.val = t.val % 41 * 512 + r.val) (hf : f.val = t.val / 41 * 512 + q.val) :
    outB h m c t (ix2 r q) = at_ T N (m ((c.tc : Thread nD τ).loc main_arg2)) (m ((c.tc : Thread nD τ).loc main_arg3))
      (m ((c.tc : Thread nD τ).loc main_arg4)) R f := by
  have c0 := coords_val t
  have e0 : (crd h t 0).val = t.val / 41 := c0.1
  have e1 : (crd h t 1).val = t.val % 41 := c0.2
  have hm : t.val % 41 < 41 := Nat.mod_lt _ (by decide)
  have ht : (tile R).val = (crd h t 1).val := by rw [e1]; show R.val / 512 = _; omega
  have hu := used_ok h
  have hb := cond2_iff (crd h t) (wUsed (F := Ideal) N) hu.2
  rw [used_eq] at hu
  unfold outB outV at_
  by_cases hp : (tile R).val < BitVec.toNat (N (ix1 0))
  · rw [if_pos hp, if_pos (hb.2 (by rw [used_eq, ← ht]; exact hp)), pay3_at]
    have hw : BitVec.toNat (wHere (F := Ideal) (crd h t) T) = (expert T R).val := by
      rw [here_eq]
      have hx := h.1 (ix1 (tile R))
      show _ = BitVec.toNat (T (ix1 (tile R))) % 8
      rw [Nat.mod_eq_of_lt hx]
      exact congrArg (fun z => BitVec.toNat (T (ix1 z))) (Fin.ext ht.symm)
    have hx : ∀ k : Fin 2048, xB h m c t (ix2 r k) = m ((c.tc : Thread nD τ).loc main_arg2) (ix2 R k) := fun k => by
      refine xB_apply h m c t _ _ fun a => ?_
      rw [tix0, used_eq, minsi_toNat _ _ (by rw [toNat_i1]; exact lt_i1 _) hu.1 hu.2, toNat_i1, e1]
      match a with
      | ⟨0, _⟩ => show R.val = min (t.val % 41) _ * 512 + r.val; omega
      | ⟨1, _⟩ => show k.val = 0 * 2048 + k.val; omega
    have hi : ∀ (k : Fin 2048) (a : Fin 3), ((ix3 (expert T R) k f : S8x2048x5632.Idx) a).val
        = cc0_transform_1 (F := Ideal) k0_off1_inb numel1_S1 (pf T N) (crd h t) a * S1x2048x512.size a + ((ix3 0 k q : S1x2048x512.Idx) a).val := fun k a => by
      rw [tix1, hw, toNat_i0, e0]
      match a with
      | ⟨0, _⟩ => show (expert T R).val = (expert T R).val * 1 + 0; omega
      | ⟨1, _⟩ => show k.val = 0 * 2048 + k.val; omega
      | ⟨2, _⟩ => show f.val = t.val / 41 * 512 + q.val; omega
    refine congrArg₂ glu (Finset.sum_congr rfl fun k _ => ?_) (Finset.sum_congr rfl fun k _ => ?_)
    · exact Ideal.mul_congr (hx k) ((pay1_at _ k q).trans (gB_apply h m c t _ _ (hi k)))
    · exact Ideal.mul_congr (hx k) ((pay2_at _ k q).trans (uB_apply h m c t _ _ (hi k)))
  · rw [if_neg hp, if_neg (fun hc => hp (by have := hb.1 hc; rw [used_eq, ← ht] at this; exact this)), pay4_at]

theorem flush_out_all (t : Fin (cfgA h).N) : ((cfgA h).win (3 : Fin 4)).flush t = true :=
  (Pipeline.Window.flush_reads ((cfgA h).win (3 : Fin 4)) rfl (1 : Fin 2) (show 1 < grid0.bound 1 by decide) (by rfl)
    (Pipeline.Window.sep_of_coord cc0_transform_3 1 0 (fun _ => rfl) (by decide)) (P := 1) (m := 0) (show grid0.stride 1 = 1 by decide) rfl t).mpr (Nat.mod_one _)

theorem out_index (t : Fin (cfgA h).N) : ((cfgA h).win (3 : Fin 4)).index t = ![t.val % 41, t.val / 41] := by
  have c0 := coords_val t
  show ![(BitVec.ofNat 32 (crd h t 1).val).toNat, (BitVec.ofNat 32 (crd h t 0).val).toNat] = _
  rw [toNat_i0, toNat_i1]
  exact congrArg₂ (fun a b : ℕ => ![a, b]) c0.2 c0.1

/-- The output's blocks cover the array. -/
theorem out_cover (i : S20992x5632.Idx) : ∃ t : Fin (cfgA h).N, ((cfgA h).win (3 : Fin 4)).flush t = true
    ∧ i ∈ (((cfgA h).win (3 : Fin 4)).blk t).view.set := by
  have h0 : (i 0).val < 20992 := (i 0).isLt
  have h1 : (i 1).val < 5632 := (i 1).isLt
  have hN : (cfgA h).N = 451 := by show grid0.N = 451; decide +kernel
  let t : Fin (cfgA h).N := ⟨(i 1).val / 512 * 41 + (i 0).val / 512, by rw [hN]; omega⟩
  refine ⟨t, flush_out_all h t, ?_⟩
  refine (Pipeline.Window.emb_mem_blk_iff ((cfgA h).win (3 : Fin 4)) t i rfl).mpr fun a => ?_
  rw [out_index]
  match a with
  | ⟨0, _⟩ =>
    show ((i 1).val / 512 * 41 + (i 0).val / 512) % 41 * 512 ≤ (i 0).val ∧ (i 0).val < ((i 1).val / 512 * 41 + (i 0).val / 512) % 41 * 512 + 512
    omega
  | ⟨1, _⟩ =>
    show ((i 1).val / 512 * 41 + (i 0).val / 512) / 41 * 512 ≤ (i 1).val ∧ (i 1).val < ((i 1).val / 512 * 41 + (i 0).val / 512) / 41 * 512 + 512
    omega

theorem outA_eq (c : Dev nD) : outA h m c = G m T N c := by
  refine (dats h m 0 c).arrAt_eq_of_emb (3 : Fin 4) (G m T N c) (fun t _ y => ?_) (out_cover h)
  show outB h m c t y = G m T N c ((((cfgA h).win (3 : Fin 4)).rect t).emb y)
  have hy : (y : S512x512.Idx) = ix2 (y 0) (y 1) := by
    funext a
    match a with
    | ⟨0, _⟩ => rfl
    | ⟨1, _⟩ => rfl
  have ev := fun a => Pipeline.Window.rect_emb_val ((cfgA h).win (3 : Fin 4)) t y a
  refine (congrArg (outB h m c t) hy).trans (outB_at h m c t (y 0) (y 1) _ _ ((ev 0).trans ?_) ((ev 1).trans ?_))
  · show ((cfgA h).win (3 : Fin 4)).index t 0 * 512 + _ = _
    rw [out_index]; rfl
  · show ((cfgA h).win (3 : Fin 4)).index t 1 * 512 + _ = _
    rw [out_index]; rfl

end Cert.MoeUpRun
end
-- ==== Proof.MoeUpClaim.lean ====
module

public import proofs.«01_k».proof.Defs
public import proofs.«01_k».proof.Proof.Gen.MoeUp
public import proofs.«01_k».proof.Proof.Gen.Pre_tables_up
public import proofs.«01_k».proof.Proof.MoeUpValue

/-!
The claims of the experts' up call: both frames from the one run, the reference's frame, and the value.
-/

@[expose] public section

set_option maxRecDepth 16384

noncomputable section
namespace Cert.Proof

open Idealize.ShloMosaic Idealize.ShloMosaic.TcCoe Idealize.SL.Sem

theorem word_lt (v : BitVec 32) (h1 : (0#32).sle v = true) (h2 : v.slt 8#32 = true) : v.toNat < 8 := by
  rw [BitVec.sle_eq_decide, decide_eq_true_eq] at h1
  rw [BitVec.slt_eq_decide, decide_eq_true_eq] at h2
  have h0 : (0#32).toInt = 0 := rfl
  have h8 : (8#32).toInt = 8 := rfl
  rw [h0, BitVec.toInt_eq_toNat_cond] at h1
  rw [h8, BitVec.toInt_eq_toNat_cond] at h2
  have := v.isLt
  split at h1 <;> split at h2 <;> omega

theorem word_pos (v : BitVec 32) (h1 : (1#32).sle v = true) : 1 ≤ v.toNat ∧ v.toNat < 2 ^ 31 := by
  rw [BitVec.sle_eq_decide, decide_eq_true_eq] at h1
  have h0 : (1#32).toInt = 1 := rfl
  rw [h0, BitVec.toInt_eq_toNat_cond] at h1
  have := v.isLt
  split at h1 <;> omega

section
variable {F : FTy → Type} [FloatOps F]

/-- What the precondition says of the two tables. -/
theorem up_tables (T : (⟨1, ![41]⟩ : Shape).Idx → BitVec 32) (N : (⟨1, ![1]⟩ : Shape).Idx → BitVec 32) (x w u)
    (h : Cert.Pre_tables_up.fn (F := F) T N x w u = fun _ => 1#1) : Cert.MoeUpRun.TabOK (F := F) T N := by
  have e : ∀ j : Fin 41, ((0#32).sle (T (ix1 j)) = true ∧ (T (ix1 j)).slt 8#32 = true) ∧ (1#32).sle (N (ix1 0)) = true := fun j => by
    have hj := congrFun h (ix1 j)
    have hj' : Scalar.andi (Scalar.andi (BitVec.ofBool ((0#32).sle (T (ix1 j)))) (BitVec.ofBool ((T (ix1 j)).slt 8#32))) (BitVec.ofBool ((1#32).sle (N (ix1 0)))) = 1#1 := by
      refine Eq.trans ?_ hj
      pointwise [Cert.Pre_tables_up.fn]
      rfl
    generalize (0#32).sle (T (ix1 j)) = a at hj' ⊢
    generalize (T (ix1 j)).slt 8#32 = b at hj' ⊢
    generalize (1#32).sle (N (ix1 0)) = d at hj' ⊢
    revert hj'; revert a b d; decide
  have ix : ∀ y : (⟨1, ![41]⟩ : Shape).Idx, y = ix1 (y 0) := fun y => eq_ix1 y
  have iy : ∀ y : (⟨1, ![1]⟩ : Shape).Idx, y = ix1 0 := fun y => (eq_ix1 y).trans (congrArg ix1 (Subsingleton.elim (α := Fin 1) (y 0) 0))
  refine ⟨fun y => ?_, fun y => ?_⟩
  · rw [ix y]
    exact word_lt _ (e (y 0)).1.1 (e (y 0)).1.2
  · rw [iy y]
    exact word_pos _ (e 0).2

end

/-- The device. -/
abbrev upDev : Dev Cert.MoeUpIdeal.nD := (0 : Fin 1)

theorem up_dev (c : Dev Cert.MoeUpIdeal.nD) : c = upDev := Subsingleton.elim (α := Fin 1) c 0

theorem up_holds {F : FTy → Type} (m : (ℓ : Loc Cert.MoeUpIdeal.nD Cert.MoeUpIdeal.τ Cert.MoeUpIdeal.sig) → Buf (Elt F) ℓ) :
    Cert.MoeUpRun.Holds (m ((upDev.tc : Thread Cert.MoeUpIdeal.nD Cert.MoeUpIdeal.τ).loc Cert.MoeUpIdeal.main_arg0))
      (m ((upDev.tc : Thread Cert.MoeUpIdeal.nD Cert.MoeUpIdeal.τ).loc Cert.MoeUpIdeal.main_arg1)) m :=
  ⟨fun c => by rw [up_dev c], fun c => by rw [up_dev c]⟩

/-- The two programs' kernel functions are one table. -/
theorem up_defs₀ : Cert.MoeUp.defs₀ (F := Bits) = Cert.MoeUpIdeal.defs₀ (F := Bits) := by
  unfold Cert.MoeUp.defs₀ Cert.MoeUpIdeal.defs₀
  refine congrArg (Idealize.ShloMosaic.Defs.onTc (nD := Cert.MoeUpIdeal.nD) (τ := Cert.MoeUpIdeal.τ) (sig := Cert.MoeUpIdeal.sig) (Val := Elt Bits) (Λ := Cert.MoeUpIdeal.Λ₀)) ?_
  funext l x
  obtain ⟨l, hl⟩ := l
  obtain rfl : l = 0 := by omega
  obtain ⟨t, s⟩ := x
  rfl

theorem up_defs : Cert.MoeUp.defs (F := Bits) = Cert.MoeUpIdeal.defs (F := Bits) :=
  congrArg (Pipeline.defs (Cert.MoeUpIdeal.pcfgs (F := Bits))) up_defs₀

/-- The run at the float words, under any name of the body table. -/
theorem up_run_bits (m : (ℓ : Loc Cert.MoeUpIdeal.nD Cert.MoeUpIdeal.τ Cert.MoeUpIdeal.sig) → Buf (Elt Bits) ℓ) (g : Dev Cert.MoeUpIdeal.nD → PrngReg)
    (D : Defs Cert.MoeUpIdeal.nD Cert.MoeUpIdeal.τ Cert.MoeUpIdeal.sig (Elt Bits) _) (hD : D = Cert.MoeUpIdeal.defs (F := Bits))
    (hT : Cert.MoeUpRun.TabOK (F := Bits) (m ((upDev.tc : Thread Cert.MoeUpIdeal.nD Cert.MoeUpIdeal.τ).loc Cert.MoeUpIdeal.main_arg0))
      (m ((upDev.tc : Thread Cert.MoeUpIdeal.nD Cert.MoeUpIdeal.τ).loc Cert.MoeUpIdeal.main_arg1))) :
    θ_run D (onTc (τ := Cert.MoeUpIdeal.τ) (Cert.MoeUpIdeal.main (F := Bits))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0) := by
  subst hD
  exact (θ_run Cert.MoeUpIdeal.defs _ _).mono (fun _ h => ⟨fun c => (h.1 c).2, h.2⟩) (Cert.MoeUpRun.run_main (F := Bits) hT m g (up_holds m))

theorem up_frame : Cert.quiescent_MoeUp (hMoeUp := Cert.MoeUp.Gen.facts) (hPre_tables_up := Cert.Pre_tables_up.Gen.facts) := fun m g hp =>
  up_run_bits m g (Cert.MoeUp.defs (F := Bits)) up_defs (up_tables (F := Bits) _ _ _ _ _ (hp upDev))

theorem up_frame_ideal : Cert.quiescent_MoeUpIdeal (hMoeUpIdeal := Cert.MoeUpIdeal.Gen.facts) (hPre_tables_up := Cert.Pre_tables_up.Gen.facts) := fun m g hp =>
  (θ_run Cert.MoeUpIdeal.defs _ _).mono (fun _ h => ⟨fun c => (h.1 c).2, h.2⟩)
    (Cert.MoeUpRun.run_main (F := Ideal) (up_tables _ _ _ _ _ (hp upDev)) m g (up_holds m))

theorem up_reference : Cert.quiescent_RefUpIdeal (hRefUpIdeal := Cert.RefUpIdeal.Gen.facts) := fun m g _ =>
  (θ_run Cert.RefUpIdeal.defs _ _).mono (fun r h => ⟨fun c => (h c).2, Idealize.ShloMosaic.sem_eq_zero_of_no_sems (by decide) r.2⟩)
    (Cert.RefUpIdeal.Value.run m g)

theorem up_reference_pre : Cert.quiescent_RefUpIdeal_pre_tables_up (hRefUpIdeal := Cert.RefUpIdeal.Gen.facts) (hPre_tables_up := Cert.Pre_tables_up.Gen.facts) :=
  fun m g _ => up_reference m g trivial

/-- The reference's result at an index is the kernel's. -/
theorem up_eq (T : (⟨1, ![41]⟩ : Shape).Idx → BitVec 32) (N : (⟨1, ![1]⟩ : Shape).Idx → BitVec 32)
    (h : Cert.MoeUpRun.TabOK (F := Ideal) T N) (x w u) (i : (⟨2, ![20992, 5632]⟩ : Shape).Idx) :
    Cert.MoeUpSpec.value T N x w u i = Cert.MoeUpSpec.at_ T N x w u (i 0) (i 1) :=
  (congrArg _ (eq_ix2 i)).trans (Cert.MoeUpSpec.value_at T N x w u h.1 (fun y => (h.2 y).2) (i 0) (i 1))

theorem up : Cert.algebraic_MoeUpIdeal_RefUpIdeal (hMoeUpIdeal := Cert.MoeUpIdeal.Gen.facts) (hRefUpIdeal := Cert.RefUpIdeal.Gen.facts)
    (hPre_tables_up := Cert.Pre_tables_up.Gen.facts) := by
  intro m g m' g' hp hagree
  have hT := up_tables (F := Ideal) _ _ _ _ _ (hp upDev)
  refine ⟨fun c => Cert.MoeUpRun.outA hT m c,
    (θ_run Cert.MoeUpIdeal.defs _ _).mono (fun _ h => h.1) (Cert.MoeUpRun.run_main (F := Ideal) hT m g (up_holds m)),
    (θ_run Cert.RefUpIdeal.defs _ _).mono (fun r h c => ⟨(h c).1.trans ?_, (h c).2⟩) (Cert.RefUpIdeal.Value.run m' g')⟩
  refine Eq.trans ?_ (Cert.MoeUpRun.outA_eq hT m c).symm
  obtain ⟨h0, h1, h2, h3, h4⟩ := hagree c
  obtain rfl := up_dev c
  refine Eq.trans (b := Cert.MoeUpSpec.value (m' ((upDev.tc : Thread Cert.RefUpIdeal.nD Cert.RefUpIdeal.τ).loc Cert.RefUpIdeal.main_arg0))
    (m' ((upDev.tc : Thread Cert.RefUpIdeal.nD Cert.RefUpIdeal.τ).loc Cert.RefUpIdeal.main_arg1)) (m' ((upDev.tc : Thread Cert.RefUpIdeal.nD Cert.RefUpIdeal.τ).loc Cert.RefUpIdeal.main_arg2))
    (m' ((upDev.tc : Thread Cert.RefUpIdeal.nD Cert.RefUpIdeal.τ).loc Cert.RefUpIdeal.main_arg3)) (m' ((upDev.tc : Thread Cert.RefUpIdeal.nD Cert.RefUpIdeal.τ).loc Cert.RefUpIdeal.main_arg4))) rfl ?_
  funext i
  rw [h0, h1, h2, h3, h4]
  exact up_eq _ _ hT _ _ _ i

end Cert.Proof
end
-- ==== Proof.MoeDownRuns.lean ====
module

public import proofs.«01_k».proof.Defs
public import proofs.«01_k».proof.Proof.Gen.MoeDownIdeal
public import proofs.«01_k».proof.Proof.Gen.MoeDownIdeal.Skeleton
public import proofs.«01_k».proof.Proof.Gen.MoeDownIdeal.Launch
public import Idealize.ShloMosaic.Lib.Pipeline.Kit
public import Idealize.ShloMosaic.Lib.Pipeline.FrameBody
public import Idealize.ShloMosaic.Lib.Pipeline.TableIdle
public import Idealize.ShloMosaic.Lib.Pipeline.Quiescent
public import Idealize.ShloMosaic.Lib.Pipeline.ValueKit
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-!
The body of the experts' down call, run once from any contents of its buffers.
-/

@[expose] public section

set_option maxRecDepth 16384

noncomputable section
namespace Cert.MoeDownRun

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables and the scratch buffer, whole. -/
abbrev tE : Memref sig .tc .smem S41 .i32 := Memref.whole main_arg0
abbrev tN : Memref sig .tc .smem S1 .i32 := Memref.whole main_arg1
abbrev sG : Memref sig .tc .vmem S5632x512 .bf16 := Memref.whole cc0_scratch0

/-- The words the body reads at point `i`: its tile's expert, the expert of the tile before, the number of used tiles. -/
abbrev wHere (i : grid0.Coords) (T : S41.Idx → Elt F .i32) : Elt F .i32 :=
  View.readAt (Elt F) tE.view (Rect.unit (s := S41) (k0_off1 i) S1.size (k0_off1_inb i)).toLoadRect T (Shape.Idx.first (numel1_S1.symm ▸ Nat.one_pos))
abbrev wBefore (i : grid0.Coords) (T : S41.Idx → Elt F .i32) : Elt F .i32 :=
  View.readAt (Elt F) tE.view (Rect.unit (s := S41) (k0_off2 i) S1.size (k0_off2_inb i)).toLoadRect T (Shape.Idx.first (numel1_S1.symm ▸ Nat.one_pos))
abbrev wUsed (N : S1.Idx → Elt F .i32) : Elt F .i32 :=
  View.readAt (Elt F) tN.view (Rect.unit (s := S1) ![0] S1.size inb_S1_S1_0).toLoadRect N (Shape.Idx.first (numel1_S1.symm ▸ Nat.one_pos))

/-- Whether the point meets a new expert: the first tile, or another expert than the tile before. -/
abbrev IsNew (i : grid0.Coords) (T : S41.Idx → Elt F .i32) : Prop :=
  Scalar.cmpi .ne (Scalar.extui (Scalar.ori (Scalar.cmpi .eq (BitVec.ofNat 32 (i 1).val) 0#32)
    (Scalar.cmpi .ne (wHere (F := F) i T) (wBefore (F := F) i T)))) 0#32 = 1#1

set_option maxHeartbeats 1600000 in
/-- A used tile that meets a new expert: the weight block goes into the scratch buffer, the output is of them. -/
theorem run_new_used (c : Dev nD) (i : grid0.Coords)
    (a4 : Memref sig .tc .vmem S512x5632 .bf16) (h4 : a4.IsWhole) (a5 : Memref sig .tc .vmem S1x5632x512 .f32) (h5 : a5.IsWhole)
    (a6 : Memref sig .tc .vmem S512x512 .f32) (h6 : a6.IsWhole)
    (T : S41.Idx → Elt F .i32) (N : S1.Idx → Elt F .i32)
    (x : S512x5632.Idx → Elt F .bf16) (g : S1x5632x512.Idx → Elt F .f32) (s0 : S5632x512.Idx → Elt F .bf16)
    (hn : IsNew i T) (k0_h2 : k0_cond2 i (wUsed (F := F) N) = 1#1) (k0_h3 : ¬ k0_cond3 i (wUsed (F := F) N) = 1#1)
    (K : PUnit → sProp 𝕄) :
    iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
        ∗ (∃ d, owns (c : Thread nD τ) a6 fullShare d)
        ∗ owns (c : Thread nD τ) sG fullShare s0
        ∗ (iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
            ∗ owns (c : Thread nD τ) a6 fullShare (k0_pay2 x (k0_pay1 g))
            ∗ owns (c : Thread nD τ) sG fullShare (k0_pay1 g)) -∗ K ⟨⟩))
      ⊢ wp frame (wpE (defs₀ (F := F)) Variants.none c none) Set.univ
          (cc0_moe_down i tE (Memref.isWhole_whole _) tN (Memref.isWhole_whole _) a4 h4 a5 h5 a6 h6 sG (Memref.isWhole_whole _)) K := by
  rw [cc0_moe_down_eq_skeleton]; unfold cc0_moe_down_skel
  iintro ⟨H0, H1, HT0, HT1, ⟨%d3, HO3⟩, HS0, Hk⟩
  ihave H0 := rep_of_owns $$ H0
  ihave H1 := rep_of_owns $$ H1
  ihave HO3 := rep_of_owns $$ HO3
  ihave HS0 := rep_of_owns $$ HS0
  have hS0 : sG.IsWhole := Memref.isWhole_whole _
  have hT0 : tE.IsWhole := Memref.isWhole_whole _
  have hT1 : tN.IsWhole := Memref.isWhole_whole _
  sl_exec! (disch := first | (guard_target = Scalar.cmpi = _; exact hn) | (guard_target = k0_cond2 _ _ = _; exact k0_h2) | (guard_target = ¬(k0_cond3 _ _ = _); exact k0_h3))
  sl_step
  iapply Hk
  isplitl [H0]; · iapply owns_of_rep; iexact H0
  isplitl [H1]; · iapply owns_of_rep; iexact H1
  isplitl [HT0]; · iexact HT0
  isplitl [HT1]; · iexact HT1
  isplitl [HO3]
  · unfold owns
    iexists _; isplitr; swap
    · iexact HO3
    · ipureintro
      refine (View.read_writes_full _ _ _ _ _).trans ?_
      refine congr (congrArg k0_pay2 (View.readAt_rep_full _ _ _)) ?_
      exact (View.readCov_full _ _ _ _ _).trans (congrArg k0_pay1 (View.readAt_rep_full _ _ _))
  unfold owns
  iexists _; isplitr; swap
  · iexact HS0
  · ipureintro
    refine (View.read_writes_full _ _ _ _ _).trans ?_
    exact congrArg k0_pay1 (View.readAt_rep_full _ _ _)

set_option maxHeartbeats 1600000 in
/-- A used tile of the expert before: the output is of what the scratch buffer holds. -/
theorem run_old_used (c : Dev nD) (i : grid0.Coords)
    (a4 : Memref sig .tc .vmem S512x5632 .bf16) (h4 : a4.IsWhole) (a5 : Memref sig .tc .vmem S1x5632x512 .f32) (h5 : a5.IsWhole)
    (a6 : Memref sig .tc .vmem S512x512 .f32) (h6 : a6.IsWhole)
    (T : S41.Idx → Elt F .i32) (N : S1.Idx → Elt F .i32)
    (x : S512x5632.Idx → Elt F .bf16) (g : S1x5632x512.Idx → Elt F .f32) (s0 : S5632x512.Idx → Elt F .bf16)
    (hn : ¬ IsNew i T) (k0_h2 : k0_cond2 i (wUsed (F := F) N) = 1#1) (k0_h3 : ¬ k0_cond3 i (wUsed (F := F) N) = 1#1)
    (K : PUnit → sProp 𝕄) :
    iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
        ∗ (∃ d, owns (c : Thread nD τ) a6 fullShare d)
        ∗ owns (c : Thread nD τ) sG fullShare s0
        ∗ (iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
            ∗ owns (c : Thread nD τ) a6 fullShare (k0_pay2 x s0)
            ∗ owns (c : Thread nD τ) sG fullShare s0) -∗ K ⟨⟩))
      ⊢ wp frame (wpE (defs₀ (F := F)) Variants.none c none) Set.univ
          (cc0_moe_down i tE (Memref.isWhole_whole _) tN (Memref.isWhole_whole _) a4 h4 a5 h5 a6 h6 sG (Memref.isWhole_whole _)) K := by
  rw [cc0_moe_down_eq_skeleton]; unfold cc0_moe_down_skel
  iintro ⟨H0, H1, HT0, HT1, ⟨%d3, HO3⟩, HS0, Hk⟩
  ihave H0 := rep_of_owns $$ H0
  ihave H1 := rep_of_owns $$ H1
  ihave HO3 := rep_of_owns $$ HO3
  ihave HS0 := rep_of_owns $$ HS0
  have hS0 : sG.IsWhole := Memref.isWhole_whole _
  have hT0 : tE.IsWhole := Memref.isWhole_whole _
  have hT1 : tN.IsWhole := Memref.isWhole_whole _
  sl_exec! (disch := first | (guard_target = ¬(Scalar.cmpi = _); exact hn) | (guard_target = k0_cond2 _ _ = _; exact k0_h2) | (guard_target = ¬(k0_cond3 _ _ = _); exact k0_h3))
  sl_step
  iapply Hk
  isplitl [H0]; · iapply owns_of_rep; iexact H0
  isplitl [H1]; · iapply owns_of_rep; iexact H1
  isplitl [HT0]; · iexact HT0
  isplitl [HT1]; · iexact HT1
  isplitl [HO3]
  · unfold owns
    iexists _; isplitr; swap
    · iexact HO3
    · ipureintro
      refine (View.read_writes_full _ _ _ _ _).trans ?_
      exact congr (congrArg k0_pay2 (View.readAt_rep_full _ _ _)) (View.readAt_rep_full _ _ _)
  iapply owns_of_rep; iexact HS0

set_option maxHeartbeats 1600000 in
/-- A tile past the used ones that meets a new expert: the scratch buffer is filled, the output is zero. -/
theorem run_new_rest (c : Dev nD) (i : grid0.Coords)
    (a4 : Memref sig .tc .vmem S512x5632 .bf16) (h4 : a4.IsWhole) (a5 : Memref sig .tc .vmem S1x5632x512 .f32) (h5 : a5.IsWhole)
    (a6 : Memref sig .tc .vmem S512x512 .f32) (h6 : a6.IsWhole)
    (T : S41.Idx → Elt F .i32) (N : S1.Idx → Elt F .i32)
    (x : S512x5632.Idx → Elt F .bf16) (g : S1x5632x512.Idx → Elt F .f32) (s0 : S5632x512.Idx → Elt F .bf16)
    (hn : IsNew i T) (k0_h2 : ¬ k0_cond2 i (wUsed (F := F) N) = 1#1) (k0_h3 : k0_cond3 i (wUsed (F := F) N) = 1#1)
    (K : PUnit → sProp 𝕄) :
    iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
        ∗ (∃ d, owns (c : Thread nD τ) a6 fullShare d)
        ∗ owns (c : Thread nD τ) sG fullShare s0
        ∗ (iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
            ∗ owns (c : Thread nD τ) a6 fullShare k0_pay3
            ∗ owns (c : Thread nD τ) sG fullShare (k0_pay1 g)) -∗ K ⟨⟩))
      ⊢ wp frame (wpE (defs₀ (F := F)) Variants.none c none) Set.univ
          (cc0_moe_down i tE (Memref.isWhole_whole _) tN (Memref.isWhole_whole _) a4 h4 a5 h5 a6 h6 sG (Memref.isWhole_whole _)) K := by
  rw [cc0_moe_down_eq_skeleton]; unfold cc0_moe_down_skel
  iintro ⟨H0, H1, HT0, HT1, ⟨%d3, HO3⟩, HS0, Hk⟩
  ihave H0 := rep_of_owns $$ H0
  ihave H1 := rep_of_owns $$ H1
  ihave HO3 := rep_of_owns $$ HO3
  ihave HS0 := rep_of_owns $$ HS0
  have hS0 : sG.IsWhole := Memref.isWhole_whole _
  have hT0 : tE.IsWhole := Memref.isWhole_whole _
  have hT1 : tN.IsWhole := Memref.isWhole_whole _
  sl_exec! (disch := first | (guard_target = Scalar.cmpi = _; exact hn) | (guard_target = ¬(k0_cond2 _ _ = _); exact k0_h2) | (guard_target = k0_cond3 _ _ = _; exact k0_h3))
  sl_step
  iapply Hk
  isplitl [H0]; · iapply owns_of_rep; iexact H0
  isplitl [H1]; · iapply owns_of_rep; iexact H1
  isplitl [HT0]; · iexact HT0
  isplitl [HT1]; · iexact HT1
  isplitl [HO3]
  · unfold owns
    iexists _; isplitr; swap
    · iexact HO3
    · ipureintro
      exact View.read_writes_full _ _ _ _ _
  unfold owns
  iexists _; isplitr; swap
  · iexact HS0
  · ipureintro
    refine (View.read_writes_full _ _ _ _ _).trans ?_
    exact congrArg k0_pay1 (View.readAt_rep_full _ _ _)

set_option maxHeartbeats 1600000 in
/-- A tile past the used ones: the output is zero. -/
theorem run_old_rest (c : Dev nD) (i : grid0.Coords)
    (a4 : Memref sig .tc .vmem S512x5632 .bf16) (h4 : a4.IsWhole) (a5 : Memref sig .tc .vmem S1x5632x512 .f32) (h5 : a5.IsWhole)
    (a6 : Memref sig .tc .vmem S512x512 .f32) (h6 : a6.IsWhole)
    (T : S41.Idx → Elt F .i32) (N : S1.Idx → Elt F .i32)
    (x : S512x5632.Idx → Elt F .bf16) (g : S1x5632x512.Idx → Elt F .f32) (s0 : S5632x512.Idx → Elt F .bf16)
    (hn : ¬ IsNew i T) (k0_h2 : ¬ k0_cond2 i (wUsed (F := F) N) = 1#1) (k0_h3 : k0_cond3 i (wUsed (F := F) N) = 1#1)
    (K : PUnit → sProp 𝕄) :
    iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
        ∗ (∃ d, owns (c : Thread nD τ) a6 fullShare d)
        ∗ owns (c : Thread nD τ) sG fullShare s0
        ∗ (iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
            ∗ owns (c : Thread nD τ) a6 fullShare k0_pay3
            ∗ owns (c : Thread nD τ) sG fullShare s0) -∗ K ⟨⟩))
      ⊢ wp frame (wpE (defs₀ (F := F)) Variants.none c none) Set.univ
          (cc0_moe_down i tE (Memref.isWhole_whole _) tN (Memref.isWhole_whole _) a4 h4 a5 h5 a6 h6 sG (Memref.isWhole_whole _)) K := by
  rw [cc0_moe_down_eq_skeleton]; unfold cc0_moe_down_skel
  iintro ⟨H0, H1, HT0, HT1, ⟨%d3, HO3⟩, HS0, Hk⟩
  ihave H0 := rep_of_owns $$ H0
  ihave H1 := rep_of_owns $$ H1
  ihave HO3 := rep_of_owns $$ HO3
  ihave HS0 := rep_of_owns $$ HS0
  have hS0 : sG.IsWhole := Memref.isWhole_whole _
  have hT0 : tE.IsWhole := Memref.isWhole_whole _
  have hT1 : tN.IsWhole := Memref.isWhole_whole _
  sl_exec! (disch := first | (guard_target = ¬(Scalar.cmpi = _); exact hn) | (guard_target = ¬(k0_cond2 _ _ = _); exact k0_h2) | (guard_target = k0_cond3 _ _ = _; exact k0_h3))
  sl_step
  iapply Hk
  isplitl [H0]; · iapply owns_of_rep; iexact H0
  isplitl [H1]; · iapply owns_of_rep; iexact H1
  isplitl [HT0]; · iexact HT0
  isplitl [HT1]; · iexact HT1
  isplitl [HO3]
  · unfold owns
    iexists _; isplitr; swap
    · iexact HO3
    · ipureintro
      exact View.read_writes_full _ _ _ _ _
  iapply owns_of_rep; iexact HS0

/-- What the output holds after the body, of what the scratch buffer holds. -/
def outV (i : grid0.Coords) (N : S1.Idx → Elt F .i32) (x : S512x5632.Idx → Elt F .bf16) (s0 : S5632x512.Idx → Elt F .bf16) : S512x512.Idx → Elt F .f32 :=
  if k0_cond2 i (wUsed (F := F) N) = 1#1 then k0_pay2 x s0 else k0_pay3

theorem cond3_iff (i : grid0.Coords) (v : BitVec 32) : k0_cond3 i v = 1#1 ↔ ¬ k0_cond2 i v = 1#1 := by
  unfold k0_cond3 k0_cond2
  simp only [Scalar.cmpi, IntOp.cmpi, BitVec.slt_eq_decide, BitVec.sle_eq_decide]
  by_cases hh : (BitVec.ofNat 32 (i 1).val).toInt < v.toInt
  · have h2 : ¬ v.toInt ≤ (BitVec.ofNat 32 (i 1).val).toInt := by omega
    simp [hh, h2, Scalar.extui]
  · have h2 : v.toInt ≤ (BitVec.ofNat 32 (i 1).val).toInt := by omega
    simp [hh, h2, Scalar.extui]

/-- The body at any point: when it meets no new expert, the scratch buffer holds the weight block already (`hold`); after it
    it holds it, and the output is of them. -/
theorem run_body (c : Dev nD) (i : grid0.Coords)
    (a4 : Memref sig .tc .vmem S512x5632 .bf16) (h4 : a4.IsWhole) (a5 : Memref sig .tc .vmem S1x5632x512 .f32) (h5 : a5.IsWhole)
    (a6 : Memref sig .tc .vmem S512x512 .f32) (h6 : a6.IsWhole)
    (T : S41.Idx → Elt F .i32) (N : S1.Idx → Elt F .i32)
    (x : S512x5632.Idx → Elt F .bf16) (g : S1x5632x512.Idx → Elt F .f32) (s0 : S5632x512.Idx → Elt F .bf16)
    (hold : ¬ IsNew i T → s0 = k0_pay1 g)
    (K : PUnit → sProp 𝕄) :
    iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
        ∗ (∃ d, owns (c : Thread nD τ) a6 fullShare d)
        ∗ owns (c : Thread nD τ) sG fullShare s0
        ∗ (iprop(owns (c : Thread nD τ) a4 fullShare x ∗ owns (c : Thread nD τ) a5 fullShare g
        ∗ (tE.view.loc (c : Thread nD τ) ↦{fullShare.right} T) ∗ (tN.view.loc (c : Thread nD τ) ↦{fullShare.right} N)
            ∗ owns (c : Thread nD τ) a6 fullShare (outV i N x (k0_pay1 g))
            ∗ owns (c : Thread nD τ) sG fullShare (k0_pay1 g)) -∗ K ⟨⟩))
      ⊢ wp frame (wpE (defs₀ (F := F)) Variants.none c none) Set.univ
          (cc0_moe_down i tE (Memref.isWhole_whole _) tN (Memref.isWhole_whole _) a4 h4 a5 h5 a6 h6 sG (Memref.isWhole_whole _)) K := by
  by_cases hn : IsNew i T <;> by_cases h2 : k0_cond2 i (wUsed (F := F) N) = 1#1
  · rw [outV, if_pos h2]
    exact run_new_used c i a4 h4 a5 h5 a6 h6 T N x g s0 hn h2 (fun h3 => (cond3_iff i _).1 h3 h2) K
  · rw [outV, if_neg h2]
    exact run_new_rest c i a4 h4 a5 h5 a6 h6 T N x g s0 hn h2 ((cond3_iff i _).2 h2) K
  · obtain rfl := hold hn
    rw [outV, if_pos h2]
    exact run_old_used c i a4 h4 a5 h5 a6 h6 T N x g _ hn h2 (fun h3 => (cond3_iff i _).1 h3 h2) K
  · obtain rfl := hold hn
    rw [outV, if_neg h2]
    exact run_old_rest c i a4 h4 a5 h5 a6 h6 T N x g _ hn h2 ((cond3_iff i _).2 h2) K

end Cert.MoeDownRun

end
-- ==== Proof.MoeDownFrame.lean ====
module

public import proofs.«01_k».proof.Defs
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.MoeUpFrame
public import proofs.«01_k».proof.Proof.MoeDownRuns
public import Idealize.ShloMosaic.Lib.Pipeline.Kit
public import Idealize.ShloMosaic.Lib.Pipeline.Value
public import Idealize.ShloMosaic.Lib.Pipeline.FrameBody
public import Idealize.ShloMosaic.Lib.Pipeline.TableIdle
public import Idealize.ShloMosaic.Lib.Pipeline.Quiescent
public import Idealize.ShloMosaic.Lib.Pipeline.ValueKit
public import Idealize.ShloMosaic.Lib.Writes
public import Idealize.ShloMosaic.Lib.WritesUnit
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-!
The pipeline of the experts' down call, for every pair of tables the routing can make: what each point leaves, and the run of the
whole call.
-/

@[expose] public section

set_option maxRecDepth 16384

noncomputable section
namespace Cert.MoeDownRun

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables the routing makes: experts below eight, at least one used tile. -/
def TabOK (T : S41.Idx → Elt F .i32) (N : S1.Idx → Elt F .i32) : Prop :=
  (∀ x, BitVec.toNat (T x) < 8) ∧ ∀ x, 1 ≤ BitVec.toNat (N x) ∧ BitVec.toNat (N x) < 2 ^ 31

/-- The tables as the pipeline takes them. -/
def pf (T : S41.Idx → Elt F .i32) (N : S1.Idx → Elt F .i32) : pre0.Contents (Elt F) :=
  fun | ⟨0, _⟩ => T | ⟨1, _⟩ => N | ⟨_ + 2, h⟩ => absurd h (by simp)

variable (T : S41.Idx → Elt F .i32) (N : S1.Idx → Elt F .i32)

theorem tix0 (i : grid0.Coords) : cc0_transform_0 (F := F) inb_S1_S1_0 numel1_S1 (pf T N) i
    = ![(Scalar.minsi (BitVec.ofNat 32 (i 1).val) (Scalar.subi (wUsed (F := F) N) 1#32)).toNat, 0] := rfl
theorem tix1 (i : grid0.Coords) : cc0_transform_1 (F := F) k0_off1_inb numel1_S1 (pf T N) i
    = ![BitVec.toNat (wHere (F := F) i T), 0, (BitVec.ofNat 32 (i 0).val).toNat] := rfl
theorem lt_i0 (i : grid0.Coords) : (i 0).val < 4 := (i 0).isLt
theorem lt_i1 (i : grid0.Coords) : (i 1).val < 41 := (i 1).isLt
theorem toNat_i0 (i : grid0.Coords) : (BitVec.ofNat 32 (i 0).val).toNat = (i 0).val := by
  rw [BitVec.toNat_ofNat]; exact Nat.mod_eq_of_lt (by have := lt_i0 i; omega)
theorem toNat_i1 (i : grid0.Coords) : (BitVec.ofNat 32 (i 1).val).toNat = (i 1).val := by
  rw [BitVec.toNat_ofNat]; exact Nat.mod_eq_of_lt (by have := lt_i1 i; omega)

variable {T N}

theorem here_lt (h : TabOK T N) (i : grid0.Coords) : BitVec.toNat (wHere (F := F) i T) < 8 := h.1 _

theorem used_ok (h : TabOK T N) : 1 ≤ BitVec.toNat (wUsed (F := F) N) ∧ BitVec.toNat (wUsed (F := F) N) < 2 ^ 31 := h.2 _

theorem ok0_0 (h : TabOK T N) (i : grid0.Coords) : ∀ a, (cc0_transform_0 (F := F) inb_S1_S1_0 numel1_S1 (pf T N) i a + 1) * S512x5632.size a ≤ S20992x5632.size a := by
  rw [tix0, Cert.MoeUpRun.minsi_toNat _ _ (by rw [toNat_i1]; exact lt_i1 i) (used_ok h).1 (used_ok h).2, toNat_i1]
  have := lt_i1 i
  refine Fin.forall_fin_two.mpr ⟨?_, ?_⟩
  · show (min _ _ + 1) * 512 ≤ 20992
    omega
  · show (0 + 1) * 5632 ≤ 5632
    omega
theorem ok0_1 (h : TabOK T N) (i : grid0.Coords) : ∀ a, (cc0_transform_1 (F := F) k0_off1_inb numel1_S1 (pf T N) i a + 1) * S1x5632x512.size a ≤ S8x5632x2048.size a := by
  rw [tix1, toNat_i0]
  have h0 := lt_i0 i
  have h1 := here_lt h i
  intro a
  match a with
  | ⟨0, _⟩ => show (BitVec.toNat (wHere (F := F) i T) + 1) * 1 ≤ 8; omega
  | ⟨1, _⟩ => show (0 + 1) * 5632 ≤ 5632; omega
  | ⟨2, _⟩ => show ((i 0).val + 1) * 512 ≤ 2048; omega

theorem ok (h : TabOK T N) : ok0 (F := F) (pf T N) :=
  ⟨fun i => ⟨ok0_0 h i, .inr (Affine.block_words_dvd (s := S20992x5632) (p := EltTy.packing .bf16) (by decide) (by decide))⟩,
    fun i => ⟨ok0_1 h i, .inl rfl⟩⟩

/-- The pipeline at the tables. -/
def adm (h : TabOK T N) : (pcfg0 (F := F)).Adm := ⟨pf T N, ok h⟩
abbrev cfgA (h : TabOK T N) : Pipeline.Cfg sig Λ₀ := cfg0 (F := F) (adm h)
abbrev pcs (h : TabOK T N) : Fin 1 → Pipeline.Cfg sig Λ₀ := Pipeline.pin (pcfgs (F := F)) fun _ => adm h

theorem idle_out (h : TabOK T N) (i : grid0.Coords) : (cfgA h).idle (2 : Fin 3) i = false := by
  show (!(k0_cond2 i ((pf T N).atD 1 ![0]) == 1#1) && !(k0_cond3 i ((pf T N).atD 1 ![0]) == 1#1)) = false
  generalize (pf T N).atD 1 ![0] = v
  by_cases h2 : k0_cond2 i v = 1#1
  · simp [h2]
  · simp [(cond3_iff i v).2 h2]

/-! ## A point's coordinates, staging buffers and blocks -/

abbrev crd (h : TabOK T N) (t : Fin (cfgA h).N) : (cfgA h).grid.Coords := (cfgA h).grid.coords t
abbrev st0 (h : TabOK T N) (t : Fin (cfgA h).N) : Memref sig .tc .vmem S512x5632 .bf16 := spec0_0.stage ((cfgA h).slots t (0 : Fin 3))
abbrev hs0 (h : TabOK T N) (t : Fin (cfgA h).N) : (st0 h t).IsWhole := hstage0_0 (((cfgA h).slots t (0 : Fin 3)).cast nbuf0_0)
abbrev st1 (h : TabOK T N) (t : Fin (cfgA h).N) : Memref sig .tc .vmem S1x5632x512 .f32 := spec0_1.stage ((cfgA h).slots t (1 : Fin 3))
abbrev hs1 (h : TabOK T N) (t : Fin (cfgA h).N) : (st1 h t).IsWhole := hstage0_1 (((cfgA h).slots t (1 : Fin 3)).cast nbuf0_1)
abbrev st2 (h : TabOK T N) (t : Fin (cfgA h).N) : Memref sig .tc .vmem S512x512 .f32 := spec0_2.stage ((cfgA h).slots t (2 : Fin 3))
abbrev hs2 (h : TabOK T N) (t : Fin (cfgA h).N) : (st2 h t).IsWhole := hstage0_2 (((cfgA h).slots t (2 : Fin 3)).cast nbuf0_2)

variable (h : TabOK T N) (m : (ℓ : Loc nD τ sig) → Buf (Elt F) ℓ) (ρ : Dev nD → PrngReg)

/-- Window `w`'s block at point `t`, read off its array at launch. -/
def iblk (c : Dev nD) (w : Fin (cfgA h).W) (t : Fin (cfgA h).N) : (((cfgA h).win w).xblock (crd h t)).Idx → Elt F ((cfgA h).win w).elt :=
  (((cfgA h).win w).blk t).view.read (Elt F) (m (((cfgA h).win w).arr.view.loc (c : Thread nD τ)))

abbrev xB (c : Dev nD) (t : Fin (cfgA h).N) : S512x5632.Idx → Elt F .bf16 := iblk h m c (0 : Fin 3) t
abbrev gB (c : Dev nD) (t : Fin (cfgA h).N) : S1x5632x512.Idx → Elt F .f32 := iblk h m c (1 : Fin 3) t
/-- What the output's buffer holds after point `t`. -/
def outB (c : Dev nD) (t : Fin (cfgA h).N) : S512x512.Idx → Elt F .f32 :=
  outV (crd h t) N (xB h m c t) (k0_pay1 (gB h m c t))

/-- The point before. -/
def pr (t : Fin (cfgA h).N) : Fin (cfgA h).N := ⟨t.val - 1, lt_of_le_of_lt (Nat.sub_le _ _) t.isLt⟩

theorem pr_succ (t : Fin (cfgA h).N) (ht : t.val ≠ 0) : t.castSucc.val = (pr h t).val + 1 := by
  unfold pr
  rw [Fin.val_castSucc]
  exact (Nat.sub_add_cancel (Nat.pos_of_ne_zero ht)).symm

theorem eq_of_succ (t n : Fin (cfgA h).N) (hn : t.succ.val = n.val + 1) : n = t := by
  rw [Fin.val_succ] at hn
  exact Fin.ext (Nat.succ.inj hn).symm

/-! ## A tile of the expert before keeps its weight block -/

theorem coords_val : ∀ t : Fin grid0.N, (grid0.coords t 0).val = t.val / 41 ∧ (grid0.coords t 1).val = t.val % 41 := by
  decide +kernel

theorem off1_eq (i : grid0.Coords) : k0_off1 i = ![(i 1).val] := by
  show ![(BitVec.ofNat 32 (i 1).val).toNat] = _
  rw [toNat_i1]

theorem off2_eq (i : grid0.Coords) : k0_off2 i = ![(i 1).val - 1] := by
  have h1 := lt_i1 i
  have hs : (Scalar.maxsi (Scalar.subi (BitVec.ofNat 32 (i 1).val) 1#32) 0#32).toNat = (i 1).val - 1 := by
    generalize (i 1).val = n at h1
    revert n
    decide +kernel
  show ![(Scalar.maxsi (Scalar.subi (BitVec.ofNat 32 (i 1).val) 1#32) 0#32).toNat] = _
  rw [hs]

theorem readAt_congr_off (o o' : Fin 1 → ℕ) (e : o = o') (hi hi') :
    View.readAt (Elt F) tE.view (Rect.unit (s := S41) o S1.size hi).toLoadRect T (Shape.Idx.first (numel1_S1.symm ▸ Nat.one_pos))
      = View.readAt (Elt F) tE.view (Rect.unit (s := S41) o' S1.size hi').toLoadRect T (Shape.Idx.first (numel1_S1.symm ▸ Nat.one_pos)) := by
  subst e; rfl

/-- At a point that meets no new expert there is a point before, and the window of weights stands where it stood there. -/
theorem old_index (t : Fin (cfgA h).N) (hn : ¬ IsNew (crd h t) T) : t.val ≠ 0 ∧
    cc0_transform_1 (F := F) k0_off1_inb numel1_S1 (pf T N) (crd h t)
      = cc0_transform_1 (F := F) k0_off1_inb numel1_S1 (pf T N) (crd h (pr h t)) := by
  obtain ⟨hi, hw⟩ := Cert.MoeUpRun.not_new hn
  have c0 := coords_val t
  have h0 : (crd h t 1).val ≠ 0 := fun e => hi (by rw [e])
  have e1 : (crd h t 1).val = t.val % 41 := c0.2
  have hm : t.val % 41 ≠ 0 := fun e => h0 (e1.trans e)
  have ht : t.val ≠ 0 := fun e => h0 (by rw [e1, e])
  refine ⟨ht, ?_⟩
  have c1 := coords_val (pr h t)
  have e2 : (crd h (pr h t) 1).val = (crd h t 1).val - 1 := by rw [e1]; refine c1.2.trans ?_; show (t.val - 1) % 41 = _; omega
  have e3 : (crd h (pr h t) 0).val = (crd h t 0).val := by refine c1.1.trans (Eq.trans ?_ c0.1.symm); show (t.val - 1) / 41 = _; omega
  rw [tix1, tix1, e3, hw]
  refine congrArg (fun z : BitVec 32 => ![z.toNat, 0, (BitVec.ofNat 32 (crd h t 0).val).toNat]) ?_
  refine readAt_congr_off _ _ ?_ _ _
  rw [off1_eq, off2_eq, e2]

theorem xB_apply (c : Dev nD) (t : Fin (cfgA h).N) (y : S512x5632.Idx) (k : S20992x5632.Idx)
    (hk : ∀ a, (k a).val = cc0_transform_0 (F := F) inb_S1_S1_0 numel1_S1 (pf T N) (crd h t) a * S512x5632.size a + (y a).val) :
    xB h m c t y = m ((c : Thread nD τ).loc main_arg2) k := by
  show m ((c : Thread nD τ).loc main_arg2) ((((cfgA h).win 0).rect t).emb y) = m ((c : Thread nD τ).loc main_arg2) k
  exact congrArg (m ((c : Thread nD τ).loc main_arg2)) (funext fun a => Fin.ext ((Pipeline.Window.rect_emb_val ((cfgA h).win 0) t y a).trans (hk a).symm))

theorem gB_apply (c : Dev nD) (t : Fin (cfgA h).N) (y : S1x5632x512.Idx) (k : S8x5632x2048.Idx)
    (hk : ∀ a, (k a).val = cc0_transform_1 (F := F) k0_off1_inb numel1_S1 (pf T N) (crd h t) a * S1x5632x512.size a + (y a).val) :
    gB h m c t y = m ((c : Thread nD τ).loc main_arg3) k := by
  show m ((c : Thread nD τ).loc main_arg3) ((((cfgA h).win 1).rect t).emb y) = m ((c : Thread nD τ).loc main_arg3) k
  exact congrArg (m ((c : Thread nD τ).loc main_arg3)) (funext fun a => Fin.ext ((Pipeline.Window.rect_emb_val ((cfgA h).win 1) t y a).trans (hk a).symm))

theorem gB_old (c : Dev nD) (t : Fin (cfgA h).N)
    (e : cc0_transform_1 (F := F) k0_off1_inb numel1_S1 (pf T N) (crd h t)
      = cc0_transform_1 (F := F) k0_off1_inb numel1_S1 (pf T N) (crd h (pr h t))) :
    gB h m c t = gB h m c (pr h t) := by
  funext y
  show m ((c : Thread nD τ).loc main_arg3) ((((cfgA h).win 1).rect t).emb y) = m ((c : Thread nD τ).loc main_arg3) ((((cfgA h).win 1).rect (pr h t)).emb y)
  exact congrArg (m ((c : Thread nD τ).loc main_arg3)) (funext fun a => Fin.ext ((Pipeline.Window.rect_emb_val ((cfgA h).win 1) t y a).trans
    (Eq.trans (congrArg (fun f : Fin 3 → ℕ => f a * S1x5632x512.size a + (y a).val) e) (Pipeline.Window.rect_emb_val ((cfgA h).win 1) (pr h t) y a).symm)))

/-! ## The pipeline's data -/

abbrev EP : Emb (UR sig nD τ) 𝕄 := emb₁

/-- Before position `t`: after any point, the scratch buffer holds the weight block of the point before; the body's halves of
    the tables. -/
def Phi (c : Dev nD) (t : Fin ((cfgA h).N + 1)) : sProp 𝕄 :=
  iprop((∃ s0 : S5632x512.Idx → Elt F .bf16,
      ⌜∀ n : Fin (cfgA h).N, t.val = n.val + 1 → s0 = k0_pay1 (gB h m c n)⌝ ∗ owns (c : Thread nD τ) sG fullShare s0)
    ∗ (tE.view.loc (c : Thread nD τ) ↦{fullShare.right} T) ∗ (tN.view.loc (c : Thread nD τ) ↦{fullShare.right} N))

/-- The pipeline's data on core `c`. -/
def dats (_ : Fin 1) (c : Dev nD) : Dat τ (Elt F) Unit ℕ (UR sig nD τ) ℕ (cfgA h) c where
  A w := m (((cfgA h).win w).arr.view.loc (c : Thread nD τ))
  after w t := match w with
    | ⟨0, _⟩ => xB h m c t
    | ⟨1, _⟩ => gB h m c t
    | ⟨2, _⟩ => outB h m c t
  Φ t := Phi h m c t
  q _ := fullShare
  owed _ := 0

theorem after0 (c : Dev nD) (t : Fin (cfgA h).N) : (dats h m 0 c).after (0 : Fin 3) t = xB h m c t := rfl
theorem after1 (c : Dev nD) (t : Fin (cfgA h).N) : (dats h m 0 c).after (1 : Fin 3) t = gB h m c t := rfl
theorem after2 (c : Dev nD) (t : Fin (cfgA h).N) : (dats h m 0 c).after (2 : Fin 3) t = outB h m c t := rfl

theorem before0 (c : Dev nD) (t : Fin (cfgA h).N) (d) : (dats h m 0 c).before (0 : Fin 3) t d = xB h m c t :=
  ((dats h m 0 c).before_in_eq_fetched (0 : Fin 3) rfl (fun _ => rfl) (fun _ _ _ => rfl) (fun t => by rw [after0]; unfold Dat.blockOf; rfl) t d).trans
    (by unfold Dat.fetched Dat.blockOf; rfl)
theorem before1 (c : Dev nD) (t : Fin (cfgA h).N) (d) : (dats h m 0 c).before (1 : Fin 3) t d = gB h m c t :=
  ((dats h m 0 c).before_in_eq_fetched (1 : Fin 3) rfl (fun _ => rfl) (fun _ _ _ => rfl) (fun t => by rw [after1]; unfold Dat.blockOf; rfl) t d).trans
    (by unfold Dat.fetched Dat.blockOf; rfl)
/-! ## The body at a point -/

abbrev bodyAt (t : Fin (cfgA h).N) : Prog (TpuEff nD τ sig (Elt F) Λ₀ .tc) PUnit :=
  cc0_moe_down (crd h t) (Memref.whole main_arg0) (Memref.isWhole_whole _) (Memref.whole main_arg1) (Memref.isWhole_whole _) (st0 h t) (hs0 h t) (st1 h t) (hs1 h t) (st2 h t) (hs2 h t) (Memref.whole cc0_scratch0) (Memref.isWhole_whole _)

set_option maxHeartbeats 1600000 in
/-- The body's obligation at point `t`. -/
theorem sound_body (c : Dev nD) (t : Fin (cfgA h).N) :
    iprop((dats h m 0 c).Φ t.castSucc ∗ (dats h m 0 c).owesAt () t.castSucc
        ∗ (∃ d, owns (c : Thread nD τ) (st0 h t) fullShare ((dats h m 0 c).before (0 : Fin 3) t d))
        ∗ (∃ d, owns (c : Thread nD τ) (st1 h t) fullShare ((dats h m 0 c).before (1 : Fin 3) t d))
        ∗ (∃ d, owns (c : Thread nD τ) (st2 h t) fullShare ((dats h m 0 c).before (2 : Fin 3) t d)))
      ⊢ wp frame (wpE (defs₀ (F := F)) Variants.none c none) Set.univ (bodyAt h t) fun _ =>
          iprop((dats h m 0 c).Φ t.succ ∗ (dats h m 0 c).owesAt () t.succ
            ∗ bigSep Finset.univ fun w : Fin (cfgA h).W =>
                match (cfgA h).idle w ((cfgA h).grid.coords t) with
                | true =>
                  match ((cfgA h).win w).flush t with
                  | false => iprop(∃ d, owns (c : Thread nD τ) (((cfgA h).win w).stage ((cfgA h).slots t w)) fullShare ((dats h m 0 c).before w t d))
                  | true => owns (c : Thread nD τ) (((cfgA h).win w).stage ((cfgA h).slots t w)) fullShare ((dats h m 0 c).after w t)
                | false => owns (c : Thread nD τ) (((cfgA h).win w).stage ((cfgA h).slots t w)) fullShare ((dats h m 0 c).after w t)) := by
  rw [bigSep_W0]
  rewrite [idle_out h]
  simp only [before0, before1, after0, after1, after2]
  rewrite [show (dats h m 0 c).Φ t.succ = Phi h m c t.succ from rfl, show (dats h m 0 c).Φ t.castSucc = Phi h m c t.castSucc from rfl,
    show (dats h m 0 c).owesAt () t.succ = (dats h m 0 c).owesAt () t.castSucc from rfl]
  unfold Phi
  iintro ⟨⟨⟨%s0, %hs, HS0⟩, HT0, HT1⟩, Ho, ⟨%d0, H0⟩, ⟨%d1, H1⟩, ⟨%d3, H3⟩⟩
  have hold : ¬ IsNew (crd h t) T → s0 = k0_pay1 (gB h m c t) := fun hn => by
    obtain ⟨ht, e⟩ := old_index h t hn
    exact (hs (pr h t) (pr_succ h t ht)).trans (congrArg k0_pay1 (gB_old h m c t e).symm)
  iapply (run_body c (crd h t) (st0 h t) (hs0 h t) (st1 h t) (hs1 h t) (st2 h t) (hs2 h t) T N (xB h m c t) (gB h m c t) s0 hold _)
  isplitl [H0]; · iexact H0
  isplitl [H1]; · iexact H1
  isplitl [HT0]; · iexact HT0
  isplitl [HT1]; · iexact HT1
  isplitl [H3]; · iexists _; iexact H3
  isplitl [HS0]; · iexact HS0
  iintro ⟨H0, H1, HT0, HT1, H3, HS0⟩
  isplitl [HS0 HT0 HT1]
  · isplitl [HS0]
    · iexists _; isplitr; swap
      · iexact HS0
      · ipureintro
        intro n hn
        obtain rfl := eq_of_succ h t n hn
        rfl
    isplitl [HT0]
    · iexact HT0
    iexact HT1
  isplitl [Ho]; · iexact Ho
  isplitl [H0]; · iexact H0
  isplitl [H1]; · iexact H1
  iexact H3

theorem body_obligation (c : Dev nD) : BodyObligation (dats h m 0 c) (defs₀ (F := F)) Variants.none () Set.univ := fun t => by
  rw [bigSep_W0]
  exact sound_body h m c t

/-! ## The launch -/

def u₀ : UR sig nD τ :=
  initOf (Pipeline.cells (pcs h) ((launch0 (F := F)).cellOf_inj fun _ => adm h))
    (Pipeline.launchToks (pcs h) ((launch0 (F := F)).cellOf_inj fun _ => adm h))

theorem share_eq (c : Dev nD) (w : Fin (cfgA h).W) : (dats h m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm h).1 ∗ Pipeline.scopedRest spec0 c) ⊢ (dats h m 0 c).Φ 0 := by
  rw [prefHeld_eq, scopedRest0_eq, show (dats h m 0 c).Φ 0 = Phi h m c 0 from rfl]
  unfold Phi
  iintro ⟨-, ⟨HT0, HT1⟩, ⟨%a0, HS0⟩⟩
  isplitl [HS0]
  · iexists a0; isplitr; swap
    · rw [owns_whole_eq]; iexists a0; isplitr; swap
      · iexact HS0
      · ipureintro; rfl
    · ipureintro; intro n hn; exact absurd hn (by show ¬ (0 = n.val + 1); omega)
  isplitl [HT0]
  · iexact HT0
  iexact HT1

/-- A whole buffer held at any contents. -/
theorem scratch_back (c : Dev nD) (b : Ref sig .tc) (X : b.ty.Contents (Elt F)) :
    (owns (c : Thread nD τ) (Memref.whole b) fullShare X : sProp 𝕄) ⊢ iprop(∃ a : Buf (Elt F) ((c : Thread nD τ).loc b), ((c : Thread nD τ).loc b) ↦{fullShare} a) := by
  rw [owns_whole_eq]
  iintro ⟨%f, -, H⟩
  iexists f; iexact H

theorem phiN_exit (c : Dev nD) : (dats h m 0 c).Φ (Fin.last (cfgA h).N) ⊢ iprop(BI.emp ∗ Pipeline.scopedRest spec0 c) := by
  rw [scopedRest0_eq, show (dats h m 0 c).Φ (Fin.last (cfgA h).N) = Phi h m c (Fin.last _) from rfl]
  unfold Phi
  iintro ⟨⟨%s0, -, HS0⟩, -, -⟩
  isplitr; · iempintro
  iapply scratch_back; iexact HS0

/-- The state after the run: every array at what the pipeline left, every table as it was. -/
def QC : PUnit × MemSt nD τ sig (Elt F) → Prop := fun r =>
  ∀ c : Dev nD, (∀ w : Fin (cfgA h).W, r.2.mem (((cfgA h).win w).arr.view.loc (c : Thread nD τ)) = (dats h m 0 c).arrAt w (cfgA h).N)
    ∧ ∀ j, r.2.mem ((c : Thread nD τ).loc (pre0.ref j)) = (adm h).1 j

/-- The launch memory holds these tables. -/
def Holds (T : S41.Idx → Elt F .i32) (N : S1.Idx → Elt F .i32) (m : (ℓ : Loc nD τ sig) → Buf (Elt F) ℓ) : Prop :=
  (∀ c : Dev nD, m ((c : Thread nD τ).loc main_arg0) = T) ∧ ∀ c : Dev nD, m ((c : Thread nD τ).loc main_arg1) = N

theorem V_pre (hp : Holds T N m) (c : Dev nD) (j : Fin 2) : m ((c : Thread nD τ).loc (pre0.ref j)) = (adm h).1 j := by
  fin_cases j
  · exact hp.1 c
  · exact hp.2 c

set_option backward.isDefEq.respectTransparency.types false in
set_option maxHeartbeats 1600000 in
/-- The run of the whole call. -/
theorem run_arrays (hp : Holds T N m) : θ_run (defs (F := F)) (onTc (τ := τ) (main (F := F))) ⟨m, fun _ => 0, ρ⟩ (fun r => QC h m r ∧ r.2.sem = fun _ => 0) :=
  Pipeline.θ_run_region_noSem_pf_quiescent pcfgs (fun _ => adm h) (dats h m) () ((launch0 (F := F)).cellOf_inj fun _ => adm h) (0 : Fin 1)
    (launch0 (F := F)).win.to₀ (launch0 (F := F)).pre EP defs₀ Variants.none m ρ main
    (hbody := fun c => (body_obligation h m c).loose) (hne := (launch0 (F := F)).block_pos)
    (harr := (launch0 (F := F)).arr_whole) (hstage := (launch0 (F := F)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h m) 0 (launch0 (F := F)).win.arr_inj c (launch0 (F := F)).arr_whole
      (share_eq h m c) _ _ fun _ => rfl)
    (hpf := V_pre h m hp)
    (X := fun _ => iprop(emp)) (Y := fun _ => iprop(emp)) (Z := fun _ => iprop(emp))
    (hX := fun c => by rw [unscopedRestP0_eq]; iintro -; isplitr <;> iempintro)
    (hin := phi0_intro h m)
    (hout := phiN_exit h m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output array after the run. -/
def outA (c : Dev nD) : S20992x2048.Idx → Elt F .f32 := (dats h m 0 c).arrAt (2 : Fin 3) (cfgA h).N

/-- The run of the whole call, the arguments unchanged and the result named. -/
theorem run_main (hp : Holds T N m) :
    θ_run (defs (F := F)) (onTc (τ := τ) (main (F := F))) ⟨m, fun _ => 0, ρ⟩ (fun r => (∀ c : Dev nD,
      r.2.mem ((c.tc : Thread nD τ).loc main_v0) = outA h m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c => ⟨(hr.1 c).1 (2 : Fin 3), ((hr.1 c).2 0).trans (hp.1 c).symm, ((hr.1 c).2 1).trans (hp.2 c).symm,
    ((hr.1 c).1 (0 : Fin 3)).trans ((dats h m 0 c).arrAt_in (0 : Fin 3) rfl _), ((hr.1 c).1 (1 : Fin 3)).trans ((dats h m 0 c).arrAt_in (1 : Fin 3) rfl _)⟩, hr.2⟩) (run_arrays h m ρ hp)

end Cert.MoeDownRun

end
-- ==== Proof.MoeDownRef.lean ====
module

public import proofs.«01_k».proof.Defs
public import proofs.«01_k».proof.Proof.Gen.RefDownIdeal
public import proofs.«01_k».proof.Proof.Gen.RefDownIdeal.Run
public import proofs.«01_k».proof.Proof.MoeUpRef
public import Idealize.ShloMosaic.Lib.Pointwise
public import Idealize.ShloMosaic.Lib.StableHlo.Predicate

/-!
The second expert product: what it is at a row and a column, and the reference's result in those terms. The reference computes
every expert's product for every row and keeps the product of the row's own expert.
-/

@[expose] public section

set_option maxRecDepth 16384

noncomputable section
namespace Cert.MoeDownSpec

open Idealize.ShloMosaic Idealize.ShloMosaic.TcCoe Idealize.ShloMosaic.StableHlo Idealize.SL.Sem
open Cert.MoeUpSpec (tile expert used_iff ladder)

/-- The product at row `R` and column `f`: a row of a tile in use is multiplied by its expert's weight, the other rows are
    zero. -/
def at_ (T : (⟨1, ![41]⟩ : Shape).Idx → BitVec 32) (N : (⟨1, ![1]⟩ : Shape).Idx → BitVec 32) (x : (⟨2, ![20992, 5632]⟩ : Shape).Idx → EReal)
    (w : (⟨3, ![8, 5632, 2048]⟩ : Shape).Idx → EReal) (R : Fin 20992) (f : Fin 2048) : EReal :=
  if (tile R).val < (N (ix1 0)).toNat then
    ∑ k : Fin 5632, x (ix2 R k) * w (ix3 (expert T R) k f)
  else 0

/-! ## The reference -/

open Cert.RefDownIdeal Cert.RefDownIdeal.Gen Cert.RefDownIdeal.Value

/-- One expert's turn: rows of that expert take its product, the others keep what they had. -/
def turn (b : BitVec 32) (v7 : Vec Ideal S20992x1 .i32) (x : FVec Ideal S20992x5632 .f32) (w : FVec Ideal S5632x2048 .f32)
    (prior : FVec Ideal S20992x2048 .f32) : FVec Ideal S20992x2048 .f32 :=
  select (broadcastInDim S20992x2048 ![0, 1] bcast_S20992x1_S20992x2048_0_1 (cmpi .eq v7 (broadcastInDim S20992x1 ![] bcast_S_S20992x1 (constantI S_ 32 b))))
    (Host.dotGeneral (φ₁ := .f32) (φ₂ := .f32) dot_S20992x5632_S5632x2048_S20992x2048_1_0_0_1_n_n none x w)
    prior

theorem turn_at (b : BitVec 32) (v7 : Vec Ideal S20992x1 .i32) (x : FVec Ideal S20992x5632 .f32) (w : FVec Ideal S5632x2048 .f32)
    (prior : FVec Ideal S20992x2048 .f32) (R : Fin 20992) (f : Fin 2048) :
    turn b v7 x w prior (ix2 R f)
      = Scalar.select (Scalar.cmpi .eq (v7 (ix2 R 0)) b) (∑ k : Fin 5632, x (ix2 R k) * w (ix2 k f)) (prior (ix2 R f)) := by
  pointwise [turn]
  try rfl

/-- An expert's weight. -/
def wOf (w : FVec Ideal S8x5632x2048 .f32) (e : Fin 8) (hs : S8x5632x2048.Slices ![e.val, 0, 0] S1x5632x2048) : FVec Ideal S5632x2048 .f32 :=
  shapeCast _ (extractStridedSlice S1x5632x2048 ![e.val, 0, 0] w hs) shapeCasts_S1x5632x2048_S5632x2048

theorem wOf_at (w : FVec Ideal S8x5632x2048 .f32) (e : Fin 8) (hs : S8x5632x2048.Slices ![e.val, 0, 0] S1x5632x2048) (k : Fin 5632) (f : Fin 2048) :
    wOf w e hs (ix2 k f) = w (ix3 e k f) := by
  pointwise [wOf]

/-- The expert of every row, minus one for a row of a tile not in use. -/
def rows (T : Vec Ideal S41 .i32) (N : Vec Ideal S1 .i32) : Vec Ideal S20992x1 .i32 :=
  shapeCast _ (broadcastInDim S41x512 ![0, 1] bcast_S41x1_S41x512_0_1 (broadcastInDim S41x1 ![0] bcast_S41_S41x1_0
    (select (cmpi .slt (iotaInDim S41 32 0) (broadcastInDim S41 ![0] bcast_S1_S41_0 N)) T
      (broadcastInDim S41 ![] bcast_S_S41 (id (constantI S_ 32 4294967295#32)))))) shapeCasts_S41x512_S20992x1

theorem rows_at (T : Vec Ideal S41 .i32) (N : Vec Ideal S1 .i32) (R : Fin 20992) :
    rows T N (ix2 R 0) = Scalar.select (Scalar.cmpi .slt (BitVec.ofNat 32 (tile R).val) (N (ix1 0))) (T (ix1 (tile R))) (4294967295#32) := by
  pointwise [rows, tile]
  rfl

/-- The reference's result, of its four arguments. -/
def value (T : Vec Ideal S41 .i32) (N : Vec Ideal S1 .i32) (x : FVec Ideal S20992x5632 .bf16) (w : FVec Ideal S8x5632x2048 .f32) :
    FVec Ideal S20992x2048 .f32 :=
  turn 7#32 (rows T N) (extf .f32 x bitsLt_bf16_f32) (wOf w 7 slices_S8x5632x2048_S1x5632x2048_7_0_0)
    (turn 6#32 (rows T N) (extf .f32 x bitsLt_bf16_f32) (wOf w 6 slices_S8x5632x2048_S1x5632x2048_6_0_0)
    (turn 5#32 (rows T N) (extf .f32 x bitsLt_bf16_f32) (wOf w 5 slices_S8x5632x2048_S1x5632x2048_5_0_0)
    (turn 4#32 (rows T N) (extf .f32 x bitsLt_bf16_f32) (wOf w 4 slices_S8x5632x2048_S1x5632x2048_4_0_0)
    (turn 3#32 (rows T N) (extf .f32 x bitsLt_bf16_f32) (wOf w 3 slices_S8x5632x2048_S1x5632x2048_3_0_0)
    (turn 2#32 (rows T N) (extf .f32 x bitsLt_bf16_f32) (wOf w 2 slices_S8x5632x2048_S1x5632x2048_2_0_0)
    (turn 1#32 (rows T N) (extf .f32 x bitsLt_bf16_f32) (wOf w 1 slices_S8x5632x2048_S1x5632x2048_1_0_0)
    (turn 0#32 (rows T N) (extf .f32 x bitsLt_bf16_f32) (wOf w 0 slices_S8x5632x2048_S1x5632x2048_0_0_0)
      (broadcastInDim S20992x2048 ![] bcast_S_S20992x2048 (constant S_ .f32 0x00000000#32)))))))))

theorem value_at (T : Vec Ideal S41 .i32) (N : Vec Ideal S1 .i32) (x : FVec Ideal S20992x5632 .bf16) (w : FVec Ideal S8x5632x2048 .f32)
    (hT : ∀ y, BitVec.toNat (T y) < 8) (hN : ∀ y, BitVec.toNat (N y) < 2 ^ 31) (R : Fin 20992) (f : Fin 2048) :
    value T N x w (ix2 R f) = at_ T N x w R f := by
  have hv : rows T N (ix2 R 0) = if (tile R).val < (N (ix1 0)).toNat then BitVec.ofNat 32 (expert T R).val else 4294967295#32 := by
    rw [rows_at, used_iff _ (hN _)]
    have hx : T (ix1 (tile R)) = BitVec.ofNat 32 (expert T R).val := by
      apply BitVec.eq_of_toNat_eq
      have := hT (ix1 (tile R))
      rw [BitVec.toNat_ofNat]
      show _ = (T (ix1 (tile R))).toNat % 8 % _
      rw [Nat.mod_eq_of_lt this, Nat.mod_eq_of_lt (by omega)]
    rw [hx]
    by_cases hp : (tile R).val < (N (ix1 0)).toNat
    · rw [if_pos hp, decide_eq_true hp]; rfl
    · rw [if_neg hp, decide_eq_false hp]; rfl
  refine Eq.trans ?_ (ladder (fun e => ∑ k : Fin 5632, x (ix2 R k) * w (ix3 e k f))
    (rows T N (ix2 R 0)) 0 _ (expert T R) hv)
  unfold value
  simp only [turn_at, wOf_at]
  pointwise

end Cert.MoeDownSpec
end
-- ==== Proof.MoeDownValue.lean ====
module

public import proofs.«01_k».proof.Proof.MoeDownFrame
public import proofs.«01_k».proof.Proof.MoeDownRef
public import Idealize.ShloMosaic.Lib.Pointwise
public import Idealize.ShloMosaic.Lib.StableHlo.Predicate

/-!
The value of the experts' down call on the reals: after the run the output holds, at every row and column, the product of
that row with its expert's weight, and zero on the rows of the tiles not in use.
-/

@[expose] public section

set_option maxRecDepth 16384

noncomputable section
namespace Cert.MoeDownRun

open Cert.MoeDownIdeal Cert.MoeDownIdeal.Gen
open Idealize.ShloMosaic Idealize.ShloMosaic.TcCoe Idealize.SL.Sem
open Idealize.ShloMosaic.Pipeline (Dat Cfg Window)
open Cert.MoeUpSpec (tile expert)
open Cert.MoeDownSpec (at_)

/-! ## The payloads at an index -/

theorem pay1_at (g : Vec Ideal S1x5632x512 .f32) (k : Fin 5632) (q : Fin 512) : k0_pay1 g (ix2 k q) = g (ix3 0 k q) := by
  pointwise [k0_pay1]

theorem pay2_at (x : Vec Ideal S512x5632 .bf16) (w : Vec Ideal S5632x512 .bf16) (r q : Fin 512) :
    k0_pay2 x w (ix2 r q) = ∑ k : Fin 5632, x (ix2 r k) * w (ix2 k q) := by
  pointwise [k0_pay2]

theorem pay3_at (r q : Fin 512) : k0_pay3 (F := Ideal) (ix2 r q) = 0 := by
  pointwise [k0_pay3]

/-! ## The words of the tables at a point -/

section
variable {F : FTy → Type} [FloatOps F]
variable {T : S41.Idx → Elt F .i32} {N : S1.Idx → Elt F .i32}

theorem used_eq : wUsed (F := F) N = N (ix1 0) := by
  show N _ = N _
  exact congrArg N (funext fun a => Fin.ext (by
    match a with
    | ⟨0, _⟩ => rfl))

theorem here_eq (i : grid0.Coords) : wHere (F := F) i T = T (ix1 (⟨(i 1).val, lt_i1 i⟩ : Fin 41)) := by
  show T _ = T _
  refine congrArg T (funext fun a => Fin.ext ?_)
  have e := off1_eq i
  match a with
  | ⟨0, _⟩ =>
    show (k0_off1 i) 0 + 1 * 0 = (i 1).val
    rw [e]; rfl

theorem cond2_iff (i : grid0.Coords) (n : BitVec 32) (hn : n.toNat < 2 ^ 31) : k0_cond2 i n = 1#1 ↔ (i 1).val < n.toNat := by
  have h1 := lt_i1 i
  have ei : (BitVec.ofNat 32 (i 1).val).toInt = (i 1).val := by
    rw [BitVec.toInt_eq_toNat_of_lt (by rw [toNat_i1]; omega), toNat_i1]
  have en : n.toInt = n.toNat := BitVec.toInt_eq_toNat_of_lt (by omega)
  unfold k0_cond2
  simp only [Scalar.cmpi, IntOp.cmpi, BitVec.slt_eq_decide, ei, en]
  by_cases hh : (i 1).val < n.toNat
  · simp [hh, Scalar.extui]
  · simp [hh, Scalar.extui]

end

/-! ## The output -/

variable {T : S41.Idx → Elt Ideal .i32} {N : S1.Idx → Elt Ideal .i32} (h : TabOK (F := Ideal) T N)
variable (m : (ℓ : Loc nD τ sig) → Buf (Elt Ideal) ℓ) (ρ : Dev nD → PrngReg)

/-- The output array of the run. -/
def G (T : S41.Idx → Elt Ideal .i32) (N : S1.Idx → Elt Ideal .i32) (c : Dev nD) : S20992x2048.Idx → Elt Ideal .f32 := fun i =>
  at_ T N (m ((c.tc : Thread nD τ).loc main_arg2)) (m ((c.tc : Thread nD τ).loc main_arg3)) (i 0) (i 1)

include h in
theorem outB_at (c : Dev nD) (t : Fin (cfgA h).N) (r q : Fin 512) (R : Fin 20992) (f : Fin 2048)
    (hR : R.val = t.val % 41 * 512 + r.val) (hf : f.val = t.val / 41 * 512 + q.val) :
    outB h m c t (ix2 r q) = at_ T N (m ((c.tc : Thread nD τ).loc main_arg2)) (m ((c.tc : Thread nD τ).loc main_arg3)) R f := by
  have c0 := coords_val t
  have e0 : (crd h t 0).val = t.val / 41 := c0.1
  have e1 : (crd h t 1).val = t.val % 41 := c0.2
  have hm : t.val % 41 < 41 := Nat.mod_lt _ (by decide)
  have ht : (tile R).val = (crd h t 1).val := by rw [e1]; show R.val / 512 = _; omega
  have hu := used_ok h
  have hb := cond2_iff (crd h t) (wUsed (F := Ideal) N) hu.2
  rw [used_eq] at hu
  unfold outB outV at_
  by_cases hp : (tile R).val < BitVec.toNat (N (ix1 0))
  · rw [if_pos hp, if_pos (hb.2 (by rw [used_eq, ← ht]; exact hp)), pay2_at]
    have hw : BitVec.toNat (wHere (F := Ideal) (crd h t) T) = (expert T R).val := by
      rw [here_eq]
      have hx := h.1 (ix1 (tile R))
      show _ = BitVec.toNat (T (ix1 (tile R))) % 8
      rw [Nat.mod_eq_of_lt hx]
      exact congrArg (fun z => BitVec.toNat (T (ix1 z))) (Fin.ext ht.symm)
    have hx : ∀ k : Fin 5632, xB h m c t (ix2 r k) = m ((c.tc : Thread nD τ).loc main_arg2) (ix2 R k) := fun k => by
      refine xB_apply h m c t _ _ fun a => ?_
      rw [tix0, used_eq, Cert.MoeUpRun.minsi_toNat _ _ (by rw [toNat_i1]; exact lt_i1 _) hu.1 hu.2, toNat_i1, e1]
      match a with
      | ⟨0, _⟩ => show R.val = min (t.val % 41) _ * 512 + r.val; omega
      | ⟨1, _⟩ => show k.val = 0 * 5632 + k.val; omega
    have hi : ∀ (k : Fin 5632) (a : Fin 3), ((ix3 (expert T R) k f : S8x5632x2048.Idx) a).val
        = cc0_transform_1 (F := Ideal) k0_off1_inb numel1_S1 (pf T N) (crd h t) a * S1x5632x512.size a + ((ix3 0 k q : S1x5632x512.Idx) a).val := fun k a => by
      rw [tix1, hw, toNat_i0, e0]
      match a with
      | ⟨0, _⟩ => show (expert T R).val = (expert T R).val * 1 + 0; omega
      | ⟨1, _⟩ => show k.val = 0 * 5632 + k.val; omega
      | ⟨2, _⟩ => show f.val = t.val / 41 * 512 + q.val; omega
    exact Finset.sum_congr rfl fun k _ => Ideal.mul_congr (hx k) ((pay1_at _ k q).trans (gB_apply h m c t _ _ (hi k)))
  · rw [if_neg hp, if_neg (fun hc => hp (by have := hb.1 hc; rw [used_eq, ← ht] at this; exact this)), pay3_at]

theorem flush_out_all (t : Fin (cfgA h).N) : ((cfgA h).win (2 : Fin 3)).flush t = true :=
  (Pipeline.Window.flush_reads ((cfgA h).win (2 : Fin 3)) rfl (1 : Fin 2) (show 1 < grid0.bound 1 by decide) (by rfl)
    (Pipeline.Window.sep_of_coord cc0_transform_2 1 0 (fun _ => rfl) (by decide)) (P := 1) (m := 0) (show grid0.stride 1 = 1 by decide) rfl t).mpr (Nat.mod_one _)

theorem out_index (t : Fin (cfgA h).N) : ((cfgA h).win (2 : Fin 3)).index t = ![t.val % 41, t.val / 41] := by
  have c0 := coords_val t
  show ![(BitVec.ofNat 32 (crd h t 1).val).toNat, (BitVec.ofNat 32 (crd h t 0).val).toNat] = _
  rw [toNat_i0, toNat_i1]
  exact congrArg₂ (fun a b : ℕ => ![a, b]) c0.2 c0.1

/-- The output's blocks cover the array. -/
theorem out_cover (i : S20992x2048.Idx) : ∃ t : Fin (cfgA h).N, ((cfgA h).win (2 : Fin 3)).flush t = true
    ∧ i ∈ (((cfgA h).win (2 : Fin 3)).blk t).view.set := by
  have h0 : (i 0).val < 20992 := (i 0).isLt
  have h1 : (i 1).val < 2048 := (i 1).isLt
  have hN : (cfgA h).N = 164 := by show grid0.N = 164; decide +kernel
  let t : Fin (cfgA h).N := ⟨(i 1).val / 512 * 41 + (i 0).val / 512, by rw [hN]; omega⟩
  refine ⟨t, flush_out_all h t, ?_⟩
  refine (Pipeline.Window.emb_mem_blk_iff ((cfgA h).win (2 : Fin 3)) t i rfl).mpr fun a => ?_
  rw [out_index]
  match a with
  | ⟨0, _⟩ =>
    show ((i 1).val / 512 * 41 + (i 0).val / 512) % 41 * 512 ≤ (i 0).val ∧ (i 0).val < ((i 1).val / 512 * 41 + (i 0).val / 512) % 41 * 512 + 512
    omega
  | ⟨1, _⟩ =>
    show ((i 1).val / 512 * 41 + (i 0).val / 512) / 41 * 512 ≤ (i 1).val ∧ (i 1).val < ((i 1).val / 512 * 41 + (i 0).val / 512) / 41 * 512 + 512
    omega

theorem outA_eq (c : Dev nD) : outA h m c = G m T N c := by
  refine (dats h m 0 c).arrAt_eq_of_emb (2 : Fin 3) (G m T N c) (fun t _ y => ?_) (out_cover h)
  show outB h m c t y = G m T N c ((((cfgA h).win (2 : Fin 3)).rect t).emb y)
  have hy : (y : S512x512.Idx) = ix2 (y 0) (y 1) := by
    funext a
    match a with
    | ⟨0, _⟩ => rfl
    | ⟨1, _⟩ => rfl
  have ev := fun a => Pipeline.Window.rect_emb_val ((cfgA h).win (2 : Fin 3)) t y a
  refine (congrArg (outB h m c t) hy).trans (outB_at h m c t (y 0) (y 1) _ _ ((ev 0).trans ?_) ((ev 1).trans ?_))
  · show ((cfgA h).win (2 : Fin 3)).index t 0 * 512 + _ = _
    rw [out_index]; rfl
  · show ((cfgA h).win (2 : Fin 3)).index t 1 * 512 + _ = _
    rw [out_index]; rfl

end Cert.MoeDownRun
end
-- ==== Proof.MoeDownClaim.lean ====
module

public import proofs.«01_k».proof.Defs
public import proofs.«01_k».proof.Proof.Gen.MoeDown
public import proofs.«01_k».proof.Proof.MoeUpClaim
public import proofs.«01_k».proof.Proof.Gen.Pre_tables_down
public import proofs.«01_k».proof.Proof.MoeDownValue

/-!
The claims of the experts' down call: both frames from the one run, the reference's frame, and the value.
-/

@[expose] public section

set_option maxRecDepth 16384

noncomputable section
namespace Cert.Proof

open Idealize.ShloMosaic Idealize.ShloMosaic.TcCoe Idealize.SL.Sem

section
variable {F : FTy → Type} [FloatOps F]

/-- What the precondition says of the two tables. -/
theorem down_tables (T : (⟨1, ![41]⟩ : Shape).Idx → BitVec 32) (N : (⟨1, ![1]⟩ : Shape).Idx → BitVec 32) (x w)
    (h : Cert.Pre_tables_down.fn (F := F) T N x w = fun _ => 1#1) : Cert.MoeDownRun.TabOK (F := F) T N := by
  have e : ∀ j : Fin 41, ((0#32).sle (T (ix1 j)) = true ∧ (T (ix1 j)).slt 8#32 = true) ∧ (1#32).sle (N (ix1 0)) = true := fun j => by
    have hj := congrFun h (ix1 j)
    have hj' : Scalar.andi (Scalar.andi (BitVec.ofBool ((0#32).sle (T (ix1 j)))) (BitVec.ofBool ((T (ix1 j)).slt 8#32))) (BitVec.ofBool ((1#32).sle (N (ix1 0)))) = 1#1 := by
      refine Eq.trans ?_ hj
      pointwise [Cert.Pre_tables_down.fn]
      rfl
    generalize (0#32).sle (T (ix1 j)) = a at hj' ⊢
    generalize (T (ix1 j)).slt 8#32 = b at hj' ⊢
    generalize (1#32).sle (N (ix1 0)) = d at hj' ⊢
    revert hj'; revert a b d; decide
  have ix : ∀ y : (⟨1, ![41]⟩ : Shape).Idx, y = ix1 (y 0) := fun y => eq_ix1 y
  have iy : ∀ y : (⟨1, ![1]⟩ : Shape).Idx, y = ix1 0 := fun y => (eq_ix1 y).trans (congrArg ix1 (Subsingleton.elim (α := Fin 1) (y 0) 0))
  refine ⟨fun y => ?_, fun y => ?_⟩
  · rw [ix y]
    exact word_lt _ (e (y 0)).1.1 (e (y 0)).1.2
  · rw [iy y]
    exact word_pos _ (e 0).2

end

/-- The device. -/
abbrev downDev : Dev Cert.MoeDownIdeal.nD := (0 : Fin 1)

theorem down_dev (c : Dev Cert.MoeDownIdeal.nD) : c = downDev := Subsingleton.elim (α := Fin 1) c 0

theorem down_holds {F : FTy → Type} (m : (ℓ : Loc Cert.MoeDownIdeal.nD Cert.MoeDownIdeal.τ Cert.MoeDownIdeal.sig) → Buf (Elt F) ℓ) :
    Cert.MoeDownRun.Holds (m ((downDev.tc : Thread Cert.MoeDownIdeal.nD Cert.MoeDownIdeal.τ).loc Cert.MoeDownIdeal.main_arg0))
      (m ((downDev.tc : Thread Cert.MoeDownIdeal.nD Cert.MoeDownIdeal.τ).loc Cert.MoeDownIdeal.main_arg1)) m :=
  ⟨fun c => by rw [down_dev c], fun c => by rw [down_dev c]⟩

/-- The two programs' kernel functions are one table. -/
theorem down_defs₀ : Cert.MoeDown.defs₀ (F := Bits) = Cert.MoeDownIdeal.defs₀ (F := Bits) := by
  unfold Cert.MoeDown.defs₀ Cert.MoeDownIdeal.defs₀
  refine congrArg (Idealize.ShloMosaic.Defs.onTc (nD := Cert.MoeDownIdeal.nD) (τ := Cert.MoeDownIdeal.τ) (sig := Cert.MoeDownIdeal.sig) (Val := Elt Bits) (Λ := Cert.MoeDownIdeal.Λ₀)) ?_
  funext l x
  obtain ⟨l, hl⟩ := l
  obtain rfl : l = 0 := by omega
  obtain ⟨t, s⟩ := x
  rfl

theorem down_defs : Cert.MoeDown.defs (F := Bits) = Cert.MoeDownIdeal.defs (F := Bits) :=
  congrArg (Pipeline.defs (Cert.MoeDownIdeal.pcfgs (F := Bits))) down_defs₀

/-- The run at the float words, under any name of the body table. -/
theorem down_run_bits (m : (ℓ : Loc Cert.MoeDownIdeal.nD Cert.MoeDownIdeal.τ Cert.MoeDownIdeal.sig) → Buf (Elt Bits) ℓ) (g : Dev Cert.MoeDownIdeal.nD → PrngReg)
    (D : Defs Cert.MoeDownIdeal.nD Cert.MoeDownIdeal.τ Cert.MoeDownIdeal.sig (Elt Bits) _) (hD : D = Cert.MoeDownIdeal.defs (F := Bits))
    (hT : Cert.MoeDownRun.TabOK (F := Bits) (m ((downDev.tc : Thread Cert.MoeDownIdeal.nD Cert.MoeDownIdeal.τ).loc Cert.MoeDownIdeal.main_arg0))
      (m ((downDev.tc : Thread Cert.MoeDownIdeal.nD Cert.MoeDownIdeal.τ).loc Cert.MoeDownIdeal.main_arg1))) :
    θ_run D (onTc (τ := Cert.MoeDownIdeal.τ) (Cert.MoeDownIdeal.main (F := Bits))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0) := by
  subst hD
  exact (θ_run Cert.MoeDownIdeal.defs _ _).mono (fun _ h => ⟨fun c => (h.1 c).2, h.2⟩) (Cert.MoeDownRun.run_main (F := Bits) hT m g (down_holds m))

theorem down_frame : Cert.quiescent_MoeDown (hMoeDown := Cert.MoeDown.Gen.facts) (hPre_tables_down := Cert.Pre_tables_down.Gen.facts) := fun m g hp =>
  down_run_bits m g (Cert.MoeDown.defs (F := Bits)) down_defs (down_tables (F := Bits) _ _ _ _ (hp downDev))

theorem down_frame_ideal : Cert.quiescent_MoeDownIdeal (hMoeDownIdeal := Cert.MoeDownIdeal.Gen.facts) (hPre_tables_down := Cert.Pre_tables_down.Gen.facts) := fun m g hp =>
  (θ_run Cert.MoeDownIdeal.defs _ _).mono (fun _ h => ⟨fun c => (h.1 c).2, h.2⟩)
    (Cert.MoeDownRun.run_main (F := Ideal) (down_tables _ _ _ _ (hp downDev)) m g (down_holds m))

theorem down_reference : Cert.quiescent_RefDownIdeal (hRefDownIdeal := Cert.RefDownIdeal.Gen.facts) := fun m g _ =>
  (θ_run Cert.RefDownIdeal.defs _ _).mono (fun r h => ⟨fun c => (h c).2, Idealize.ShloMosaic.sem_eq_zero_of_no_sems (by decide) r.2⟩)
    (Cert.RefDownIdeal.Value.run m g)

theorem down_reference_pre : Cert.quiescent_RefDownIdeal_pre_tables_down (hRefDownIdeal := Cert.RefDownIdeal.Gen.facts) (hPre_tables_down := Cert.Pre_tables_down.Gen.facts) :=
  fun m g _ => down_reference m g trivial

/-- The reference's result at an index is the kernel's. -/
theorem down_eq (T : (⟨1, ![41]⟩ : Shape).Idx → BitVec 32) (N : (⟨1, ![1]⟩ : Shape).Idx → BitVec 32)
    (h : Cert.MoeDownRun.TabOK (F := Ideal) T N) (x w) (i : (⟨2, ![20992, 2048]⟩ : Shape).Idx) :
    Cert.MoeDownSpec.value T N x w i = Cert.MoeDownSpec.at_ T N x w (i 0) (i 1) :=
  (congrArg _ (eq_ix2 i)).trans (Cert.MoeDownSpec.value_at T N x w h.1 (fun y => (h.2 y).2) (i 0) (i 1))

theorem down : Cert.algebraic_MoeDownIdeal_RefDownIdeal (hMoeDownIdeal := Cert.MoeDownIdeal.Gen.facts) (hRefDownIdeal := Cert.RefDownIdeal.Gen.facts)
    (hPre_tables_down := Cert.Pre_tables_down.Gen.facts) := by
  intro m g m' g' hp hagree
  have hT := down_tables (F := Ideal) _ _ _ _ (hp downDev)
  refine ⟨fun c => Cert.MoeDownRun.outA hT m c,
    (θ_run Cert.MoeDownIdeal.defs _ _).mono (fun _ h => h.1) (Cert.MoeDownRun.run_main (F := Ideal) hT m g (down_holds m)),
    (θ_run Cert.RefDownIdeal.defs _ _).mono (fun r h c => ⟨(h c).1.trans ?_, (h c).2⟩) (Cert.RefDownIdeal.Value.run m' g')⟩
  refine Eq.trans ?_ (Cert.MoeDownRun.outA_eq hT m c).symm
  obtain ⟨h0, h1, h2, h3⟩ := hagree c
  obtain rfl := down_dev c
  refine Eq.trans (b := Cert.MoeDownSpec.value (m' ((downDev.tc : Thread Cert.RefDownIdeal.nD Cert.RefDownIdeal.τ).loc Cert.RefDownIdeal.main_arg0))
    (m' ((downDev.tc : Thread Cert.RefDownIdeal.nD Cert.RefDownIdeal.τ).loc Cert.RefDownIdeal.main_arg1)) (m' ((downDev.tc : Thread Cert.RefDownIdeal.nD Cert.RefDownIdeal.τ).loc Cert.RefDownIdeal.main_arg2))
    (m' ((downDev.tc : Thread Cert.RefDownIdeal.nD Cert.RefDownIdeal.τ).loc Cert.RefDownIdeal.main_arg3))) rfl ?_
  funext i
  rw [h0, h1, h2, h3]
  exact down_eq _ _ hT _ _ i

end Cert.Proof
end
-- ==== Proof.GluValue.lean ====
module

public import proofs.«01_k».proof.Proof.Gen.GluIdeal.Value
public import proofs.«01_k».proof.Proof.MoeUpRef
public import Idealize.ShloMosaic.Lib.Pointwise
public import Idealize.ShloMosaic.Lib.VecWindow

/-!
The value of the dense feed-forward's up call on the reals: after the run the output holds, at every row and column, the gated
product of that row with the two weights.
-/

@[expose] public section

set_option maxRecDepth 16384

noncomputable section
namespace Cert.GluRun

open Cert.GluIdeal Cert.GluIdeal.Gen
open Idealize.ShloMosaic Idealize.ShloMosaic.TcCoe Idealize.SL.Sem
open Idealize.ShloMosaic.Pipeline (Dat Cfg Window)
open Cert.MoeUpSpec (glu)

/-! ## The payloads at an index -/

theorem pay1_at (g : Vec Ideal S2048x512 .f32) (k : Fin 2048) (q : Fin 512) : k0_pay1 g (ix2 k q) = g (ix2 k q) := by
  pointwise [k0_pay1]

theorem pay2_at (g : Vec Ideal S2048x512 .f32) (k : Fin 2048) (q : Fin 512) : k0_pay2 g (ix2 k q) = g (ix2 k q) := by
  pointwise [k0_pay2]

theorem pay3_at (x : Vec Ideal S1040x2048 .bf16) (w u : Vec Ideal S2048x512 .bf16) (r : Fin 1040) (q : Fin 512) :
    k0_pay3 x w u (ix2 r q) = glu (∑ k : Fin 2048, x (ix2 r k) * w (ix2 k q)) (∑ k : Fin 2048, x (ix2 r k) * u (ix2 k q)) := by
  pointwise [k0_pay3, glu]
  simp only [zero_add, zero_sub]

/-! ## What a point leaves -/

section
variable {F : FTy → Type} [FloatOps F]
variable (m : (ℓ : Loc nD τ sig) → Buf (Elt F) ℓ)

/-- A load of a whole buffer reads what it holds. -/
theorem ld_eq {sp : Space} {s : Shape} {e : EltTy} (M : Memref sig .tc sp s e) (hM : M.IsWhole) (x : Vec F s e) {off : Fin s.rank → ℕ}
    (inb : ∀ a, off a + s.size a ≤ s.size a) : M.view.readAt (Elt F) (Rect.unit off s.size inb).toLoadRect (hM.unread x) = x :=
  (View.readAt_full _ _ _).trans (hM.read_unread x)

theorem left_A (c : Dev nD) (t : Fin cfg0.N) (h0 : t.val % 8 = 0) :
    outsAt0 m c t.val t.isLt = (k0_pay3 (iblk m c 0 t) (k0_pay1 (iblk m c 1 t)) (k0_pay2 (iblk m c 2 t)), k0_pay1 (iblk m c 1 t), k0_pay2 (iblk m c 2 t)) := by
  rw [outsAt0_A m c t h0]
  refine Prod.ext ?_ (Prod.ext ?_ ?_)
  · dsimp only [out0_A_3, kernelRun0_A]
    rw [View.read_writes_full]
    exact congr (congrArg₂ k0_pay3 (ld_eq _ _ _ _) ((View.readCov_full _ _ _ _ _).trans (congrArg k0_pay1 (ld_eq _ _ _ _))))
      ((View.readCov_full _ _ _ _ _).trans (congrArg k0_pay2 (ld_eq _ _ _ _)))
  · dsimp only [sout0_A_0, kernelRun0_A, kernelRun0_A.sl.HS0_1]
    rw [View.read_writes_full]
    exact congrArg k0_pay1 (ld_eq _ _ _ _)
  · dsimp only [sout0_A_1, kernelRun0_A, kernelRun0_A.sl.HS1_1]
    rw [View.read_writes_full]
    exact congrArg k0_pay2 (ld_eq _ _ _ _)

theorem left_B (c : Dev nD) (t : Fin cfg0.N) (h0 : ¬t.val % 8 = 0) (p : Vec F S1040x512 .bf16 × Vec F S2048x512 .bf16 × Vec F S2048x512 .bf16) :
    Value.stAt0 m c t.val t.isLt p = (k0_pay3 (iblk m c 0 t) p.2.1 p.2.2, p.2.1, p.2.2) := by
  rw [Value.stAt0_B m c t p h0]
  refine Prod.ext ?_ (Prod.ext rfl rfl)
  dsimp only [out0_B_3, kernelRun0_B]
  rw [View.read_writes_full]
  exact congr (congrArg₂ k0_pay3 (ld_eq _ _ _ _) (ld_eq scM0_0 _ _ _)) (ld_eq scM0_1 _ _ _)

theorem index0 : ∀ t : Fin grid0.N, win0_0.index t 0 = t.val % 8 ∧ win0_0.index t 1 = 0 := by decide +kernel
theorem index1 : ∀ t : Fin grid0.N, win0_1.index t 0 = 0 ∧ win0_1.index t 1 = t.val / 8 := by decide +kernel
theorem index2 : ∀ t : Fin grid0.N, win0_2.index t 0 = 0 ∧ win0_2.index t 1 = t.val / 8 := by decide +kernel

/-! ## The blocks of the arguments -/

theorem x_at (c : Dev nD) (t : Fin cfg0.N) (r : Fin 1040) (k : Fin 2048) (R : Fin 8320) (hR : R.val = t.val % 8 * 1040 + r.val) :
    iblk m c 0 t (ix2 r k) = m ((c.tc : Thread nD τ).loc main_arg0) (ix2 R k) := by
  obtain ⟨e0, e1⟩ := index0 t
  refine Eq.trans (congrArg (V m c main_arg0) (funext fun a => Fin.ext ?_)) (congrFun (V_main_arg0 m c) (ix2 R k))
  refine (Pipeline.Window.rect_emb_val win0_0 t _ a).trans ?_
  match a with
  | ⟨0, _⟩ => show win0_0.index t 0 * 1040 + r.val = R.val; rw [e0, hR]
  | ⟨1, _⟩ => show win0_0.index t 1 * 2048 + k.val = k.val; rw [e1]; omega

theorem w_at (c : Dev nD) (t : Fin cfg0.N) (k : Fin 2048) (q : Fin 512) (f : Fin 5632) (hf : f.val = t.val / 8 * 512 + q.val) :
    iblk m c 1 t (ix2 k q) = m ((c.tc : Thread nD τ).loc main_arg1) (ix2 k f) := by
  obtain ⟨e0, e1⟩ := index1 t
  refine Eq.trans (congrArg (V m c main_arg1) (funext fun a => Fin.ext ?_)) (congrFun (V_main_arg1 m c) (ix2 k f))
  refine (Pipeline.Window.rect_emb_val win0_1 t _ a).trans ?_
  match a with
  | ⟨0, _⟩ => show win0_1.index t 0 * 2048 + k.val = k.val; rw [e0]; omega
  | ⟨1, _⟩ => show win0_1.index t 1 * 512 + q.val = f.val; rw [e1, hf]

theorem u_at (c : Dev nD) (t : Fin cfg0.N) (k : Fin 2048) (q : Fin 512) (f : Fin 5632) (hf : f.val = t.val / 8 * 512 + q.val) :
    iblk m c 2 t (ix2 k q) = m ((c.tc : Thread nD τ).loc main_arg2) (ix2 k f) := by
  obtain ⟨e0, e1⟩ := index2 t
  refine Eq.trans (congrArg (V m c main_arg2) (funext fun a => Fin.ext ?_)) (congrFun (V_main_arg2 m c) (ix2 k f))
  refine (Pipeline.Window.rect_emb_val win0_2 t _ a).trans ?_
  match a with
  | ⟨0, _⟩ => show win0_2.index t 0 * 2048 + k.val = k.val; rw [e0]; omega
  | ⟨1, _⟩ => show win0_2.index t 1 * 512 + q.val = f.val; rw [e1, hf]

end

/-! ## The output -/

variable (m : (ℓ : Loc nD τ sig) → Buf (Elt Ideal) ℓ)

/-- After every point the two scratch buffers hold the columns of the two weights that the point multiplies by: the first point of
    a run of eight fills them, the other seven keep them. -/
theorem kept (c : Dev nD) (n : ℕ) (hn : n < cfg0.N) (k : Fin 2048) (q : Fin 512) (f : Fin 5632) (hf : f.val = n / 8 * 512 + q.val) :
    (outsAt0 m c n hn).2.1 (ix2 k q) = m ((c.tc : Thread nD τ).loc main_arg1) (ix2 k f)
      ∧ (outsAt0 m c n hn).2.2 (ix2 k q) = m ((c.tc : Thread nD τ).loc main_arg2) (ix2 k f) := by
  induction n with
  | zero =>
    rw [show outsAt0 m c 0 hn = _ from left_A m c ⟨0, hn⟩ rfl]
    exact ⟨(pay1_at _ k q).trans (w_at m c ⟨0, hn⟩ k q f hf), (pay2_at _ k q).trans (u_at m c ⟨0, hn⟩ k q f hf)⟩
  | succ n ih =>
    by_cases h0 : (n + 1) % 8 = 0
    · rw [show outsAt0 m c (n + 1) hn = _ from left_A m c ⟨n + 1, hn⟩ h0]
      exact ⟨(pay1_at _ k q).trans (w_at m c ⟨n + 1, hn⟩ k q f hf), (pay2_at _ k q).trans (u_at m c ⟨n + 1, hn⟩ k q f hf)⟩
    · rw [Value.outsAt0_succ, show Value.stAt0 m c (n + 1) hn _ = _ from left_B m c ⟨n + 1, hn⟩ h0 _]
      exact ih _ (by omega)

theorem left_eq (c : Dev nD) (t : Fin cfg0.N) :
    (outsAt0 m c t.val t.isLt).1 = k0_pay3 (iblk m c 0 t) (outsAt0 m c t.val t.isLt).2.1 (outsAt0 m c t.val t.isLt).2.2 := by
  by_cases h0 : t.val % 8 = 0
  · rw [left_A m c t h0]
  · obtain ⟨n, hn⟩ := t
    cases n with
    | zero => exact absurd rfl h0
    | succ n =>
      show (outsAt0 m c (n + 1) hn).1 = k0_pay3 _ (outsAt0 m c (n + 1) hn).2.1 (outsAt0 m c (n + 1) hn).2.2
      rw [Value.outsAt0_succ, show Value.stAt0 m c (n + 1) hn _ = _ from left_B m c ⟨n + 1, hn⟩ h0 _]

/-- The output at row `R` and column `f`. -/
def at_ (x : (⟨2, ![8320, 2048]⟩ : Shape).Idx → EReal) (w u : (⟨2, ![2048, 5632]⟩ : Shape).Idx → EReal) (R : Fin 8320) (f : Fin 5632) : EReal :=
  glu (∑ k : Fin 2048, x (ix2 R k) * w (ix2 k f)) (∑ k : Fin 2048, x (ix2 R k) * u (ix2 k f))

theorem result_at (c : Dev nD) (R : Fin 8320) (f : Fin 5632) :
    Value.G3 m c (ix2 R f) = at_ (m ((c.tc : Thread nD τ).loc main_arg0)) (m ((c.tc : Thread nD τ).loc main_arg1))
      (m ((c.tc : Thread nD τ).loc main_arg2)) R f := by
  have hp : Value.pt3Of (ix2 R f) = R.val / 1040 + 8 * (f.val / 512) := by
    show 1 * (R.val / 1040 - 0) + 8 * (f.val / 512 - 0) = _
    omega
  have hN : cfg0.N = 88 := N_0
  have hlt : Value.pt3Of (ix2 R f) < cfg0.N := by rw [hp, hN]; omega
  unfold Value.G3
  rw [dif_pos hlt, ← Value.outsAt0_sweep m c _ hlt]
  have hl : Value.loc3Of (ix2 R f) = ix2 (⟨R.val % 1040, Nat.mod_lt _ (by decide)⟩ : Fin 1040) (⟨f.val % 512, Nat.mod_lt _ (by decide)⟩ : Fin 512) := by
    funext a
    match a with
    | ⟨0, _⟩ => rfl
    | ⟨1, _⟩ => rfl
  refine (congrFun (left_eq m c ⟨_, hlt⟩) _).trans ?_
  rw [hl, pay3_at]
  have hf : f.val = Value.pt3Of (ix2 R f) / 8 * 512 + f.val % 512 := by rw [hp]; omega
  have hR : R.val = Value.pt3Of (ix2 R f) % 8 * 1040 + R.val % 1040 := by rw [hp]; omega
  refine congrArg₂ glu (Finset.sum_congr rfl fun k _ => ?_) (Finset.sum_congr rfl fun k _ => ?_)
  · exact Ideal.mul_congr (x_at m c ⟨_, hlt⟩ _ k R hR) (kept m c _ hlt k _ f hf).1
  · exact Ideal.mul_congr (x_at m c ⟨_, hlt⟩ _ k R hR) (kept m c _ hlt k _ f hf).2

end Cert.GluRun
end
-- ==== Proof.GluRef.lean ====
module

public import proofs.«01_k».proof.Defs
public import proofs.«01_k».proof.Proof.Gen.RefGluIdeal.Run
public import proofs.«01_k».proof.Proof.GluValue
public import Idealize.ShloMosaic.Lib.StableHlo.Predicate

/-!
The dense feed-forward's up call: the reference's result at a row and a column, and the claims of the call.
-/

@[expose] public section

set_option maxRecDepth 16384

noncomputable section
namespace Cert.GluRef

open Cert.RefGluIdeal Cert.RefGluIdeal.Gen
open Idealize.ShloMosaic Idealize.ShloMosaic.TcCoe Idealize.ShloMosaic.StableHlo Idealize.SL.Sem
open Cert.MoeUpSpec (glu)
open Cert.GluRun (at_)

/-- The reference's result, of its three arguments. -/
def value (x : FVec Ideal S8320x2048 .bf16) (w u : FVec Ideal S2048x5632 .f32) : FVec Ideal S8320x5632 .bf16 :=
  truncf .bf16 (mulf (mulf (Host.dotGeneral dot_S8320x2048_S2048x5632_S8320x5632_1_0_0_1_n_n none (extf .f32 x bitsLt_bf16_f32) w)
      (Host.divf (broadcastInDim S8320x5632 ![] bcast_S_S8320x5632 (constant S_ .f32 0x3F800000#32))
        (addf (broadcastInDim S8320x5632 ![] bcast_S_S8320x5632 (constant S_ .f32 0x3F800000#32))
          (Host.exp (Host.negf (Host.dotGeneral dot_S8320x2048_S2048x5632_S8320x5632_1_0_0_1_n_n none (extf .f32 x bitsLt_bf16_f32) w))))))
    (Host.dotGeneral dot_S8320x2048_S2048x5632_S8320x5632_1_0_0_1_n_n none (extf .f32 x bitsLt_bf16_f32) u)) bitsLt_bf16_f32

theorem value_at (x : FVec Ideal S8320x2048 .bf16) (w u : FVec Ideal S2048x5632 .f32) (R : Fin 8320) (f : Fin 5632) :
    value x w u (ix2 R f) = at_ x w u R f := by
  pointwise [value, at_, glu]
  try rfl

theorem claim_reference : Cert.quiescent_RefGluIdeal (hRefGluIdeal := Cert.RefGluIdeal.Gen.facts) := by
  letI := Cert.RefGluIdeal.Gen.facts
  intro m g _
  exact (θ_run Cert.RefGluIdeal.defs _ _).mono (fun r h => ⟨fun c => (h c).2, Idealize.ShloMosaic.sem_eq_zero_of_no_sems (by decide) r.2⟩)
    (Cert.RefGluIdeal.Value.run m g)

/-- The kernel's output and the reference's are one array of the arguments. -/
theorem claim_value : Cert.algebraic_GluIdeal_RefGluIdeal (hGluIdeal := Cert.GluIdeal.Gen.facts) (hRefGluIdeal := Cert.RefGluIdeal.Gen.facts) := by
  letI := Cert.GluIdeal.Gen.facts
  letI := Cert.RefGluIdeal.Gen.facts
  intro m g m' g' _ hagree
  refine ⟨fun c => Cert.GluIdeal.Value.G3 m c, Cert.GluIdeal.Value.run m g,
    (θ_run Cert.RefGluIdeal.defs _ _).mono (fun r h c => ⟨(h c).1.trans (funext fun i => ?_), (h c).2⟩) (Cert.RefGluIdeal.Value.run m' g')⟩
  obtain ⟨h0, h1, h2⟩ := hagree c
  have hi : i = ix2 (i 0) (i 1) := by
    funext a
    match a with
    | ⟨0, _⟩ => rfl
    | ⟨1, _⟩ => rfl
  rw [h0, h1, h2, hi]
  exact (value_at _ _ _ (i 0) (i 1)).trans (Cert.GluRun.result_at m c (i 0) (i 1)).symm

end Cert.GluRef
end
-- ==== Proof.RowMask.lean ====
module

public import Idealize.ShloMosaic.Lib.Pointwise
public import Idealize.ShloMosaic.Lib.StableHlo.Predicate

/-!
The mask of the padding rows, as the calls that add a product to the residual compute it and as the references do: one on a row of a
sequence, zero on the forty-eight rows before it.
-/

@[expose] public section

set_option maxRecDepth 16384

noncomputable section
namespace Cert.RowMask

open Idealize.ShloMosaic

/-- One on a row of a sequence, zero on the padding rows. -/
def valid (n : ℕ) : EReal := if 48 ≤ n % 4160 then 1 else 0

/-- The remainder of a word by the length of a sequence, as a kernel computes it. -/
def rem (w : BitVec 32) : BitVec 32 :=
  let v6 : BitVec 32 := Scalar.select (Scalar.cmpi .eq 4160#32 0#32) 1#32 4160#32
  let v7 : BitVec 32 := Scalar.remsi w v6
  Scalar.select (Scalar.andi (Scalar.xori (Scalar.cmpi .slt v7 0#32) (Scalar.cmpi .slt v6 0#32)) (Scalar.cmpi .ne v7 0#32)) (Scalar.addi v7 v6) v7

/-- The kernel's mask of row `r` of a tile whose first row is word `w` of its sequence. -/
def word (w : BitVec 32) (r : ℕ) : EReal :=
  FloatOps.sitofp (F := Ideal) FTy.f32 (BitVec.setWidth 32 (IntOp.cmpi .sge (IntOp.addi w (BitVec.ofNat 32 r)) 48#32))

theorem bit_eq (n : ℕ) (hn : n < 4160) : IntOp.cmpi .sge (BitVec.ofNat 32 n) 48#32 = BitVec.ofBool (decide (48 ≤ n)) := by
  have hx : (BitVec.ofNat 32 n).toNat = n := by rw [BitVec.toNat_ofNat]; exact Nat.mod_eq_of_lt (by omega)
  show BitVec.ofBool (BitVec.sle _ _) = _
  rw [BitVec.sle_eq_decide, BitVec.toInt_eq_toNat_of_lt (x := BitVec.ofNat 32 n) (by rw [hx]; omega), hx]
  exact congrArg BitVec.ofBool (decide_eq_decide.mpr (by show (48 : ℤ) ≤ (n : ℤ) ↔ _; omega))

theorem mask_eq (n : ℕ) (hn : n < 4160) :
    FloatOps.sitofp (F := Ideal) FTy.f32 (BitVec.setWidth 32 (IntOp.cmpi .sge (BitVec.ofNat 32 n) 48#32)) = if 48 ≤ n then 1 else 0 := by
  rw [bit_eq n hn]
  by_cases h : 48 ≤ n
  · rw [decide_eq_true h, if_pos h]
    show (((BitVec.setWidth 32 (BitVec.ofBool true)).toInt : ℝ) : EReal) = 1
    rw [show (BitVec.setWidth 32 (BitVec.ofBool true)).toInt = 1 from by decide]
    norm_num
  · rw [decide_eq_false h, if_neg h]
    show (((BitVec.setWidth 32 (BitVec.ofBool false)).toInt : ℝ) : EReal) = 0
    rw [show (BitVec.setWidth 32 (BitVec.ofBool false)).toInt = 0 from by decide]
    norm_num

theorem word_eq (n r : ℕ) (h : n + r < 4160) : word (BitVec.ofNat 32 n) r = valid (n + r) := by
  have hw : IntOp.addi (BitVec.ofNat 32 n) (BitVec.ofNat 32 r) = BitVec.ofNat 32 (n + r) := by
    show _ + _ = _
    rw [BitVec.ofNat_add]
  unfold word valid
  rw [hw, mask_eq _ h, Nat.mod_eq_of_lt h]

/-- The reference's mask of a row. -/
theorem row_eq (n : ℕ) : FloatOps.uitofp (F := Ideal) FTy.f32 (IntOp.cmpi .sge (BitVec.ofNat 32 (n % 4160)) 48#32) = valid n := by
  unfold valid
  rw [bit_eq _ (Nat.mod_lt _ (by decide))]
  by_cases hr : 48 ≤ n % 4160
  · rw [decide_eq_true hr, if_pos hr]
    show (((BitVec.ofBool true).toNat : ℝ) : EReal) = 1
    rw [show (BitVec.ofBool true).toNat = 1 from rfl]
    norm_num
  · rw [decide_eq_false hr, if_neg hr]
    show (((BitVec.ofBool false).toNat : ℝ) : EReal) = 0
    rw [show (BitVec.ofBool false).toNat = 0 from rfl]
    norm_num

end Cert.RowMask
end
-- ==== Proof.OutValue.lean ====
module

public import proofs.«01_k».proof.Proof.Gen.OutIdeal.Value
public import Idealize.ShloMosaic.Lib.Pointwise
public import Idealize.ShloMosaic.Lib.Pipeline.ValueKit
public import proofs.«01_k».proof.Proof.RowMask

/-!
The value of the dense feed-forward's down call on the reals: after the run the output holds, at every row and column, the residual
plus the product of that row with the weight, the product being left out on the padding rows.
-/

@[expose] public section

set_option maxRecDepth 16384

noncomputable section
namespace Cert.OutRun

open Cert.OutIdeal Cert.OutIdeal.Gen
open Idealize.ShloMosaic Idealize.ShloMosaic.TcCoe Idealize.SL.Sem
open Idealize.ShloMosaic.Pipeline (Dat Cfg Window)
open Cert.RowMask (valid word rem word_eq)

theorem pay1_at (i : grid0.Coords) (x : Vec Ideal S320x5632 .bf16) (w : Vec Ideal S5632x2048 .bf16) (h : Vec Ideal S320x2048 .f32)
    (r : Fin 320) (q : Fin 2048) :
    k0_pay1 i x w h (ix2 r q) = h (ix2 r q) + (∑ k : Fin 5632, x (ix2 r k) * w (ix2 k q))
      * word (rem (Scalar.muli (BitVec.ofNat 32 (i 0).val) 320#32)) r.val := by
  pointwise [k0_pay1]
  rfl

theorem first_eq : ∀ t : Fin grid0.N, rem (Scalar.muli (BitVec.ofNat 32 (grid0.coords t 0).val) 320#32) = BitVec.ofNat 32 (t.val % 13 * 320) := by
  decide +kernel

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

variable (m : (ℓ : Loc nD τ sig) → Buf (Elt Ideal) ℓ)

/-! ## The blocks of the arguments -/

theorem x_at (c : Dev nD) (t : Fin cfg0.N) (r : Fin 320) (k : Fin 5632) (R : Fin 8320) (hR : R.val = t.val * 320 + r.val) :
    iblk m c 0 t (ix2 r k) = m ((c.tc : Thread nD τ).loc main_arg0) (ix2 R k) := by
  obtain ⟨e0, e1⟩ := index0 t
  refine Eq.trans (congrArg (V m c main_arg0) (funext fun a => Fin.ext ?_)) (congrFun (V_main_arg0 m c) (ix2 R k))
  refine (Pipeline.Window.rect_emb_val win0_0 t _ a).trans ?_
  match a with
  | ⟨0, _⟩ => show win0_0.index t 0 * 320 + r.val = R.val; rw [e0, hR]
  | ⟨1, _⟩ => show win0_0.index t 1 * 5632 + k.val = k.val; rw [e1]; omega

theorem host_w (c : Dev nD) : V m c main_v0 = m ((c.tc : Thread nD τ).loc main_arg1) := by
  show StableHlo.after hostOps0 (fun b => m (c, b)) main_v0 = _
  unfold hostOps0
  after_results <;> rfl

theorem w_at (c : Dev nD) (t : Fin cfg0.N) (k : Fin 5632) (q : Fin 2048) :
    iblk m c 1 t (ix2 k q) = m ((c.tc : Thread nD τ).loc main_arg1) (ix2 k q) := by
  obtain ⟨e0, e1⟩ := index1 t
  refine Eq.trans (congrArg (V m c main_v0) (funext fun a => Fin.ext ?_)) (congrFun (host_w m c) (ix2 k q))
  refine (Pipeline.Window.rect_emb_val win0_1 t _ a).trans ?_
  match a with
  | ⟨0, _⟩ => show win0_1.index t 0 * 5632 + k.val = k.val; rw [e0]; omega
  | ⟨1, _⟩ => show win0_1.index t 1 * 2048 + q.val = q.val; rw [e1]; omega

theorem h_at (c : Dev nD) (t : Fin cfg0.N) (r : Fin 320) (q : Fin 2048) (R : Fin 8320) (hR : R.val = t.val * 320 + r.val) :
    iblk m c 2 t (ix2 r q) = m ((c.tc : Thread nD τ).loc main_arg2) (ix2 R q) := by
  obtain ⟨e0, e1⟩ := index2 t
  refine Eq.trans (congrArg (V m c main_arg2) (funext fun a => Fin.ext ?_)) (congrFun (V_main_arg2 m c) (ix2 R q))
  refine (Pipeline.Window.rect_emb_val win0_2 t _ a).trans ?_
  match a with
  | ⟨0, _⟩ => show win0_2.index t 0 * 320 + r.val = R.val; rw [e0, hR]
  | ⟨1, _⟩ => show win0_2.index t 1 * 2048 + q.val = q.val; rw [e1]; omega

/-! ## The output -/

/-- The output at row `R` and column `q`. -/
def at_ (x : (⟨2, ![8320, 5632]⟩ : Shape).Idx → EReal) (w : (⟨2, ![5632, 2048]⟩ : Shape).Idx → EReal) (h : (⟨2, ![8320, 2048]⟩ : Shape).Idx → EReal)
    (R : Fin 8320) (q : Fin 2048) : EReal :=
  h (ix2 R q) + (∑ k : Fin 5632, x (ix2 R k) * w (ix2 k q)) * valid R.val

/-- The output array of the run. -/
def G (c : Dev nD) : S8320x2048.Idx → Elt Ideal .f32 := fun i =>
  at_ (m ((c.tc : Thread nD τ).loc main_arg0)) (m ((c.tc : Thread nD τ).loc main_arg1)) (m ((c.tc : Thread nD τ).loc main_arg2)) (i 0) (i 1)

theorem block_at (c : Dev nD) (t : Fin cfg0.N) (r : Fin 320) (q : Fin 2048) (R : Fin 8320) (hR : R.val = t.val * 320 + r.val) :
    out0_3 (grid0.coords t) (iblk m c 0 t) (iblk m c 1 t) (iblk m c 2 t) (ix2 r q)
      = at_ (m ((c.tc : Thread nD τ).loc main_arg0)) (m ((c.tc : Thread nD τ).loc main_arg1)) (m ((c.tc : Thread nD τ).loc main_arg2)) R q := by
  unfold out0_3
  rw [View.canon_cons_unit_lit _ _ _ (by decide)]
  rw [View.ld_unit_lit _ _ (by decide), View.ld_unit_lit _ _ (by decide), View.ld_unit_lit _ _ (by decide), pay1_at, first_eq t]
  have hn : t.val % 13 * 320 + r.val < 4160 := by omega
  have hm : R.val % 4160 = t.val % 13 * 320 + r.val := by omega
  have hv : valid (t.val % 13 * 320 + r.val) = valid R.val := by
    unfold valid
    rw [hm, Nat.mod_eq_of_lt hn]
  rw [word_eq _ _ hn, hv]
  refine congrArg₂ (· + ·) (h_at m c t r q R hR) (Ideal.mul_congr (Finset.sum_congr rfl fun k _ => ?_) rfl)
  exact Ideal.mul_congr (x_at m c t r k R hR) (w_at m c t k q)

/-- The output's blocks cover the array. -/
theorem cover (i : S8320x2048.Idx) : ∃ t : Fin cfg0.N, (cfg0.win 3).flush t = true ∧ i ∈ ((cfg0.win 3).blk t).view.set := by
  have h0 : (i 0).val < 8320 := (i 0).isLt
  have h1 : (i 1).val < 2048 := (i 1).isLt
  have hN : cfg0.N = 26 := by show grid0.N = 26; decide +kernel
  let t : Fin cfg0.N := ⟨(i 0).val / 320, by rw [hN]; omega⟩
  obtain ⟨e0, e1⟩ := index3 t
  refine ⟨t, flush0_3 t, ?_⟩
  refine (Pipeline.Window.emb_mem_blk_iff (cfg0.win 3) t i rfl).mpr fun a => ?_
  match a with
  | ⟨0, _⟩ =>
    show win0_3.index t 0 * 320 ≤ (i 0).val ∧ (i 0).val < win0_3.index t 0 * 320 + 320
    rw [e0]
    show (i 0).val / 320 * 320 ≤ (i 0).val ∧ (i 0).val < (i 0).val / 320 * 320 + 320
    omega
  | ⟨1, _⟩ =>
    show win0_3.index t 1 * 2048 ≤ (i 1).val ∧ (i 1).val < win0_3.index t 1 * 2048 + 2048
    rw [e1]
    omega

/-- What a point leaves in the output's block. -/
def outB (c : Dev nD) (t : Fin cfg0.N) : S320x2048.Idx → Elt Ideal .f32 := out0_3 (grid0.coords t) (iblk m c 0 t) (iblk m c 1 t) (iblk m c 2 t)

theorem outB_at (c : Dev nD) (t : Fin cfg0.N) (r : Fin 320) (q : Fin 2048) (R : Fin 8320) (f : Fin 2048) (hR : R.val = t.val * 320 + r.val)
    (hf : f.val = q.val) :
    outB m c t (ix2 r q)
      = at_ (m ((c.tc : Thread nD τ).loc main_arg0)) (m ((c.tc : Thread nD τ).loc main_arg1)) (m ((c.tc : Thread nD τ).loc main_arg2)) R f := by
  obtain rfl := Fin.ext hf
  exact block_at m c t r f R hR

theorem result_eq (c : Dev nD) : (dats m 0 c).arrAt 3 cfg0.N = G m c := by
  refine (dats m 0 c).arrAt_eq_of_emb (3 : Fin 4) (G m c) (fun t _ y => ?_) cover
  refine (congrFun (Value.flushed3 m c t) y).trans ?_
  show outB m c t y = G m c (((cfg0.win 3).rect t).emb y)
  have hy : (y : S320x2048.Idx) = ix2 (y 0) (y 1) := by
    funext a
    match a with
    | ⟨0, _⟩ => rfl
    | ⟨1, _⟩ => rfl
  have ev := fun a => Pipeline.Window.rect_emb_val (cfg0.win 3) t y a
  refine (congrArg (outB m c t) hy).trans (outB_at m c t (y 0) (y 1) _ _ ((ev 0).trans ?_) ((ev 1).trans ?_))
  · show win0_3.index t 0 * 320 + _ = _
    rw [(index3 t).1]
  · show win0_3.index t 1 * 2048 + _ = _
    rw [(index3 t).2, Nat.zero_mul, Nat.zero_add]

end Cert.OutRun
end
-- ==== Proof.OutRef.lean ====
module

public import proofs.«01_k».proof.Defs
public import proofs.«01_k».proof.Proof.Gen.RefOutIdeal.Run
public import proofs.«01_k».proof.Proof.OutValue

/-!
The dense feed-forward's down call: the reference's result at a row and a column, and the claims of the call.
-/

@[expose] public section

set_option maxRecDepth 16384

noncomputable section
namespace Cert.OutRef

open Cert.RefOutIdeal Cert.RefOutIdeal.Gen
open Idealize.ShloMosaic Idealize.ShloMosaic.TcCoe Idealize.ShloMosaic.StableHlo Idealize.SL.Sem
open Cert.OutRun (at_)
open Cert.RowMask (row_eq)

/-- The reference's result, of its three arguments. -/
def value (x : FVec Ideal S8320x5632 .bf16) (w : FVec Ideal S5632x2048 .f32) (h : FVec Ideal S8320x2048 .f32) : FVec Ideal S8320x2048 .f32 :=
  shapeCast _ (addf (shapeCast _ h shapeCasts_S8320x2048_S2x4160x2048)
    (mulf (shapeCast _ (Host.dotGeneral dot_S8320x5632_S5632x2048_S8320x2048_1_0_0_1_n_n none (extf .f32 x bitsLt_bf16_f32) w)
        shapeCasts_S8320x2048_S2x4160x2048)
      (broadcastInDim S2x4160x2048 ![0, 1, 2] bcast_S1x4160x1_S2x4160x2048_0_1_2 (uitofp .f32 (broadcastInDim S1x4160x1 ![1] bcast_S4160_S1x4160x1_1
        (cmpi .sge (iotaInDim S4160 32 0) (broadcastInDim S4160 ![] bcast_S_S4160 (constantI S_ 32 48#32)))))))) shapeCasts_S2x4160x2048_S8320x2048

theorem value_at (x : FVec Ideal S8320x5632 .bf16) (w : FVec Ideal S5632x2048 .f32) (h : FVec Ideal S8320x2048 .f32) (R : Fin 8320) (q : Fin 2048) :
    value x w h (ix2 R q) = at_ x w h R q := by
  pointwise [value, at_]
  exact congrArg₂ (· + ·) rfl (Ideal.mul_congr rfl (row_eq R.val))

theorem claim_reference : Cert.quiescent_RefOutIdeal (hRefOutIdeal := Cert.RefOutIdeal.Gen.facts) := by
  letI := Cert.RefOutIdeal.Gen.facts
  intro m g _
  exact (θ_run Cert.RefOutIdeal.defs _ _).mono (fun r h => ⟨fun c => (h c).2, Idealize.ShloMosaic.sem_eq_zero_of_no_sems (by decide) r.2⟩)
    (Cert.RefOutIdeal.Value.run m g)

/-- The kernel's output and the reference's are one array of the arguments. -/
theorem claim_value : Cert.algebraic_OutIdeal_RefOutIdeal (hOutIdeal := Cert.OutIdeal.Gen.facts) (hRefOutIdeal := Cert.RefOutIdeal.Gen.facts) := by
  letI := Cert.OutIdeal.Gen.facts
  letI := Cert.RefOutIdeal.Gen.facts
  intro m g m' g' _ hagree
  refine ⟨fun c => (Cert.OutIdeal.Gen.dats m 0 c).arrAt 3 Cert.OutIdeal.cfg0.N, Cert.OutIdeal.Value.run_blocks m g,
    (θ_run Cert.RefOutIdeal.defs _ _).mono (fun r h c => ⟨(h c).1.trans (funext fun i => ?_), (h c).2⟩) (Cert.RefOutIdeal.Value.run m' g')⟩
  obtain ⟨h0, h1, h2⟩ := hagree c
  have hi : i = ix2 (i 0) (i 1) := by
    funext a
    match a with
    | ⟨0, _⟩ => rfl
    | ⟨1, _⟩ => rfl
  rw [h0, h1, h2, hi]
  exact (value_at _ _ _ (i 0) (i 1)).trans (congrFun (Cert.OutRun.result_eq m c) (ix2 (i 0) (i 1))).symm

end Cert.OutRef
end
-- ==== Proof.EvenOutValue.lean ====
module

public import proofs.«01_k».proof.Proof.Gen.EvenOutIdeal.Value
public import Idealize.ShloMosaic.Lib.Pointwise
public import Idealize.ShloMosaic.Lib.Pipeline.ValueKit
public import proofs.«01_k».proof.Proof.RowMask

/-!
The value of the even mixer's output product on the reals: after the run the output holds, at every row and column, the residual
plus the product of that row's two parts with the two halves of the weight, the product being left out on the padding rows.
-/

@[expose] public section

set_option maxRecDepth 16384

noncomputable section
namespace Cert.EvenOutRun

open Cert.EvenOutIdeal Cert.EvenOutIdeal.Gen
open Idealize.ShloMosaic Idealize.ShloMosaic.TcCoe Idealize.SL.Sem
open Idealize.ShloMosaic.Pipeline (Dat Cfg Window)
open Cert.RowMask (valid word rem word_eq)

theorem pay1_at (i : grid0.Coords) (x : Vec Ideal S520x1024 .bf16) (w : Vec Ideal S1024x2048 .bf16) (y : Vec Ideal S520x1024 .bf16)
    (u : Vec Ideal S1024x2048 .bf16) (h : Vec Ideal S520x2048 .f32) (r : Fin 520) (q : Fin 2048) :
    k0_pay1 i x w y u h (ix2 r q) = h (ix2 r q)
      + ((∑ k : Fin 1024, x (ix2 r k) * w (ix2 k q)) + ∑ k : Fin 1024, y (ix2 r k) * u (ix2 k q))
      * word (rem (Scalar.muli (BitVec.ofNat 32 (i 0).val) 520#32)) r.val := by
  pointwise [k0_pay1]
  rfl

theorem first_eq : ∀ t : Fin grid0.N, rem (Scalar.muli (BitVec.ofNat 32 (grid0.coords t 0).val) 520#32) = BitVec.ofNat 32 (t.val % 8 * 520) := by
  decide +kernel

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel

variable (m : (ℓ : Loc nD τ sig) → Buf (Elt Ideal) ℓ)

/-! ## The blocks of the arguments -/

theorem x_at (c : Dev nD) (t : Fin cfg0.N) (r : Fin 520) (k : Fin 1024) (R : Fin 8320) (hR : R.val = t.val * 520 + r.val) :
    iblk m c 0 t (ix2 r k) = m ((c.tc : Thread nD τ).loc main_arg0) (ix2 R k) := by
  obtain ⟨e0, e1⟩ := index0 t
  refine Eq.trans (congrArg (V m c main_arg0) (funext fun a => Fin.ext ?_)) (congrFun (V_main_arg0 m c) (ix2 R k))
  refine (Pipeline.Window.rect_emb_val win0_0 t _ a).trans ?_
  match a with
  | ⟨0, _⟩ => show win0_0.index t 0 * 520 + r.val = R.val; rw [e0, hR]
  | ⟨1, _⟩ => show win0_0.index t 1 * 1024 + k.val = k.val; rw [e1]; omega

theorem y_at (c : Dev nD) (t : Fin cfg0.N) (r : Fin 520) (k : Fin 1024) (R : Fin 8320) (hR : R.val = t.val * 520 + r.val) :
    iblk m c 1 t (ix2 r k) = m ((c.tc : Thread nD τ).loc main_arg1) (ix2 R k) := by
  obtain ⟨e0, e1⟩ := index1 t
  refine Eq.trans (congrArg (V m c main_arg1) (funext fun a => Fin.ext ?_)) (congrFun (V_main_arg1 m c) (ix2 R k))
  refine (Pipeline.Window.rect_emb_val win0_1 t _ a).trans ?_
  match a with
  | ⟨0, _⟩ => show win0_1.index t 0 * 520 + r.val = R.val; rw [e0, hR]
  | ⟨1, _⟩ => show win0_1.index t 1 * 1024 + k.val = k.val; rw [e1]; omega

theorem host_w (c : Dev nD) : V m c main_v0 = m ((c.tc : Thread nD τ).loc main_arg2) := by
  show StableHlo.after hostOps0 (fun b => m (c, b)) main_v0 = _
  unfold hostOps0
  after_results <;> rfl

theorem w_at (c : Dev nD) (t : Fin cfg0.N) (k : Fin 2048) (q : Fin 2048) :
    iblk m c 2 t (ix2 k q) = m ((c.tc : Thread nD τ).loc main_arg2) (ix2 k q) := by
  obtain ⟨e0, e1⟩ := index2 t
  refine Eq.trans (congrArg (V m c main_v0) (funext fun a => Fin.ext ?_)) (congrFun (host_w m c) (ix2 k q))
  refine (Pipeline.Window.rect_emb_val win0_2 t _ a).trans ?_
  match a with
  | ⟨0, _⟩ => show win0_2.index t 0 * 2048 + k.val = k.val; rw [e0]; omega
  | ⟨1, _⟩ => show win0_2.index t 1 * 2048 + q.val = q.val; rw [e1]; omega

theorem h_at (c : Dev nD) (t : Fin cfg0.N) (r : Fin 520) (k : Fin 2048) (R : Fin 8320) (hR : R.val = t.val * 520 + r.val) :
    iblk m c 3 t (ix2 r k) = m ((c.tc : Thread nD τ).loc main_arg3) (ix2 R k) := by
  obtain ⟨e0, e1⟩ := index3 t
  refine Eq.trans (congrArg (V m c main_arg3) (funext fun a => Fin.ext ?_)) (congrFun (V_main_arg3 m c) (ix2 R k))
  refine (Pipeline.Window.rect_emb_val win0_3 t _ a).trans ?_
  match a with
  | ⟨0, _⟩ => show win0_3.index t 0 * 520 + r.val = R.val; rw [e0, hR]
  | ⟨1, _⟩ => show win0_3.index t 1 * 2048 + k.val = k.val; rw [e1]; omega

/-- A row of the weight's first half, read from the whole weight. -/
theorem top_at (w : Vec Ideal S2048x2048 .bf16) (k : Fin 1024) (q : Fin 2048) :
    View.ld (Val := Elt Ideal) w r0_1 (ix2 k q) = w (ix2 (Fin.castAdd 1024 k : Fin 2048) q) := by
  show w (r0_1.emb (ix2 k q)) = _
  refine congrArg w (funext fun a => Fin.ext ?_)
  match a with
  | ⟨0, _⟩ => show 0 + 1 * k.val = k.val; omega
  | ⟨1, _⟩ => show 0 + 1 * q.val = q.val; omega

theorem bottom_at (w : Vec Ideal S2048x2048 .bf16) (k : Fin 1024) (q : Fin 2048) :
    View.ld (Val := Elt Ideal) w r0_2 (ix2 k q) = w (ix2 (Fin.natAdd 1024 k : Fin 2048) q) := by
  show w (r0_2.emb (ix2 k q)) = _
  refine congrArg w (funext fun a => Fin.ext ?_)
  match a with
  | ⟨0, _⟩ => show 1024 + 1 * k.val = 1024 + k.val; omega
  | ⟨1, _⟩ => show 0 + 1 * q.val = q.val; omega

/-! ## The output -/

/-- The output at row `R` and column `q`. -/
def at_ (x y : (⟨2, ![8320, 1024]⟩ : Shape).Idx → EReal) (w : (⟨2, ![2048, 2048]⟩ : Shape).Idx → EReal) (h : (⟨2, ![8320, 2048]⟩ : Shape).Idx → EReal)
    (R : Fin 8320) (q : Fin 2048) : EReal :=
  h (ix2 R q) + ((∑ k : Fin 1024, x (ix2 R k) * w (ix2 (Fin.castAdd 1024 k : Fin 2048) q))
    + ∑ k : Fin 1024, y (ix2 R k) * w (ix2 (Fin.natAdd 1024 k : Fin 2048) q)) * valid R.val

/-- The output array of the run. -/
def G (c : Dev nD) : S8320x2048.Idx → Elt Ideal .f32 := fun i =>
  at_ (m ((c.tc : Thread nD τ).loc main_arg0)) (m ((c.tc : Thread nD τ).loc main_arg1)) (m ((c.tc : Thread nD τ).loc main_arg2)) (m ((c.tc : Thread nD τ).loc main_arg3)) (i 0) (i 1)

theorem block_at (c : Dev nD) (t : Fin cfg0.N) (r : Fin 520) (q : Fin 2048) (R : Fin 8320) (hR : R.val = t.val * 520 + r.val) :
    out0_4 (grid0.coords t) (iblk m c 0 t) (iblk m c 1 t) (iblk m c 2 t) (iblk m c 3 t) (ix2 r q)
      = at_ (m ((c.tc : Thread nD τ).loc main_arg0)) (m ((c.tc : Thread nD τ).loc main_arg1)) (m ((c.tc : Thread nD τ).loc main_arg2)) (m ((c.tc : Thread nD τ).loc main_arg3)) R q := by
  unfold out0_4
  rw [View.canon_cons_unit_lit _ _ _ (by decide)]
  rw [View.ld_unit_lit _ _ (by decide), View.ld_unit_lit _ _ (by decide), View.ld_unit_lit _ _ (by decide), pay1_at, first_eq t]
  have hn : t.val % 8 * 520 + r.val < 4160 := by omega
  have hm : R.val % 4160 = t.val % 8 * 520 + r.val := by omega
  have hv : valid (t.val % 8 * 520 + r.val) = valid R.val := by
    unfold valid
    rw [hm, Nat.mod_eq_of_lt hn]
  rw [word_eq _ _ hn, hv]
  refine congrArg₂ (· + ·) (h_at m c t r q R hR) (Ideal.mul_congr (congrArg₂ (· + ·) (Finset.sum_congr rfl fun k _ => ?_) (Finset.sum_congr rfl fun k _ => ?_)) rfl)
  · exact Ideal.mul_congr (x_at m c t r k R hR) ((top_at _ k q).trans (w_at m c t _ q))
  · exact Ideal.mul_congr (y_at m c t r k R hR) ((bottom_at _ k q).trans (w_at m c t _ q))

/-- The output's blocks cover the array. -/
theorem cover (i : S8320x2048.Idx) : ∃ t : Fin cfg0.N, (cfg0.win 4).flush t = true ∧ i ∈ ((cfg0.win 4).blk t).view.set := by
  have h0 : (i 0).val < 8320 := (i 0).isLt
  have h1 : (i 1).val < 2048 := (i 1).isLt
  have hN : cfg0.N = 16 := by show grid0.N = 16; decide +kernel
  let t : Fin cfg0.N := ⟨(i 0).val / 520, by rw [hN]; omega⟩
  obtain ⟨e0, e1⟩ := index4 t
  refine ⟨t, flush0_4 t, ?_⟩
  refine (Pipeline.Window.emb_mem_blk_iff (cfg0.win 4) t i rfl).mpr fun a => ?_
  match a with
  | ⟨0, _⟩ =>
    show win0_4.index t 0 * 520 ≤ (i 0).val ∧ (i 0).val < win0_4.index t 0 * 520 + 520
    rw [e0]
    show (i 0).val / 520 * 520 ≤ (i 0).val ∧ (i 0).val < (i 0).val / 520 * 520 + 520
    omega
  | ⟨1, _⟩ =>
    show win0_4.index t 1 * 2048 ≤ (i 1).val ∧ (i 1).val < win0_4.index t 1 * 2048 + 2048
    rw [e1]
    omega

/-- What a point leaves in the output's block. -/
def outB (c : Dev nD) (t : Fin cfg0.N) : S520x2048.Idx → Elt Ideal .f32 := out0_4 (grid0.coords t) (iblk m c 0 t) (iblk m c 1 t) (iblk m c 2 t) (iblk m c 3 t)

theorem outB_at (c : Dev nD) (t : Fin cfg0.N) (r : Fin 520) (q : Fin 2048) (R : Fin 8320) (f : Fin 2048) (hR : R.val = t.val * 520 + r.val)
    (hf : f.val = q.val) :
    outB m c t (ix2 r q)
      = at_ (m ((c.tc : Thread nD τ).loc main_arg0)) (m ((c.tc : Thread nD τ).loc main_arg1)) (m ((c.tc : Thread nD τ).loc main_arg2)) (m ((c.tc : Thread nD τ).loc main_arg3)) R f := by
  obtain rfl := Fin.ext hf
  exact block_at m c t r f R hR

theorem result_eq (c : Dev nD) : (dats m 0 c).arrAt 4 cfg0.N = G m c := by
  refine (dats m 0 c).arrAt_eq_of_emb (4 : Fin 5) (G m c) (fun t _ y => ?_) cover
  refine (congrFun (Value.flushed4 m c t) y).trans ?_
  show outB m c t y = G m c (((cfg0.win 4).rect t).emb y)
  have hy : (y : S520x2048.Idx) = ix2 (y 0) (y 1) := by
    funext a
    match a with
    | ⟨0, _⟩ => rfl
    | ⟨1, _⟩ => rfl
  have ev := fun a => Pipeline.Window.rect_emb_val (cfg0.win 4) t y a
  refine (congrArg (outB m c t) hy).trans (outB_at m c t (y 0) (y 1) _ _ ((ev 0).trans ?_) ((ev 1).trans ?_))
  · show win0_4.index t 0 * 520 + _ = _
    rw [(index4 t).1]
  · show win0_4.index t 1 * 2048 + _ = _
    rw [(index4 t).2, Nat.zero_mul, Nat.zero_add]

end Cert.EvenOutRun
end
-- ==== Proof.EvenOutRef.lean ====
module

public import proofs.«01_k».proof.Defs
public import proofs.«01_k».proof.Proof.Gen.RefEvenIdeal.Run
public import proofs.«01_k».proof.Proof.EvenOutValue

/-!
The even mixer's output product: the reference's result at a row and a column, and the claims of the call.
-/

@[expose] public section

set_option maxRecDepth 16384

noncomputable section
namespace Cert.EvenOutRef

open Cert.RefEvenIdeal Cert.RefEvenIdeal.Gen
open Idealize.ShloMosaic Idealize.ShloMosaic.TcCoe Idealize.ShloMosaic.StableHlo Idealize.SL.Sem
open Cert.EvenOutRun (at_)
open Cert.RowMask (row_eq)

/-- The reference's result, of its four arguments. -/
def value (x y : FVec Ideal S8320x1024 .bf16) (w : FVec Ideal S2048x2048 .f32) (h : FVec Ideal S8320x2048 .f32) : FVec Ideal S8320x2048 .f32 :=
  shapeCast _ (addf (shapeCast _ h shapeCasts_S8320x2048_S2x4160x2048)
    (mulf (shapeCast _ (Host.dotGeneral dot_S8320x2048_S2048x2048_S8320x2048_1_0_0_1_n_n none
          (extf .f32 (concatenate S8320x2048 1 [⟨S8320x1024, x⟩, ⟨S8320x1024, y⟩] concatenates_S8320x1024_S8320x1024_S8320x2048_d1) bitsLt_bf16_f32) w)
        shapeCasts_S8320x2048_S2x4160x2048)
      (broadcastInDim S2x4160x2048 ![0, 1, 2] bcast_S1x4160x1_S2x4160x2048_0_1_2 (uitofp .f32 (broadcastInDim S1x4160x1 ![1] bcast_S4160_S1x4160x1_1
        (cmpi .sge (iotaInDim S4160 32 0) (broadcastInDim S4160 ![] bcast_S_S4160 (constantI S_ 32 48#32)))))))) shapeCasts_S2x4160x2048_S8320x2048

theorem value_at (x y : FVec Ideal S8320x1024 .bf16) (w : FVec Ideal S2048x2048 .f32) (h : FVec Ideal S8320x2048 .f32) (R : Fin 8320) (q : Fin 2048) :
    value x y w h (ix2 R q) = at_ x y w h R q := by
  pointwise [value, at_]
  refine congrArg₂ (· + ·) rfl (Ideal.mul_congr ?_ (row_eq R.val))
  rfl

theorem claim_reference : Cert.quiescent_RefEvenIdeal (hRefEvenIdeal := Cert.RefEvenIdeal.Gen.facts) := by
  letI := Cert.RefEvenIdeal.Gen.facts
  intro m g _
  exact (θ_run Cert.RefEvenIdeal.defs _ _).mono (fun r h => ⟨fun c => (h c).2, Idealize.ShloMosaic.sem_eq_zero_of_no_sems (by decide) r.2⟩)
    (Cert.RefEvenIdeal.Value.run m g)

/-- The kernel's output and the reference's are one array of the arguments. -/
theorem claim_value : Cert.algebraic_EvenOutIdeal_RefEvenIdeal (hEvenOutIdeal := Cert.EvenOutIdeal.Gen.facts) (hRefEvenIdeal := Cert.RefEvenIdeal.Gen.facts) := by
  letI := Cert.EvenOutIdeal.Gen.facts
  letI := Cert.RefEvenIdeal.Gen.facts
  intro m g m' g' _ hagree
  refine ⟨fun c => (Cert.EvenOutIdeal.Gen.dats m 0 c).arrAt 4 Cert.EvenOutIdeal.cfg0.N, Cert.EvenOutIdeal.Value.run_blocks m g,
    (θ_run Cert.RefEvenIdeal.defs _ _).mono (fun r h c => ⟨(h c).1.trans (funext fun i => ?_), (h c).2⟩) (Cert.RefEvenIdeal.Value.run m' g')⟩
  obtain ⟨h0, h1, h2, h3⟩ := hagree c
  have hi : i = ix2 (i 0) (i 1) := by
    funext a
    match a with
    | ⟨0, _⟩ => rfl
    | ⟨1, _⟩ => rfl
  rw [h0, h1, h2, h3, hi]
  exact (value_at _ _ _ _ (i 0) (i 1)).trans (congrFun (Cert.EvenOutRun.result_eq m c) (ix2 (i 0) (i 1))).symm

end Cert.EvenOutRef
end
-- ==== Proof.SsdOutValue.lean ====
module

public import proofs.«01_k».proof.Proof.Gen.SsdOutIdeal.Value
public import Idealize.ShloMosaic.Lib.Pointwise
public import Idealize.ShloMosaic.Lib.Pipeline.ValueKit
public import proofs.«01_k».proof.Proof.RowMask

/-!
The value of the SSD mixer's output product on the reals: after the run the output holds, at every row and column, the residual
plus the product of that row with the weight, the product being left out on the padding rows.
-/

@[expose] public section

set_option maxRecDepth 16384

noncomputable section
namespace Cert.SsdOutRun

open Cert.SsdOutIdeal Cert.SsdOutIdeal.Gen
open Idealize.ShloMosaic Idealize.ShloMosaic.TcCoe Idealize.SL.Sem
open Idealize.ShloMosaic.Pipeline (Dat Cfg Window)
open Cert.RowMask (valid word rem word_eq)

theorem pay1_at (i : grid0.Coords) (x : Vec Ideal S520x4096 .bf16) (w : Vec Ideal S4096x2048 .bf16) (h : Vec Ideal S520x2048 .f32)
    (r : Fin 520) (q : Fin 2048) :
    k0_pay1 i x w h (ix2 r q) = h (ix2 r q) + (∑ k : Fin 4096, x (ix2 r k) * w (ix2 k q))
      * word (rem (Scalar.muli (BitVec.ofNat 32 (i 0).val) 520#32)) r.val := by
  pointwise [k0_pay1]
  rfl

theorem first_eq : ∀ t : Fin grid0.N, rem (Scalar.muli (BitVec.ofNat 32 (grid0.coords t 0).val) 520#32) = BitVec.ofNat 32 (t.val % 8 * 520) := by
  decide +kernel

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel

variable (m : (ℓ : Loc nD τ sig) → Buf (Elt Ideal) ℓ)

/-! ## The blocks of the arguments -/

theorem x_at (c : Dev nD) (t : Fin cfg0.N) (r : Fin 520) (k : Fin 4096) (R : Fin 8320) (hR : R.val = t.val * 520 + r.val) :
    iblk m c 0 t (ix2 r k) = m ((c.tc : Thread nD τ).loc main_arg0) (ix2 R k) := by
  obtain ⟨e0, e1⟩ := index0 t
  refine Eq.trans (congrArg (V m c main_arg0) (funext fun a => Fin.ext ?_)) (congrFun (V_main_arg0 m c) (ix2 R k))
  refine (Pipeline.Window.rect_emb_val win0_0 t _ a).trans ?_
  match a with
  | ⟨0, _⟩ => show win0_0.index t 0 * 520 + r.val = R.val; rw [e0, hR]
  | ⟨1, _⟩ => show win0_0.index t 1 * 4096 + k.val = k.val; rw [e1]; omega

theorem host_w (c : Dev nD) : V m c main_v0 = m ((c.tc : Thread nD τ).loc main_arg1) := by
  show StableHlo.after hostOps0 (fun b => m (c, b)) main_v0 = _
  unfold hostOps0
  after_results <;> rfl

theorem w_at (c : Dev nD) (t : Fin cfg0.N) (k : Fin 4096) (q : Fin 2048) :
    iblk m c 1 t (ix2 k q) = m ((c.tc : Thread nD τ).loc main_arg1) (ix2 k q) := by
  obtain ⟨e0, e1⟩ := index1 t
  refine Eq.trans (congrArg (V m c main_v0) (funext fun a => Fin.ext ?_)) (congrFun (host_w m c) (ix2 k q))
  refine (Pipeline.Window.rect_emb_val win0_1 t _ a).trans ?_
  match a with
  | ⟨0, _⟩ => show win0_1.index t 0 * 4096 + k.val = k.val; rw [e0]; omega
  | ⟨1, _⟩ => show win0_1.index t 1 * 2048 + q.val = q.val; rw [e1]; omega

theorem h_at (c : Dev nD) (t : Fin cfg0.N) (r : Fin 520) (q : Fin 2048) (R : Fin 8320) (hR : R.val = t.val * 520 + r.val) :
    iblk m c 2 t (ix2 r q) = m ((c.tc : Thread nD τ).loc main_arg2) (ix2 R q) := by
  obtain ⟨e0, e1⟩ := index2 t
  refine Eq.trans (congrArg (V m c main_arg2) (funext fun a => Fin.ext ?_)) (congrFun (V_main_arg2 m c) (ix2 R q))
  refine (Pipeline.Window.rect_emb_val win0_2 t _ a).trans ?_
  match a with
  | ⟨0, _⟩ => show win0_2.index t 0 * 520 + r.val = R.val; rw [e0, hR]
  | ⟨1, _⟩ => show win0_2.index t 1 * 2048 + q.val = q.val; rw [e1]; omega

/-! ## The output -/

/-- The output at row `R` and column `q`. -/
def at_ (x : (⟨2, ![8320, 4096]⟩ : Shape).Idx → EReal) (w : (⟨2, ![4096, 2048]⟩ : Shape).Idx → EReal) (h : (⟨2, ![8320, 2048]⟩ : Shape).Idx → EReal)
    (R : Fin 8320) (q : Fin 2048) : EReal :=
  h (ix2 R q) + (∑ k : Fin 4096, x (ix2 R k) * w (ix2 k q)) * valid R.val

/-- The output array of the run. -/
def G (c : Dev nD) : S8320x2048.Idx → Elt Ideal .f32 := fun i =>
  at_ (m ((c.tc : Thread nD τ).loc main_arg0)) (m ((c.tc : Thread nD τ).loc main_arg1)) (m ((c.tc : Thread nD τ).loc main_arg2)) (i 0) (i 1)

theorem block_at (c : Dev nD) (t : Fin cfg0.N) (r : Fin 520) (q : Fin 2048) (R : Fin 8320) (hR : R.val = t.val * 520 + r.val) :
    out0_3 (grid0.coords t) (iblk m c 0 t) (iblk m c 1 t) (iblk m c 2 t) (ix2 r q)
      = at_ (m ((c.tc : Thread nD τ).loc main_arg0)) (m ((c.tc : Thread nD τ).loc main_arg1)) (m ((c.tc : Thread nD τ).loc main_arg2)) R q := by
  unfold out0_3
  rw [View.canon_cons_unit_lit _ _ _ (by decide)]
  rw [View.ld_unit_lit _ _ (by decide), View.ld_unit_lit _ _ (by decide), View.ld_unit_lit _ _ (by decide), pay1_at, first_eq t]
  have hn : t.val % 8 * 520 + r.val < 4160 := by omega
  have hm : R.val % 4160 = t.val % 8 * 520 + r.val := by omega
  have hv : valid (t.val % 8 * 520 + r.val) = valid R.val := by
    unfold valid
    rw [hm, Nat.mod_eq_of_lt hn]
  rw [word_eq _ _ hn, hv]
  refine congrArg₂ (· + ·) (h_at m c t r q R hR) (Ideal.mul_congr (Finset.sum_congr rfl fun k _ => ?_) rfl)
  exact Ideal.mul_congr (x_at m c t r k R hR) (w_at m c t k q)

/-- The output's blocks cover the array. -/
theorem cover (i : S8320x2048.Idx) : ∃ t : Fin cfg0.N, (cfg0.win 3).flush t = true ∧ i ∈ ((cfg0.win 3).blk t).view.set := by
  have h0 : (i 0).val < 8320 := (i 0).isLt
  have h1 : (i 1).val < 2048 := (i 1).isLt
  have hN : cfg0.N = 16 := by show grid0.N = 16; decide +kernel
  let t : Fin cfg0.N := ⟨(i 0).val / 520, by rw [hN]; omega⟩
  obtain ⟨e0, e1⟩ := index3 t
  refine ⟨t, flush0_3 t, ?_⟩
  refine (Pipeline.Window.emb_mem_blk_iff (cfg0.win 3) t i rfl).mpr fun a => ?_
  match a with
  | ⟨0, _⟩ =>
    show win0_3.index t 0 * 520 ≤ (i 0).val ∧ (i 0).val < win0_3.index t 0 * 520 + 520
    rw [e0]
    show (i 0).val / 520 * 520 ≤ (i 0).val ∧ (i 0).val < (i 0).val / 520 * 520 + 520
    omega
  | ⟨1, _⟩ =>
    show win0_3.index t 1 * 2048 ≤ (i 1).val ∧ (i 1).val < win0_3.index t 1 * 2048 + 2048
    rw [e1]
    omega

/-- What a point leaves in the output's block. -/
def outB (c : Dev nD) (t : Fin cfg0.N) : S520x2048.Idx → Elt Ideal .f32 := out0_3 (grid0.coords t) (iblk m c 0 t) (iblk m c 1 t) (iblk m c 2 t)

theorem outB_at (c : Dev nD) (t : Fin cfg0.N) (r : Fin 520) (q : Fin 2048) (R : Fin 8320) (f : Fin 2048) (hR : R.val = t.val * 520 + r.val)
    (hf : f.val = q.val) :
    outB m c t (ix2 r q)
      = at_ (m ((c.tc : Thread nD τ).loc main_arg0)) (m ((c.tc : Thread nD τ).loc main_arg1)) (m ((c.tc : Thread nD τ).loc main_arg2)) R f := by
  obtain rfl := Fin.ext hf
  exact block_at m c t r f R hR

theorem result_eq (c : Dev nD) : (dats m 0 c).arrAt 3 cfg0.N = G m c := by
  refine (dats m 0 c).arrAt_eq_of_emb (3 : Fin 4) (G m c) (fun t _ y => ?_) cover
  refine (congrFun (Value.flushed3 m c t) y).trans ?_
  show outB m c t y = G m c (((cfg0.win 3).rect t).emb y)
  have hy : (y : S520x2048.Idx) = ix2 (y 0) (y 1) := by
    funext a
    match a with
    | ⟨0, _⟩ => rfl
    | ⟨1, _⟩ => rfl
  have ev := fun a => Pipeline.Window.rect_emb_val (cfg0.win 3) t y a
  refine (congrArg (outB m c t) hy).trans (outB_at m c t (y 0) (y 1) _ _ ((ev 0).trans ?_) ((ev 1).trans ?_))
  · show win0_3.index t 0 * 520 + _ = _
    rw [(index3 t).1]
  · show win0_3.index t 1 * 2048 + _ = _
    rw [(index3 t).2, Nat.zero_mul, Nat.zero_add]

end Cert.SsdOutRun
end
-- ==== Proof.SsdOutRef.lean ====
module

public import proofs.«01_k».proof.Defs
public import proofs.«01_k».proof.Proof.Gen.RefSsdIdeal.Run
public import proofs.«01_k».proof.Proof.SsdOutValue

/-!
The SSD mixer's output product: the reference's result at a row and a column, and the claims of the call.
-/

@[expose] public section

set_option maxRecDepth 16384

noncomputable section
namespace Cert.SsdOutRef

open Cert.RefSsdIdeal Cert.RefSsdIdeal.Gen
open Idealize.ShloMosaic Idealize.ShloMosaic.TcCoe Idealize.ShloMosaic.StableHlo Idealize.SL.Sem
open Cert.SsdOutRun (at_)
open Cert.RowMask (row_eq)

/-- The reference's result, of its three arguments. -/
def value (x : FVec Ideal S8320x4096 .bf16) (w : FVec Ideal S4096x2048 .f32) (h : FVec Ideal S8320x2048 .f32) : FVec Ideal S8320x2048 .f32 :=
  shapeCast _ (addf (shapeCast _ h shapeCasts_S8320x2048_S2x4160x2048)
    (mulf (shapeCast _ (Host.dotGeneral dot_S8320x4096_S4096x2048_S8320x2048_1_0_0_1_n_n none (extf .f32 x bitsLt_bf16_f32) w)
        shapeCasts_S8320x2048_S2x4160x2048)
      (broadcastInDim S2x4160x2048 ![0, 1, 2] bcast_S1x4160x1_S2x4160x2048_0_1_2 (uitofp .f32 (broadcastInDim S1x4160x1 ![1] bcast_S4160_S1x4160x1_1
        (cmpi .sge (iotaInDim S4160 32 0) (broadcastInDim S4160 ![] bcast_S_S4160 (constantI S_ 32 48#32)))))))) shapeCasts_S2x4160x2048_S8320x2048

theorem value_at (x : FVec Ideal S8320x4096 .bf16) (w : FVec Ideal S4096x2048 .f32) (h : FVec Ideal S8320x2048 .f32) (R : Fin 8320) (q : Fin 2048) :
    value x w h (ix2 R q) = at_ x w h R q := by
  pointwise [value, at_]
  exact congrArg₂ (· + ·) rfl (Ideal.mul_congr rfl (row_eq R.val))

theorem claim_reference : Cert.quiescent_RefSsdIdeal (hRefSsdIdeal := Cert.RefSsdIdeal.Gen.facts) := by
  letI := Cert.RefSsdIdeal.Gen.facts
  intro m g _
  exact (θ_run Cert.RefSsdIdeal.defs _ _).mono (fun r h => ⟨fun c => (h c).2, Idealize.ShloMosaic.sem_eq_zero_of_no_sems (by decide) r.2⟩)
    (Cert.RefSsdIdeal.Value.run m g)

/-- The kernel's output and the reference's are one array of the arguments. -/
theorem claim_value : Cert.algebraic_SsdOutIdeal_RefSsdIdeal (hSsdOutIdeal := Cert.SsdOutIdeal.Gen.facts) (hRefSsdIdeal := Cert.RefSsdIdeal.Gen.facts) := by
  letI := Cert.SsdOutIdeal.Gen.facts
  letI := Cert.RefSsdIdeal.Gen.facts
  intro m g m' g' _ hagree
  refine ⟨fun c => (Cert.SsdOutIdeal.Gen.dats m 0 c).arrAt 3 Cert.SsdOutIdeal.cfg0.N, Cert.SsdOutIdeal.Value.run_blocks m g,
    (θ_run Cert.RefSsdIdeal.defs _ _).mono (fun r h c => ⟨(h c).1.trans (funext fun i => ?_), (h c).2⟩) (Cert.RefSsdIdeal.Value.run m' g')⟩
  obtain ⟨h0, h1, h2⟩ := hagree c
  have hi : i = ix2 (i 0) (i 1) := by
    funext a
    match a with
    | ⟨0, _⟩ => rfl
    | ⟨1, _⟩ => rfl
  rw [h0, h1, h2, hi]
  exact (value_at _ _ _ (i 0) (i 1)).trans (congrFun (Cert.SsdOutRun.result_eq m c) (ix2 (i 0) (i 1))).symm

end Cert.SsdOutRef
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.MlstmResult
public import proofs.«01_k».proof.Proof.MlstmRef
public import proofs.«01_k».proof.Proof.Gen.MoeUp
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.RefUpIdeal
public import proofs.«01_k».proof.Proof.Gen.RefUpIdeal.Run
public import proofs.«01_k».proof.Proof.Gen.MoeDown
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.RefDownIdeal
public import proofs.«01_k».proof.Proof.Gen.RefDownIdeal.Run
public import proofs.«01_k».proof.Proof.Gen.Pre_tables_up
public import proofs.«01_k».proof.Proof.Gen.Pre_tables_down
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.RefGluIdeal
public import proofs.«01_k».proof.Proof.Gen.RefGluIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.RefOutIdeal
public import proofs.«01_k».proof.Proof.Gen.RefOutIdeal.Run
public import proofs.«01_k».proof.Proof.MoeUpClaim
public import proofs.«01_k».proof.Proof.MoeDownClaim
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutIdeal.Value
public import proofs.«01_k».proof.Proof.Gen.RefEvenIdeal
public import proofs.«01_k».proof.Proof.Gen.RefEvenIdeal.Run
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.RefSsdIdeal
public import proofs.«01_k».proof.Proof.Gen.RefSsdIdeal.Run
public import proofs.«01_k».proof.Proof.GluRef
public import proofs.«01_k».proof.Proof.OutRef
public import proofs.«01_k».proof.Proof.EvenOutRef
public import proofs.«01_k».proof.Proof.SsdOutRef
public import Idealize.ShloMosaic.Lib.Claim
public import Idealize.ShloMosaic.Adequacy
public import Idealize.ShloMosaic.Init

@[expose] public section

set_option maxRecDepth 16384

noncomputable section

/-!
The certificate. The two mLSTM frames and the reference's are the generated runs; the value claim compares the two result arrays
element by element, each being the same function of the arguments (`Cert.Mlstm.out`). The claims of the experts' two calls are
proved in `MoeUpClaim` and `MoeDownClaim`, those of the dense feed-forward's two calls in `GluRef` and `OutRef`,
those of the two mixers' output products in `EvenOutRef` and `SsdOutRef`. All are put together here.
-/

namespace Cert.Proof

open Idealize.ShloMosaic Idealize.ShloMosaic.TcCoe Idealize.SL.Sem

/-- The two result arrays are one array. -/
theorem mlstm_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (i : Cert.KernelIdeal.S2x4160x1024.Idx) :
    Cert.ReferenceIdeal.Value.out_main_v80 (F := Ideal) (Cert.ReferenceIdeal.Value.STEP^[65] (StableHlo.entryContents Cert.ReferenceIdeal.Value.preI m' c)) i
      = Cert.KernelIdeal.Value.G7 m c i := by
  have e : ∃ (b : Fin 2) (r : Fin 4160) (x : Fin 1024), i = ix3 b r x := ⟨i 0, i 1, i 2, by
    funext a
    match a with
    | ⟨0, _⟩ => rfl
    | ⟨1, _⟩ => rfl
    | ⟨2, _⟩ => rfl⟩
  obtain ⟨b, r, x, rfl⟩ := e
  have hr : r.val = 64 * (⟨r.val / 64, by omega⟩ : Fin 65).val + (⟨r.val % 64, by omega⟩ : Fin 64).val := by
    show r.val = 64 * (r.val / 64) + r.val % 64
    omega
  have hx : x.val = 256 * (⟨x.val / 256, by omega⟩ : Fin 4).val + (⟨x.val % 256, by omega⟩ : Fin 256).val := by
    show x.val = 256 * (x.val / 256) + x.val % 256
    omega
  refine (Cert.Mlstm.Ref.result_at m' c b _ _ _ _ r x hr hx).trans
    (Eq.trans ?_ (Cert.Mlstm.result_at m c b _ _ _ _ r x hr hx).symm)
  unfold Cert.Mlstm.Ref.xs Cert.Mlstm.kx
  dsimp only [Cert.Mlstm.Ref.aP, Cert.Mlstm.Ref.aI, Cert.Mlstm.Ref.aF]
  rw [h0, h1, h2, h3]

theorem mlstm : Cert.algebraic_KernelIdeal_ReferenceIdeal (hKernelIdeal := Cert.KernelIdeal.Gen.facts) (hReferenceIdeal := Cert.ReferenceIdeal.Gen.facts) := by
  letI := Cert.KernelIdeal.Gen.facts
  letI := Cert.ReferenceIdeal.Gen.facts
  intro m g m' g' _ hagree
  refine ⟨fun c => Cert.KernelIdeal.Value.G7 m c, Cert.KernelIdeal.Value.run m g,
    (θ_run Cert.ReferenceIdeal.defs _ _).mono (fun r h c => ⟨(h c).1.trans (funext fun i => ?_), (h c).2⟩) (Cert.ReferenceIdeal.Value.run m' g')⟩
  obtain ⟨h0, h1, h2, h3⟩ := hagree c
  exact mlstm_eq m m' c h0 h1 h2 h3 i

theorem mlstm_reference : Cert.quiescent_ReferenceIdeal (hReferenceIdeal := Cert.ReferenceIdeal.Gen.facts) := by
  letI := Cert.ReferenceIdeal.Gen.facts
  intro m g _
  exact (θ_run Cert.ReferenceIdeal.defs _ _).mono (fun r h => ⟨fun c => (h c).2, Idealize.ShloMosaic.sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  Cert.MoeUp.Gen.facts, Cert.MoeUpIdeal.Gen.facts, Cert.RefUpIdeal.Gen.facts,
  Cert.MoeDown.Gen.facts, Cert.MoeDownIdeal.Gen.facts, Cert.RefDownIdeal.Gen.facts,
  Cert.Glu.Gen.facts, Cert.GluIdeal.Gen.facts, Cert.RefGluIdeal.Gen.facts,
  Cert.Out.Gen.facts, Cert.OutIdeal.Gen.facts, Cert.RefOutIdeal.Gen.facts,
  Cert.EvenOut.Gen.facts, Cert.EvenOutIdeal.Gen.facts, Cert.RefEvenIdeal.Gen.facts,
  Cert.SsdOut.Gen.facts, Cert.SsdOutIdeal.Gen.facts, Cert.RefSsdIdeal.Gen.facts,
  Cert.Pre_tables_up.Gen.facts, Cert.Pre_tables_down.Gen.facts,
  fun m g _ => Cert.Kernel.Gen.frame m g,
  fun m g _ => Cert.KernelIdeal.Gen.frame m g,
  mlstm_reference,
  up_frame, up_frame_ideal, up_reference, up_reference_pre,
  down_frame, down_frame_ideal, down_reference, down_reference_pre,
  fun m g _ => Cert.Glu.Gen.frame m g, fun m g _ => Cert.GluIdeal.Gen.frame m g, Cert.GluRef.claim_reference,
  fun m g _ => Cert.Out.Gen.frame m g, fun m g _ => Cert.OutIdeal.Gen.frame m g, Cert.OutRef.claim_reference,
  fun m g _ => Cert.EvenOut.Gen.frame m g, fun m g _ => Cert.EvenOutIdeal.Gen.frame m g, Cert.EvenOutRef.claim_reference,
  fun m g _ => Cert.SsdOut.Gen.frame m g, fun m g _ => Cert.SsdOutIdeal.Gen.frame m g, Cert.SsdOutRef.claim_reference,
  trivial, mlstm, trivial, up, trivial, down, trivial, Cert.GluRef.claim_value, trivial, Cert.OutRef.claim_value,
  trivial, Cert.EvenOutRef.claim_value, trivial, Cert.SsdOutRef.claim_value⟩

end Cert.Proof

end
